-- ==== Defs.lean ====
def Pre_Repack (m : (ℓ : Loc Cert.Repack.nD Cert.Repack.τ Cert.Repack.sig) → Buf (Elt Bits) ℓ) : Prop :=
  True

def Pre_RepackIdeal (m : (ℓ : Loc Cert.RepackIdeal.nD Cert.RepackIdeal.τ Cert.RepackIdeal.sig) → Buf (Elt Ideal) ℓ) : Prop :=
  True

def Pre_RepackRefIdeal (m : (ℓ : Loc Cert.RepackRefIdeal.nD Cert.RepackRefIdeal.τ Cert.RepackRefIdeal.sig) → Buf (Elt Ideal) ℓ) : Prop :=
  True

def Pre_Inner (m : (ℓ : Loc Cert.Inner.nD Cert.Inner.τ Cert.Inner.sig) → Buf (Elt Bits) ℓ) : Prop :=
  True

def Pre_InnerIdeal (m : (ℓ : Loc Cert.InnerIdeal.nD Cert.InnerIdeal.τ Cert.InnerIdeal.sig) → Buf (Elt Ideal) ℓ) : Prop :=
  True

def Pre_InnerRefIdeal (m : (ℓ : Loc Cert.InnerRefIdeal.nD Cert.InnerRefIdeal.τ Cert.InnerRefIdeal.sig) → Buf (Elt Ideal) ℓ) : Prop :=
  True

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_codes_above_least [hPre_codes_above_least : Cert.Pre_codes_above_least.Facts] (m : (ℓ : Loc Cert.SelectIdeal.nD Cert.SelectIdeal.τ Cert.SelectIdeal.sig) → Buf (Elt Ideal) ℓ) : Prop :=
  ∀ c : Dev Cert.SelectIdeal.nD,
    (Cert.Pre_codes_above_least.fn (F := Ideal) (m ((c.tc : Thread Cert.SelectIdeal.nD Cert.SelectIdeal.τ).loc Cert.SelectIdeal.main_arg0))) = (fun _ => 1#1)

def Pre_SelectRefIdeal (m : (ℓ : Loc Cert.SelectRefIdeal.nD Cert.SelectRefIdeal.τ Cert.SelectRefIdeal.sig) → Buf (Elt Ideal) ℓ) : Prop :=
  True

def Pre_SelectRefIdeal_codes_above_least [hPre_codes_above_least : Cert.Pre_codes_above_least.Facts] (m : (ℓ : Loc Cert.SelectRefIdeal.nD Cert.SelectRefIdeal.τ Cert.SelectRefIdeal.sig) → Buf (Elt Ideal) ℓ) : Prop :=
  ∀ c : Dev Cert.SelectRefIdeal.nD,
    (Cert.Pre_codes_above_least.fn (F := Ideal) (m ((c.tc : Thread Cert.SelectRefIdeal.nD Cert.SelectRefIdeal.τ).loc Cert.SelectRefIdeal.main_arg0))) = (fun _ => 1#1)

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateIdeal_finite_items [hPre_finite_items : Cert.Pre_finite_items.Facts] (m : (ℓ : Loc Cert.UpdateIdeal.nD Cert.UpdateIdeal.τ Cert.UpdateIdeal.sig) → Buf (Elt Ideal) ℓ) : Prop :=
  ∀ c : Dev Cert.UpdateIdeal.nD,
    (Cert.Pre_finite_items.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2))) = (fun _ => 1#1)

def Pre_UpdateRefIdeal (m : (ℓ : Loc Cert.UpdateRefIdeal.nD Cert.UpdateRefIdeal.τ Cert.UpdateRefIdeal.sig) → Buf (Elt Ideal) ℓ) : Prop :=
  True

def Pre_UpdateRefIdeal_finite_items [hPre_finite_items : Cert.Pre_finite_items.Facts] (m : (ℓ : Loc Cert.UpdateRefIdeal.nD Cert.UpdateRefIdeal.τ Cert.UpdateRefIdeal.sig) → Buf (Elt Ideal) ℓ) : Prop :=
  ∀ c : Dev Cert.UpdateRefIdeal.nD,
    (Cert.Pre_finite_items.fn (F := Ideal) (m ((c.tc : Thread Cert.UpdateRefIdeal.nD Cert.UpdateRefIdeal.τ).loc Cert.UpdateRefIdeal.main_arg0)) (m ((c.tc : Thread Cert.UpdateRefIdeal.nD Cert.UpdateRefIdeal.τ).loc Cert.UpdateRefIdeal.main_arg1)) (m ((c.tc : Thread Cert.UpdateRefIdeal.nD Cert.UpdateRefIdeal.τ).loc Cert.UpdateRefIdeal.main_arg2))) = (fun _ => 1#1)

def quiescent_Repack [hRepack : Cert.Repack.Facts] : Prop :=
  ∀ (m : (ℓ : Loc Cert.Repack.nD Cert.Repack.τ Cert.Repack.sig) → Buf (Elt Bits) ℓ) (g : Dev Cert.Repack.nD → PrngReg), Pre_Repack m →
    θ_run (Cert.Repack.defs (F := Bits)) (onTc (τ := Cert.Repack.τ) (Cert.Repack.main (F := Bits))) ⟨m, fun _ => 0, g⟩ (fun r => (∀ c : Dev Cert.Repack.nD,
      r.2.mem ((c.tc : Thread Cert.Repack.nD Cert.Repack.τ).loc Cert.Repack.main_arg0) = m ((c.tc : Thread Cert.Repack.nD Cert.Repack.τ).loc Cert.Repack.main_arg0))
      ∧ r.2.sem = fun _ => 0)

def quiescent_RepackIdeal [hRepackIdeal : Cert.RepackIdeal.Facts] : Prop :=
  ∀ (m : (ℓ : Loc Cert.RepackIdeal.nD Cert.RepackIdeal.τ Cert.RepackIdeal.sig) → Buf (Elt Ideal) ℓ) (g : Dev Cert.RepackIdeal.nD → PrngReg), Pre_RepackIdeal m →
    θ_run (Cert.RepackIdeal.defs (F := Ideal)) (onTc (τ := Cert.RepackIdeal.τ) (Cert.RepackIdeal.main (F := Ideal))) ⟨m, fun _ => 0, g⟩ (fun r => (∀ c : Dev Cert.RepackIdeal.nD,
      r.2.mem ((c.tc : Thread Cert.RepackIdeal.nD Cert.RepackIdeal.τ).loc Cert.RepackIdeal.main_arg0) = m ((c.tc : Thread Cert.RepackIdeal.nD Cert.RepackIdeal.τ).loc Cert.RepackIdeal.main_arg0))
      ∧ r.2.sem = fun _ => 0)

def quiescent_RepackRefIdeal [hRepackRefIdeal : Cert.RepackRefIdeal.Facts] : Prop :=
  ∀ (m : (ℓ : Loc Cert.RepackRefIdeal.nD Cert.RepackRefIdeal.τ Cert.RepackRefIdeal.sig) → Buf (Elt Ideal) ℓ) (g : Dev Cert.RepackRefIdeal.nD → PrngReg), Pre_RepackRefIdeal m →
    θ_run (Cert.RepackRefIdeal.defs (F := Ideal)) (onTc (τ := Cert.RepackRefIdeal.τ) (Cert.RepackRefIdeal.main (F := Ideal))) ⟨m, fun _ => 0, g⟩ (fun r => (∀ c : Dev Cert.RepackRefIdeal.nD,
      r.2.mem ((c.tc : Thread Cert.RepackRefIdeal.nD Cert.RepackRefIdeal.τ).loc Cert.RepackRefIdeal.main_arg0) = m ((c.tc : Thread Cert.RepackRefIdeal.nD Cert.RepackRefIdeal.τ).loc Cert.RepackRefIdeal.main_arg0))
      ∧ r.2.sem = fun _ => 0)

def quiescent_Inner [hInner : Cert.Inner.Facts] : Prop :=
  ∀ (m : (ℓ : Loc Cert.Inner.nD Cert.Inner.τ Cert.Inner.sig) → Buf (Elt Bits) ℓ) (g : Dev Cert.Inner.nD → PrngReg), Pre_Inner m →
    θ_run (Cert.Inner.defs (F := Bits)) (onTc (τ := Cert.Inner.τ) (Cert.Inner.main (F := Bits))) ⟨m, fun _ => 0, g⟩ (fun r => (∀ c : Dev Cert.Inner.nD,
      r.2.mem ((c.tc : Thread Cert.Inner.nD Cert.Inner.τ).loc Cert.Inner.main_arg0) = m ((c.tc : Thread Cert.Inner.nD Cert.Inner.τ).loc Cert.Inner.main_arg0)
      ∧ r.2.mem ((c.tc : Thread Cert.Inner.nD Cert.Inner.τ).loc Cert.Inner.main_arg1) = m ((c.tc : Thread Cert.Inner.nD Cert.Inner.τ).loc Cert.Inner.main_arg1))
      ∧ r.2.sem = fun _ => 0)

def quiescent_InnerIdeal [hInnerIdeal : Cert.InnerIdeal.Facts] : Prop :=
  ∀ (m : (ℓ : Loc Cert.InnerIdeal.nD Cert.InnerIdeal.τ Cert.InnerIdeal.sig) → Buf (Elt Ideal) ℓ) (g : Dev Cert.InnerIdeal.nD → PrngReg), Pre_InnerIdeal m →
    θ_run (Cert.InnerIdeal.defs (F := Ideal)) (onTc (τ := Cert.InnerIdeal.τ) (Cert.InnerIdeal.main (F := Ideal))) ⟨m, fun _ => 0, g⟩ (fun r => (∀ c : Dev Cert.InnerIdeal.nD,
      r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
      ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1))
      ∧ r.2.sem = fun _ => 0)

def quiescent_InnerRefIdeal [hInnerRefIdeal : Cert.InnerRefIdeal.Facts] : Prop :=
  ∀ (m : (ℓ : Loc Cert.InnerRefIdeal.nD Cert.InnerRefIdeal.τ Cert.InnerRefIdeal.sig) → Buf (Elt Ideal) ℓ) (g : Dev Cert.InnerRefIdeal.nD → PrngReg), Pre_InnerRefIdeal m →
    θ_run (Cert.InnerRefIdeal.defs (F := Ideal)) (onTc (τ := Cert.InnerRefIdeal.τ) (Cert.InnerRefIdeal.main (F := Ideal))) ⟨m, fun _ => 0, g⟩ (fun r => (∀ c : Dev Cert.InnerRefIdeal.nD,
      r.2.mem ((c.tc : Thread Cert.InnerRefIdeal.nD Cert.InnerRefIdeal.τ).loc Cert.InnerRefIdeal.main_arg0) = m ((c.tc : Thread Cert.InnerRefIdeal.nD Cert.InnerRefIdeal.τ).loc Cert.InnerRefIdeal.main_arg0)
      ∧ r.2.mem ((c.tc : Thread Cert.InnerRefIdeal.nD Cert.InnerRefIdeal.τ).loc Cert.InnerRefIdeal.main_arg1) = m ((c.tc : Thread Cert.InnerRefIdeal.nD Cert.InnerRefIdeal.τ).loc Cert.InnerRefIdeal.main_arg1))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def quiescent_SelectIdeal_pre_codes_above_least [hSelectIdeal : Cert.SelectIdeal.Facts] [hPre_codes_above_least : Cert.Pre_codes_above_least.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_codes_above_least m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def quiescent_SelectRefIdeal [hSelectRefIdeal : Cert.SelectRefIdeal.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0))
      ∧ r.2.sem = fun _ => 0)

def quiescent_SelectRefIdeal_pre_codes_above_least [hSelectRefIdeal : Cert.SelectRefIdeal.Facts] [hPre_codes_above_least : Cert.Pre_codes_above_least.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal_codes_above_least m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2))
      ∧ r.2.sem = fun _ => 0)

def quiescent_UpdateIdeal_pre_finite_items [hUpdateIdeal : Cert.UpdateIdeal.Facts] [hPre_finite_items : Cert.Pre_finite_items.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal_finite_items m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2))
      ∧ r.2.sem = fun _ => 0)

def quiescent_UpdateRefIdeal [hUpdateRefIdeal : Cert.UpdateRefIdeal.Facts] : Prop :=
  ∀ (m : (ℓ : Loc Cert.UpdateRefIdeal.nD Cert.UpdateRefIdeal.τ Cert.UpdateRefIdeal.sig) → Buf (Elt Ideal) ℓ) (g : Dev Cert.UpdateRefIdeal.nD → PrngReg), Pre_UpdateRefIdeal m →
    θ_run (Cert.UpdateRefIdeal.defs (F := Ideal)) (onTc (τ := Cert.UpdateRefIdeal.τ) (Cert.UpdateRefIdeal.main (F := Ideal))) ⟨m, fun _ => 0, g⟩ (fun r => (∀ c : Dev Cert.UpdateRefIdeal.nD,
      r.2.mem ((c.tc : Thread Cert.UpdateRefIdeal.nD Cert.UpdateRefIdeal.τ).loc Cert.UpdateRefIdeal.main_arg0) = m ((c.tc : Thread Cert.UpdateRefIdeal.nD Cert.UpdateRefIdeal.τ).loc Cert.UpdateRefIdeal.main_arg0)
      ∧ r.2.mem ((c.tc : Thread Cert.UpdateRefIdeal.nD Cert.UpdateRefIdeal.τ).loc Cert.UpdateRefIdeal.main_arg1) = m ((c.tc : Thread Cert.UpdateRefIdeal.nD Cert.UpdateRefIdeal.τ).loc Cert.UpdateRefIdeal.main_arg1)
      ∧ r.2.mem ((c.tc : Thread Cert.UpdateRefIdeal.nD Cert.UpdateRefIdeal.τ).loc Cert.UpdateRefIdeal.main_arg2) = m ((c.tc : Thread Cert.UpdateRefIdeal.nD Cert.UpdateRefIdeal.τ).loc Cert.UpdateRefIdeal.main_arg2))
      ∧ r.2.sem = fun _ => 0)

def quiescent_UpdateRefIdeal_pre_finite_items [hUpdateRefIdeal : Cert.UpdateRefIdeal.Facts] [hPre_finite_items : Cert.Pre_finite_items.Facts] : Prop :=
  ∀ (m : (ℓ : Loc Cert.UpdateRefIdeal.nD Cert.UpdateRefIdeal.τ Cert.UpdateRefIdeal.sig) → Buf (Elt Ideal) ℓ) (g : Dev Cert.UpdateRefIdeal.nD → PrngReg), Pre_UpdateRefIdeal_finite_items m →
    θ_run (Cert.UpdateRefIdeal.defs (F := Ideal)) (onTc (τ := Cert.UpdateRefIdeal.τ) (Cert.UpdateRefIdeal.main (F := Ideal))) ⟨m, fun _ => 0, g⟩ (fun r => (∀ c : Dev Cert.UpdateRefIdeal.nD,
      r.2.mem ((c.tc : Thread Cert.UpdateRefIdeal.nD Cert.UpdateRefIdeal.τ).loc Cert.UpdateRefIdeal.main_arg0) = m ((c.tc : Thread Cert.UpdateRefIdeal.nD Cert.UpdateRefIdeal.τ).loc Cert.UpdateRefIdeal.main_arg0)
      ∧ r.2.mem ((c.tc : Thread Cert.UpdateRefIdeal.nD Cert.UpdateRefIdeal.τ).loc Cert.UpdateRefIdeal.main_arg1) = m ((c.tc : Thread Cert.UpdateRefIdeal.nD Cert.UpdateRefIdeal.τ).loc Cert.UpdateRefIdeal.main_arg1)
      ∧ r.2.mem ((c.tc : Thread Cert.UpdateRefIdeal.nD Cert.UpdateRefIdeal.τ).loc Cert.UpdateRefIdeal.main_arg2) = m ((c.tc : Thread Cert.UpdateRefIdeal.nD Cert.UpdateRefIdeal.τ).loc Cert.UpdateRefIdeal.main_arg2))
      ∧ r.2.sem = fun _ => 0)

def preserves_Repack_RepackIdeal : Prop :=
  True

def algebraic_RepackIdeal_RepackRefIdeal [hRepackIdeal : Cert.RepackIdeal.Facts] [hRepackRefIdeal : Cert.RepackRefIdeal.Facts] : Prop :=
  ∀ (m : (ℓ : Loc Cert.RepackIdeal.nD Cert.RepackIdeal.τ Cert.RepackIdeal.sig) → Buf (Elt Ideal) ℓ) (g : Dev Cert.RepackIdeal.nD → PrngReg)
    (m' : (ℓ : Loc Cert.RepackRefIdeal.nD Cert.RepackRefIdeal.τ Cert.RepackRefIdeal.sig) → Buf (Elt Ideal) ℓ) (g' : Dev Cert.RepackRefIdeal.nD → PrngReg), Pre_RepackIdeal m →
    (∀ c : Dev Cert.RepackIdeal.nD,
      m' ((c.tc : Thread Cert.RepackRefIdeal.nD Cert.RepackRefIdeal.τ).loc Cert.RepackRefIdeal.main_arg0) = m ((c.tc : Thread Cert.RepackIdeal.nD Cert.RepackIdeal.τ).loc Cert.RepackIdeal.main_arg0)) →
    ∃ (v0 : (c : Dev Cert.RepackIdeal.nD) → Buf (Elt Ideal) ((c.tc : Thread Cert.RepackIdeal.nD Cert.RepackIdeal.τ).loc Cert.RepackIdeal.main_v0_0)) (v1 : (c : Dev Cert.RepackIdeal.nD) → Buf (Elt Ideal) ((c.tc : Thread Cert.RepackIdeal.nD Cert.RepackIdeal.τ).loc Cert.RepackIdeal.main_v0_1)),
      θ_run (Cert.RepackIdeal.defs (F := Ideal)) (onTc (τ := Cert.RepackIdeal.τ) (Cert.RepackIdeal.main (F := Ideal))) ⟨m, fun _ => 0, g⟩ (fun r => ∀ c : Dev Cert.RepackIdeal.nD,
          r.2.mem ((c.tc : Thread Cert.RepackIdeal.nD Cert.RepackIdeal.τ).loc Cert.RepackIdeal.main_v0_0) = v0 c
          ∧ r.2.mem ((c.tc : Thread Cert.RepackIdeal.nD Cert.RepackIdeal.τ).loc Cert.RepackIdeal.main_v0_1) = v1 c
          ∧ r.2.mem ((c.tc : Thread Cert.RepackIdeal.nD Cert.RepackIdeal.τ).loc Cert.RepackIdeal.main_arg0) = m ((c.tc : Thread Cert.RepackIdeal.nD Cert.RepackIdeal.τ).loc Cert.RepackIdeal.main_arg0))
      ∧ θ_run (Cert.RepackRefIdeal.defs (F := Ideal)) (onTc (τ := Cert.RepackRefIdeal.τ) (Cert.RepackRefIdeal.main (F := Ideal))) ⟨m', fun _ => 0, g'⟩ (fun r => ∀ c : Dev Cert.RepackRefIdeal.nD,
          r.2.mem ((c.tc : Thread Cert.RepackRefIdeal.nD Cert.RepackRefIdeal.τ).loc Cert.RepackRefIdeal.main_v2) = v0 c
          ∧ r.2.mem ((c.tc : Thread Cert.RepackRefIdeal.nD Cert.RepackRefIdeal.τ).loc Cert.RepackRefIdeal.main_v4) = v1 c
          ∧ r.2.mem ((c.tc : Thread Cert.RepackRefIdeal.nD Cert.RepackRefIdeal.τ).loc Cert.RepackRefIdeal.main_arg0) = m' ((c.tc : Thread Cert.RepackRefIdeal.nD Cert.RepackRefIdeal.τ).loc Cert.RepackRefIdeal.main_arg0))

def preserves_Inner_InnerIdeal : Prop :=
  True

def algebraic_InnerIdeal_InnerRefIdeal [hInnerIdeal : Cert.InnerIdeal.Facts] [hInnerRefIdeal : Cert.InnerRefIdeal.Facts] : Prop :=
  ∀ (m : (ℓ : Loc Cert.InnerIdeal.nD Cert.InnerIdeal.τ Cert.InnerIdeal.sig) → Buf (Elt Ideal) ℓ) (g : Dev Cert.InnerIdeal.nD → PrngReg)
    (m' : (ℓ : Loc Cert.InnerRefIdeal.nD Cert.InnerRefIdeal.τ Cert.InnerRefIdeal.sig) → Buf (Elt Ideal) ℓ) (g' : Dev Cert.InnerRefIdeal.nD → PrngReg), Pre_InnerIdeal m →
    (∀ c : Dev Cert.InnerIdeal.nD,
      m' ((c.tc : Thread Cert.InnerRefIdeal.nD Cert.InnerRefIdeal.τ).loc Cert.InnerRefIdeal.main_arg0) = m ((c.tc : Thread Cert.InnerIdeal.nD Cert.InnerIdeal.τ).loc Cert.InnerIdeal.main_arg0)
      ∧ m' ((c.tc : Thread Cert.InnerRefIdeal.nD Cert.InnerRefIdeal.τ).loc Cert.InnerRefIdeal.main_arg1) = m ((c.tc : Thread Cert.InnerIdeal.nD Cert.InnerIdeal.τ).loc Cert.InnerIdeal.main_arg1)) →
    ∃ (v0 : (c : Dev Cert.InnerIdeal.nD) → Buf (Elt Ideal) ((c.tc : Thread Cert.InnerIdeal.nD Cert.InnerIdeal.τ).loc Cert.InnerIdeal.main_v0)),
      θ_run (Cert.InnerIdeal.defs (F := Ideal)) (onTc (τ := Cert.InnerIdeal.τ) (Cert.InnerIdeal.main (F := Ideal))) ⟨m, fun _ => 0, g⟩ (fun r => ∀ c : Dev Cert.InnerIdeal.nD,
          r.2.mem ((c.tc : Thread Cert.InnerIdeal.nD Cert.InnerIdeal.τ).loc Cert.InnerIdeal.main_v0) = v0 c
          ∧ r.2.mem ((c.tc : Thread Cert.InnerIdeal.nD Cert.InnerIdeal.τ).loc Cert.InnerIdeal.main_arg0) = m ((c.tc : Thread Cert.InnerIdeal.nD Cert.InnerIdeal.τ).loc Cert.InnerIdeal.main_arg0)
          ∧ r.2.mem ((c.tc : Thread Cert.InnerIdeal.nD Cert.InnerIdeal.τ).loc Cert.InnerIdeal.main_arg1) = m ((c.tc : Thread Cert.InnerIdeal.nD Cert.InnerIdeal.τ).loc Cert.InnerIdeal.main_arg1))
      ∧ θ_run (Cert.InnerRefIdeal.defs (F := Ideal)) (onTc (τ := Cert.InnerRefIdeal.τ) (Cert.InnerRefIdeal.main (F := Ideal))) ⟨m', fun _ => 0, g'⟩ (fun r => ∀ c : Dev Cert.InnerRefIdeal.nD,
          r.2.mem ((c.tc : Thread Cert.InnerRefIdeal.nD Cert.InnerRefIdeal.τ).loc Cert.InnerRefIdeal.main_v5) = v0 c
          ∧ r.2.mem ((c.tc : Thread Cert.InnerRefIdeal.nD Cert.InnerRefIdeal.τ).loc Cert.InnerRefIdeal.main_arg0) = m' ((c.tc : Thread Cert.InnerRefIdeal.nD Cert.InnerRefIdeal.τ).loc Cert.InnerRefIdeal.main_arg0)
          ∧ r.2.mem ((c.tc : Thread Cert.InnerRefIdeal.nD Cert.InnerRefIdeal.τ).loc Cert.InnerRefIdeal.main_arg1) = m' ((c.tc : Thread Cert.InnerRefIdeal.nD Cert.InnerRefIdeal.τ).loc Cert.InnerRefIdeal.main_arg1))

def preserves_Select_SelectIdeal : Prop :=
  True

def algebraic_SelectIdeal_SelectRefIdeal_pre_codes_above_least [hSelectIdeal : Cert.SelectIdeal.Facts] [hSelectRefIdeal : Cert.SelectRefIdeal.Facts] [hPre_codes_above_least : Cert.Pre_codes_above_least.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectRefIdeal.nD Cert.SelectRefIdeal.τ Cert.SelectRefIdeal.sig) → Buf (Elt Ideal) ℓ) (g' : Dev Cert.SelectRefIdeal.nD → PrngReg), Pre_SelectIdeal_codes_above_least m →
    (∀ c : Dev Cert.SelectIdeal.nD,
      m' ((c.tc : Thread Cert.SelectRefIdeal.nD Cert.SelectRefIdeal.τ).loc Cert.SelectRefIdeal.main_arg0) = m ((c.tc : Thread Cert.SelectIdeal.nD Cert.SelectIdeal.τ).loc Cert.SelectIdeal.main_arg0)) →
    ∃ (v0 : (c : Dev Cert.SelectIdeal.nD) → Buf (Elt Ideal) ((c.tc : Thread Cert.SelectIdeal.nD Cert.SelectIdeal.τ).loc Cert.SelectIdeal.main_v3)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v3) = v0 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ θ_run (Cert.SelectRefIdeal.defs (F := Ideal)) (onTc (τ := Cert.SelectRefIdeal.τ) (Cert.SelectRefIdeal.main (F := Ideal))) ⟨m', fun _ => 0, g'⟩ (fun r => ∀ c : Dev Cert.SelectRefIdeal.nD,
          r.2.mem ((c.tc : Thread Cert.SelectRefIdeal.nD Cert.SelectRefIdeal.τ).loc Cert.SelectRefIdeal.main_v18) = v0 c
          ∧ r.2.mem ((c.tc : Thread Cert.SelectRefIdeal.nD Cert.SelectRefIdeal.τ).loc Cert.SelectRefIdeal.main_arg0) = m' ((c.tc : Thread Cert.SelectRefIdeal.nD Cert.SelectRefIdeal.τ).loc Cert.SelectRefIdeal.main_arg0))

def preserves_Update_UpdateIdeal : Prop :=
  True

def algebraic_UpdateIdeal_UpdateRefIdeal_pre_finite_items [hUpdateIdeal : Cert.UpdateIdeal.Facts] [hUpdateRefIdeal : Cert.UpdateRefIdeal.Facts] [hPre_finite_items : Cert.Pre_finite_items.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateRefIdeal.nD Cert.UpdateRefIdeal.τ Cert.UpdateRefIdeal.sig) → Buf (Elt Ideal) ℓ) (g' : Dev Cert.UpdateRefIdeal.nD → PrngReg), Pre_UpdateIdeal_finite_items m →
    (∀ c : Dev Cert.UpdateIdeal.nD,
      m' ((c.tc : Thread Cert.UpdateRefIdeal.nD Cert.UpdateRefIdeal.τ).loc Cert.UpdateRefIdeal.main_arg0) = m ((c.tc : Thread Cert.UpdateIdeal.nD Cert.UpdateIdeal.τ).loc Cert.UpdateIdeal.main_arg0)
      ∧ m' ((c.tc : Thread Cert.UpdateRefIdeal.nD Cert.UpdateRefIdeal.τ).loc Cert.UpdateRefIdeal.main_arg1) = m ((c.tc : Thread Cert.UpdateIdeal.nD Cert.UpdateIdeal.τ).loc Cert.UpdateIdeal.main_arg1)
      ∧ m' ((c.tc : Thread Cert.UpdateRefIdeal.nD Cert.UpdateRefIdeal.τ).loc Cert.UpdateRefIdeal.main_arg2) = m ((c.tc : Thread Cert.UpdateIdeal.nD Cert.UpdateIdeal.τ).loc Cert.UpdateIdeal.main_arg2)) →
    ∃ (v0 : (c : Dev Cert.UpdateIdeal.nD) → Buf (Elt Ideal) ((c.tc : Thread Cert.UpdateIdeal.nD Cert.UpdateIdeal.τ).loc Cert.UpdateIdeal.main_v1)) (v1 : (c : Dev Cert.UpdateIdeal.nD) → Buf (Elt Ideal) ((c.tc : Thread Cert.UpdateIdeal.nD Cert.UpdateIdeal.τ).loc Cert.UpdateIdeal.main_v2)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v1) = v0 c
          ∧ r.2.mem ((c.tc : Thread Cert.UpdateIdeal.nD Cert.UpdateIdeal.τ).loc Cert.UpdateIdeal.main_v2) = v1 c
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2))
      ∧ θ_run (Cert.UpdateRefIdeal.defs (F := Ideal)) (onTc (τ := Cert.UpdateRefIdeal.τ) (Cert.UpdateRefIdeal.main (F := Ideal))) ⟨m', fun _ => 0, g'⟩ (fun r => ∀ c : Dev Cert.UpdateRefIdeal.nD,
          r.2.mem ((c.tc : Thread Cert.UpdateRefIdeal.nD Cert.UpdateRefIdeal.τ).loc Cert.UpdateRefIdeal.main_v47) = v0 c
          ∧ r.2.mem ((c.tc : Thread Cert.UpdateRefIdeal.nD Cert.UpdateRefIdeal.τ).loc Cert.UpdateRefIdeal.main_v64) = v1 c
          ∧ r.2.mem ((c.tc : Thread Cert.UpdateRefIdeal.nD Cert.UpdateRefIdeal.τ).loc Cert.UpdateRefIdeal.main_arg0) = m' ((c.tc : Thread Cert.UpdateRefIdeal.nD Cert.UpdateRefIdeal.τ).loc Cert.UpdateRefIdeal.main_arg0)
          ∧ r.2.mem ((c.tc : Thread Cert.UpdateRefIdeal.nD Cert.UpdateRefIdeal.τ).loc Cert.UpdateRefIdeal.main_arg1) = m' ((c.tc : Thread Cert.UpdateRefIdeal.nD Cert.UpdateRefIdeal.τ).loc Cert.UpdateRefIdeal.main_arg1)
          ∧ r.2.mem ((c.tc : Thread Cert.UpdateRefIdeal.nD Cert.UpdateRefIdeal.τ).loc Cert.UpdateRefIdeal.main_arg2) = m' ((c.tc : Thread Cert.UpdateRefIdeal.nD Cert.UpdateRefIdeal.τ).loc Cert.UpdateRefIdeal.main_arg2))

def Claim : Prop :=
  ∃ (hRepack : Cert.Repack.Facts) (hRepackIdeal : Cert.RepackIdeal.Facts) (hRepackRefIdeal : Cert.RepackRefIdeal.Facts) (hInner : Cert.Inner.Facts) (hInnerIdeal : Cert.InnerIdeal.Facts) (hInnerRefIdeal : Cert.InnerRefIdeal.Facts) (hSelect : Cert.Select.Facts) (hSelectIdeal : Cert.SelectIdeal.Facts) (hSelectRefIdeal : Cert.SelectRefIdeal.Facts) (hUpdate : Cert.Update.Facts) (hUpdateIdeal : Cert.UpdateIdeal.Facts) (hUpdateRefIdeal : Cert.UpdateRefIdeal.Facts) (hPre_codes_above_least : Cert.Pre_codes_above_least.Facts) (hPre_finite_items : Cert.Pre_finite_items.Facts),
    quiescent_Repack (hRepack := hRepack)
    ∧ quiescent_RepackIdeal (hRepackIdeal := hRepackIdeal)
    ∧ quiescent_RepackRefIdeal (hRepackRefIdeal := hRepackRefIdeal)
    ∧ quiescent_Inner (hInner := hInner)
    ∧ quiescent_InnerIdeal (hInnerIdeal := hInnerIdeal)
    ∧ quiescent_InnerRefIdeal (hInnerRefIdeal := hInnerRefIdeal)
    ∧ quiescent_Select (hSelect := hSelect)
    ∧ quiescent_SelectIdeal (hSelectIdeal := hSelectIdeal)
    ∧ quiescent_SelectIdeal_pre_codes_above_least (hSelectIdeal := hSelectIdeal) (hPre_codes_above_least := hPre_codes_above_least)
    ∧ quiescent_SelectRefIdeal (hSelectRefIdeal := hSelectRefIdeal)
    ∧ quiescent_SelectRefIdeal_pre_codes_above_least (hSelectRefIdeal := hSelectRefIdeal) (hPre_codes_above_least := hPre_codes_above_least)
    ∧ quiescent_Update (hUpdate := hUpdate)
    ∧ quiescent_UpdateIdeal (hUpdateIdeal := hUpdateIdeal)
    ∧ quiescent_UpdateIdeal_pre_finite_items (hUpdateIdeal := hUpdateIdeal) (hPre_finite_items := hPre_finite_items)
    ∧ quiescent_UpdateRefIdeal (hUpdateRefIdeal := hUpdateRefIdeal)
    ∧ quiescent_UpdateRefIdeal_pre_finite_items (hUpdateRefIdeal := hUpdateRefIdeal) (hPre_finite_items := hPre_finite_items)
    ∧ preserves_Repack_RepackIdeal
    ∧ algebraic_RepackIdeal_RepackRefIdeal (hRepackIdeal := hRepackIdeal) (hRepackRefIdeal := hRepackRefIdeal)
    ∧ preserves_Inner_InnerIdeal
    ∧ algebraic_InnerIdeal_InnerRefIdeal (hInnerIdeal := hInnerIdeal) (hInnerRefIdeal := hInnerRefIdeal)
    ∧ preserves_Select_SelectIdeal
    ∧ algebraic_SelectIdeal_SelectRefIdeal_pre_codes_above_least (hSelectIdeal := hSelectIdeal) (hSelectRefIdeal := hSelectRefIdeal) (hPre_codes_above_least := hPre_codes_above_least)
    ∧ preserves_Update_UpdateIdeal
    ∧ algebraic_UpdateIdeal_UpdateRefIdeal_pre_finite_items (hUpdateIdeal := hUpdateIdeal) (hUpdateRefIdeal := hUpdateRefIdeal) (hPre_finite_items := hPre_finite_items)
-- ==== Pre_codes_above_least.lean ====
abbrev S125000x8 : Shape := ⟨2, ![125000, 8]⟩
abbrev S_ : Shape := ⟨0, ![]⟩

class Facts : Prop where
  bcast_S_S125000x8 : S_.BroadcastsInDim S125000x8 (![] : Fin 0 → Fin S125000x8.rank)
  reducesTo_S125000x8_S_d0_1 : S125000x8.ReducesTo [0, 1] S_
  h_S_ : 0 < S_.numel

variable [Facts]

def fn {F : FTy → Type} [FloatOps F] (main_arg0 : IVec S125000x8 32) : IVec S_ 1 :=
  let main_c : IVec S_ 32 := constantI S_ 32 2147483648#32
  let main_v0 : IVec S125000x8 32 := broadcastInDim S125000x8 ![] bcast_S_S125000x8 main_c
  let main_v1 : IVec S125000x8 1 := cmpi .sgt main_arg0 main_v0
  let main_c_0 : IVec S_ 1 := constantI S_ 1 1#1
  let main_v2 : IVec S_ 1 := (fun x v => Host.reduce IntOp.andi x v reducesTo_S125000x8_S_d0_1 h_S_) main_v1 main_c_0
  main_v2
-- ==== Pre_finite_items.lean ====
abbrev S125000x128 : Shape := ⟨2, ![125000, 128]⟩
abbrev S125000x8 : Shape := ⟨2, ![125000, 8]⟩
abbrev S60x16 : Shape := ⟨2, ![60, 16]⟩
abbrev S_ : Shape := ⟨0, ![]⟩

class Facts : Prop where
  bcast_S_S125000x128 : S_.BroadcastsInDim S125000x128 (![] : Fin 0 → Fin S125000x128.rank)
  reducesTo_S125000x128_S_d0_1 : S125000x128.ReducesTo [0, 1] S_
  h_S_ : 0 < S_.numel

variable [Facts]

def fn {F : FTy → Type} [FloatOps F] (main_arg0 : FVec F S125000x128 .f32) (main_arg1 : FVec F S125000x8 .f32) (main_arg2 : FVec F S60x16 .f32) : IVec S_ 1 :=
  let main_v0 : FVec F S125000x128 .f32 := Host.absf main_arg0
  let main_cst : FVec F S_ .f32 := constant S_ .f32 0x7F800000#32
  let main_v1 : FVec F S125000x128 .f32 := broadcastInDim S125000x128 ![] bcast_S_S125000x128 main_cst
  let main_v2 : IVec S125000x128 1 := cmpf .olt main_v0 main_v1
  let main_c : IVec S_ 1 := constantI S_ 1 1#1
  let main_v3 : IVec S_ 1 := (fun x v => Host.reduce IntOp.andi x v reducesTo_S125000x128_S_d0_1 h_S_) main_v2 main_c
  main_v3
-- ==== Repack.lean ====
abbrev S1000000x16 : Shape := ⟨2, ![1000000, 16]⟩
abbrev S125000x128 : Shape := ⟨2, ![125000, 128]⟩
abbrev S1x128 : Shape := ⟨2, ![1, 128]⟩
abbrev S8000x16 : Shape := ⟨2, ![8000, 16]⟩
abbrev S1000x128 : Shape := ⟨2, ![1000, 128]⟩
abbrev S1000x16 : Shape := ⟨2, ![1000, 16]⟩
abbrev S128 : Shape := ⟨1, ![128]⟩

abbrev nBuf : Space → Nat
  | .hbm => 3
  | .vmem => 5
  | .smem => 0
  | _ => 0

abbrev bufTy : (tb : Table) → Fin (tcTables nBuf tb) → BufTy
  | .hbm, ⟨0, _⟩ => ⟨S1000000x16, .f32⟩
  | .hbm, ⟨1, _⟩ => ⟨S125000x128, .f32⟩
  | .hbm, ⟨2, _⟩ => ⟨S1x128, .f32⟩
  | .local _ .vmem, ⟨0, _⟩ => ⟨S8000x16, .f32⟩
  | .local _ .vmem, ⟨1, _⟩ => ⟨S8000x16, .f32⟩
  | .local _ .vmem, ⟨2, _⟩ => ⟨S1000x128, .f32⟩
  | .local _ .vmem, ⟨3, _⟩ => ⟨S1000x128, .f32⟩
  | .local _ .vmem, ⟨4, _⟩ => ⟨S1x128, .f32⟩
  | _, _ => ⟨S1000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RepackRefIdeal.lean ====
abbrev S1000000x16 : Shape := ⟨2, ![1000000, 16]⟩
abbrev S125x8x1000x16 : Shape := ⟨4, ![125, 8, 1000, 16]⟩
abbrev S125x1000x8x16 : Shape := ⟨4, ![125, 1000, 8, 16]⟩
abbrev S125000x128 : Shape := ⟨2, ![125000, 128]⟩
abbrev S_ : Shape := ⟨0, ![]⟩
abbrev S128 : Shape := ⟨1, ![128]⟩
abbrev S1x128 : Shape := ⟨2, ![1, 128]⟩

abbrev nBuf : Space → Nat
  | .hbm => 7
  | .vmem => 0
  | .smem => 0
  | _ => 0

abbrev bufTy : (tb : Table) → Fin (tcTables nBuf tb) → BufTy
  | .hbm, ⟨0, _⟩ => ⟨S1000000x16, .f32⟩
  | .hbm, ⟨1, _⟩ => ⟨S125x8x1000x16, .f32⟩
  | .hbm, ⟨2, _⟩ => ⟨S125x1000x8x16, .f32⟩
  | .hbm, ⟨3, _⟩ => ⟨S125000x128, .f32⟩
  | .hbm, ⟨4, _⟩ => ⟨S_, .f32⟩
  | .hbm, ⟨5, _⟩ => ⟨S128, .f32⟩
  | .hbm, ⟨6, _⟩ => ⟨S1x128, .f32⟩
  | _, _ => ⟨S1000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Inner.lean ====
abbrev S125000x128 : Shape := ⟨2, ![125000, 128]⟩
abbrev S1x128 : Shape := ⟨2, ![1, 128]⟩
abbrev S125000x8 : Shape := ⟨2, ![125000, 8]⟩
abbrev S5000x128 : Shape := ⟨2, ![5000, 128]⟩
abbrev S5000x8 : Shape := ⟨2, ![5000, 8]⟩
abbrev S128x128 : Shape := ⟨2, ![128, 128]⟩
abbrev S128x8 : Shape := ⟨2, ![128, 8]⟩

abbrev nBuf : Space → Nat
  | .hbm => 3
  | .vmem => 6
  | .smem => 0
  | _ => 0

abbrev bufTy : (tb : Table) → Fin (tcTables nBuf tb) → BufTy
  | .hbm, ⟨0, _⟩ => ⟨S125000x128, .f32⟩
  | .hbm, ⟨1, _⟩ => ⟨S1x128, .f32⟩
  | .hbm, ⟨2, _⟩ => ⟨S125000x8, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S5000x8, .f32⟩
  | .local _ .vmem, ⟨4, _⟩ => ⟨S5000x8, .f32⟩
  | .local _ .vmem, ⟨5, _⟩ => ⟨S1x128, .f32⟩
  | _, _ => ⟨S125000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InnerRefIdeal.lean ====
abbrev S125000x128 : Shape := ⟨2, ![125000, 128]⟩
abbrev S1x128 : Shape := ⟨2, ![1, 128]⟩
abbrev S8x16 : Shape := ⟨2, ![8, 16]⟩
abbrev S_ : Shape := ⟨0, ![]⟩
abbrev S16 : Shape := ⟨1, ![16]⟩
abbrev S125000x8x16 : Shape := ⟨3, ![125000, 8, 16]⟩
abbrev S125000x8 : Shape := ⟨2, ![125000, 8]⟩

abbrev nBuf : Space → Nat
  | .hbm => 10
  | .vmem => 0
  | .smem => 0
  | _ => 0

abbrev bufTy : (tb : Table) → Fin (tcTables nBuf tb) → BufTy
  | .hbm, ⟨0, _⟩ => ⟨S125000x128, .f32⟩
  | .hbm, ⟨1, _⟩ => ⟨S1x128, .f32⟩
  | .hbm, ⟨2, _⟩ => ⟨S8x16, .f32⟩
  | .hbm, ⟨3, _⟩ => ⟨S_, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S125000x8x16, .f32⟩
  | .hbm, ⟨9, _⟩ => ⟨S125000x8, .f32⟩
  | _, _ => ⟨S125000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Select.lean ====
abbrev S125000x8 : Shape := ⟨2, ![125000, 8]⟩
abbrev S1000000 : Shape := ⟨1, ![1000000]⟩
abbrev S_ : Shape := ⟨0, ![]⟩
abbrev S1048576 : Shape := ⟨1, ![1048576]⟩
abbrev S8192x128 : Shape := ⟨2, ![8192, 128]⟩
abbrev S1x8192x128 : Shape := ⟨3, ![1, 8192, 128]⟩
abbrev S1 : Shape := ⟨1, ![1]⟩
abbrev S1x1x1 : Shape := ⟨3, ![1, 1, 1]⟩
abbrev S128 : Shape := ⟨1, ![128]⟩
abbrev S1x128 : Shape := ⟨2, ![1, 128]⟩
abbrev S1x1 : Shape := ⟨2, ![1, 1]⟩

abbrev nBuf : Space → Nat
  | .hbm => 7
  | .vmem => 2
  | .smem => 0
  | _ => 0

abbrev bufTy : (tb : Table) → Fin (tcTables nBuf tb) → BufTy
  | .hbm, ⟨0, _⟩ => ⟨S125000x8, .i32⟩
  | .hbm, ⟨1, _⟩ => ⟨S1000000, .i32⟩
  | .hbm, ⟨2, _⟩ => ⟨S_, .i32⟩
  | .hbm, ⟨3, _⟩ => ⟨S_, .i32⟩
  | .hbm, ⟨4, _⟩ => ⟨S1048576, .i32⟩
  | .hbm, ⟨5, _⟩ => ⟨S8192x128, .i32⟩
  | .hbm, ⟨6, _⟩ => ⟨S8192x128, .f32⟩
  | .local _ .vmem, ⟨0, _⟩ => ⟨S8192x128, .i32⟩
  | .local _ .vmem, ⟨1, _⟩ => ⟨S8192x128, .f32⟩
  | _, _ => ⟨S125000x8, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_34 : BitVec 32 := 0#32
  let c20_i32 : BitVec 32 := 20#32
  let v136 : BitVec 32 := Scalar.addi c0_i32_34 c20_i32
  let c1_i32_35 : BitVec 32 := 1#32
  ⟨c0_i32_34, v136, c1_i32_35⟩
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SelectRefIdeal.lean ====
abbrev S125000x8 : Shape := ⟨2, ![125000, 8]⟩
abbrev S125x1000x8 : Shape := ⟨3, ![125, 1000, 8]⟩
abbrev S125x8x1000 : Shape := ⟨3, ![125, 8, 1000]⟩
abbrev S1000000 : Shape := ⟨1, ![1000000]⟩
abbrev S100 : Shape := ⟨1, ![100]⟩
abbrev S_ : Shape := ⟨0, ![]⟩
abbrev S100x1 : Shape := ⟨2, ![100, 1]⟩
abbrev S1048576 : Shape := ⟨1, ![1048576]⟩
abbrev S8192x128 : Shape := ⟨2, ![8192, 128]⟩

abbrev nBuf : Space → Nat
  | .hbm => 28
  | .vmem => 0
  | .smem => 0
  | _ => 0

abbrev bufTy : (tb : Table) → Fin (tcTables nBuf tb) → BufTy
  | .hbm, ⟨0, _⟩ => ⟨S125000x8, .i32⟩
  | .hbm, ⟨1, _⟩ => ⟨S125x1000x8, .i32⟩
  | .hbm, ⟨2, _⟩ => ⟨S125x8x1000, .i32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S1000000, .i32⟩
  | .hbm, ⟨7, _⟩ => ⟨S100, .i32⟩
  | .hbm, ⟨8, _⟩ => ⟨S_, .f32⟩
  | .hbm, ⟨9, _⟩ => ⟨S1000000, .f32⟩
  | .hbm, ⟨10, _⟩ => ⟨S_, .i32⟩
  | .hbm, ⟨11, _⟩ => ⟨S100, .i32⟩
  | .hbm, ⟨12, _⟩ => ⟨S100, .i1⟩
  | .hbm, ⟨13, _⟩ => ⟨S_, .i32⟩
  | .hbm, ⟨14, _⟩ => ⟨S100, .i32⟩
  | .hbm, ⟨15, _⟩ => ⟨S100, .i32⟩
  | .hbm, ⟨16, _⟩ => ⟨S100, .i32⟩
  | .hbm, ⟨17, _⟩ => ⟨S100x1, .i32⟩
  | .hbm, ⟨18, _⟩ => ⟨S_, .f32⟩
  | .hbm, ⟨19, _⟩ => ⟨S100, .f32⟩
  | .hbm, ⟨20, _⟩ => ⟨S1000000, .f32⟩
  | .hbm, ⟨21, _⟩ => ⟨S125x8x1000, .f32⟩
  | .hbm, ⟨22, _⟩ => ⟨S125x1000x8, .f32⟩
  | .hbm, ⟨23, _⟩ => ⟨S1000000, .f32⟩
  | .hbm, ⟨24, _⟩ => ⟨S_, .i32⟩
  | .hbm, ⟨25, _⟩ => ⟨S_, .f32⟩
  | .hbm, ⟨26, _⟩ => ⟨S1048576, .f32⟩
  | .hbm, ⟨27, _⟩ => ⟨S8192x128, .f32⟩
  | _, _ => ⟨S125000x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1_0 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_call1_v0 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Update.lean ====
abbrev S125000x128 : Shape := ⟨2, ![125000, 128]⟩
abbrev S125000x8 : Shape := ⟨2, ![125000, 8]⟩
abbrev S60x16 : Shape := ⟨2, ![60, 16]⟩
abbrev S5 : Shape := ⟨1, ![5]⟩
abbrev S55 : Shape := ⟨1, ![55]⟩
abbrev S60 : Shape := ⟨1, ![60]⟩
abbrev S5000x128 : Shape := ⟨2, ![5000, 128]⟩
abbrev S5000x8 : Shape := ⟨2, ![5000, 8]⟩
abbrev S1x128 : Shape := ⟨2, ![1, 128]⟩
abbrev S8x16 : Shape := ⟨2, ![8, 16]⟩
abbrev S8x128 : Shape := ⟨2, ![8, 128]⟩
abbrev S128 : Shape := ⟨1, ![128]⟩
abbrev S1x16 : Shape := ⟨2, ![1, 16]⟩
abbrev S128x16 : Shape := ⟨2, ![128, 16]⟩
abbrev S60x1 : Shape := ⟨2, ![60, 1]⟩
abbrev S5x16 : Shape := ⟨2, ![5, 16]⟩
abbrev S55x16 : Shape := ⟨2, ![55, 16]⟩

abbrev nBuf : Space → Nat
  | .hbm => 7
  | .vmem => 8
  | .smem => 0
  | _ => 0

abbrev bufTy : (tb : Table) → Fin (tcTables nBuf tb) → BufTy
  | .hbm, ⟨0, _⟩ => ⟨S125000x128, .f32⟩
  | .hbm, ⟨1, _⟩ => ⟨S125000x8, .f32⟩
  | .hbm, ⟨2, _⟩ => ⟨S60x16, .f32⟩
  | .hbm, ⟨3, _⟩ => ⟨S5, .i32⟩
  | .hbm, ⟨4, _⟩ => ⟨S55, .i32⟩
  | .hbm, ⟨5, _⟩ => ⟨S60, .i32⟩
  | .hbm, ⟨6, _⟩ => ⟨S60x16, .f32⟩
  | .local _ .vmem, ⟨0, _⟩ => ⟨S5000x128, .f32⟩
  | .local _ .vmem, ⟨1, _⟩ => ⟨S5000x128, .f32⟩
  | .local _ .vmem, ⟨2, _⟩ => ⟨S5000x8, .f32⟩
  | .local _ .vmem, ⟨3, _⟩ => ⟨S5000x8, .f32⟩
  | .local _ .vmem, ⟨4, _⟩ => ⟨S60x16, .f32⟩
  | .local _ .vmem, ⟨5, _⟩ => ⟨S60x16, .f32⟩
  | .local _ .vmem, ⟨6, _⟩ => ⟨S1x128, .f32⟩
  | .local _ .vmem, ⟨7, _⟩ => ⟨S8x16, .f32⟩
  | _, _ => ⟨S125000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![25], ![false]⟩

def k0_cond7 (i : grid0.Coords) : BitVec 1 :=
  let arg0 : BitVec 32 := BitVec.ofNat 32 (i 0).val
  let c24_i32 : BitVec 32 := 24#32
  let v58 : BitVec 1 := Scalar.cmpi .eq arg0 c24_i32
  let v59 : BitVec 32 := Scalar.extui v58
  let c0_i32_19 : BitVec 32 := 0#32
  let v60 : BitVec 1 := Scalar.cmpi .ne v59 c0_i32_19
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S60x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S60x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== UpdateRefIdeal.lean ====
abbrev S125000x128 : Shape := ⟨2, ![125000, 128]⟩
abbrev S125000x8 : Shape := ⟨2, ![125000, 8]⟩
abbrev S60x16 : Shape := ⟨2, ![60, 16]⟩
abbrev S5 : Shape := ⟨1, ![5]⟩
abbrev S125x1000x8x16 : Shape := ⟨4, ![125, 1000, 8, 16]⟩
abbrev S125x8x1000x16 : Shape := ⟨4, ![125, 8, 1000, 16]⟩
abbrev S1000000x16 : Shape := ⟨2, ![1000000, 16]⟩
abbrev S125x1000x8 : Shape := ⟨3, ![125, 1000, 8]⟩
abbrev S125x8x1000 : Shape := ⟨3, ![125, 8, 1000]⟩
abbrev S1000000x1 : Shape := ⟨2, ![1000000, 1]⟩
abbrev S_ : Shape := ⟨0, ![]⟩
abbrev S16 : Shape := ⟨1, ![16]⟩
abbrev S5x1 : Shape := ⟨2, ![5, 1]⟩
abbrev S5x16 : Shape := ⟨2, ![5, 16]⟩
abbrev S1000000 : Shape := ⟨1, ![1000000]⟩
abbrev S55 : Shape := ⟨1, ![55]⟩
abbrev S60 : Shape := ⟨1, ![60]⟩
abbrev S60x1 : Shape := ⟨2, ![60, 1]⟩
abbrev S1 : Shape := ⟨1, ![1]⟩
abbrev S1x1 : Shape := ⟨2, ![1, 1]⟩

abbrev nBuf : Space → Nat
  | .hbm => 137
  | .vmem => 0
  | .smem => 0
  | _ => 0

abbrev hbmTy0_0 (i : Nat) : BufTy := match i % 128 with
  | 0 => ⟨S125000x128, .f32⟩
  | 1 => ⟨S125000x8, .f32⟩
  | 2 => ⟨S60x16, .f32⟩
  | 3 => ⟨S5, .i32⟩
  | 4 => ⟨S125x1000x8x16, .f32⟩
  | 5 => ⟨S125x8x1000x16, .f32⟩
  | 6 => ⟨S1000000x16, .f32⟩
  | 7 => ⟨S125x1000x8, .f32⟩
  | 8 => ⟨S125x8x1000, .f32⟩
  | 9 => ⟨S1000000x1, .f32⟩
  | 10 => ⟨S1000000x16, .f32⟩
  | 11 => ⟨S1000000x16, .f32⟩
  | 12 => ⟨S_, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S_, .i32⟩
  | 21 => ⟨S5, .i32⟩
  | 22 => ⟨S5, .i1⟩
  | 23 => ⟨S_, .i32⟩
  | 24 => ⟨S5, .i32⟩
  | 25 => ⟨S5, .i32⟩
  | 26 => ⟨S5, .i32⟩
  | 27 => ⟨S5x1, .i32⟩
  | 28 => ⟨S5x16, .f32⟩
  | 29 => ⟨S1000000x16, .f32⟩
  | 30 => ⟨S1000000x16, .f32⟩
  | 31 => ⟨S_, .i32⟩
  | 32 => ⟨S5, .i32⟩
  | 33 => ⟨S5, .i1⟩
  | 34 => ⟨S_, .i32⟩
  | 35 => ⟨S5, .i32⟩
  | 36 => ⟨S5, .i32⟩
  | 37 => ⟨S5, .i32⟩
  | 38 => ⟨S5x1, .i32⟩
  | 39 => ⟨S5x16, .f32⟩
  | 40 => ⟨S_, .f32⟩
  | 41 => ⟨S5x16, .f32⟩
  | 42 => ⟨S5x16, .f32⟩
  | 43 => ⟨S_, .i32⟩
  | 44 => ⟨S5, .i32⟩
  | 45 => ⟨S5, .i1⟩
  | 46 => ⟨S_, .i32⟩
  | 47 => ⟨S5, .i32⟩
  | 48 => ⟨S5, .i32⟩
  | 49 => ⟨S5, .i32⟩
  | 50 => ⟨S5x1, .i32⟩
  | 51 => ⟨S1000000x16, .f32⟩
  | 52 => ⟨S1000000x16, .f32⟩
  | 53 => ⟨S_, .f32⟩
  | 54 => ⟨S1000000, .f32⟩
  | 55 => ⟨S1000000, .f32⟩
  | 56 => ⟨S_, .i32⟩
  | 57 => ⟨S5, .i32⟩
  | 58 => ⟨S5, .i1⟩
  | 59 => ⟨S_, .i32⟩
  | 60 => ⟨S5, .i32⟩
  | 61 => ⟨S5, .i32⟩
  | 62 => ⟨S5, .i32⟩
  | 63 => ⟨S5x1, .i32⟩
  | 64 => ⟨S_, .f32⟩
  | 65 => ⟨S5, .f32⟩
  | 66 => ⟨S1000000, .f32⟩
  | 67 => ⟨S55, .f32⟩
  | 68 => ⟨S55, .i32⟩
  | 69 => ⟨S60, .i32⟩
  | 70 => ⟨S_, .f32⟩
  | 71 => ⟨S60, .f32⟩
  | 72 => ⟨S60x1, .f32⟩
  | 73 => ⟨S_, .f32⟩
  | 74 => ⟨S60x1, .f32⟩
  | 75 => ⟨S60x1, .f32⟩
  | 76 => ⟨S_, .i32⟩
  | 77 => ⟨S_, .f32⟩
  | 78 => ⟨S60, .f32⟩
  | 79 => ⟨S60x1, .f32⟩
  | 80 => ⟨S_, .f32⟩
  | 81 => ⟨S60x1, .f32⟩
  | 82 => ⟨S60x1, .f32⟩
  | 83 => ⟨S60x16, .f32⟩
  | 84 => ⟨S60x16, .f32⟩
  | 85 => ⟨S60x16, .f32⟩
  | 86 => ⟨S_, .f32⟩
  | 87 => ⟨S_, .f32⟩
  | 88 => ⟨S_, .f32⟩
  | 89 => ⟨S_, .f32⟩
  | 90 => ⟨S60, .f32⟩
  | 91 => ⟨S60x1, .f32⟩
  | 92 => ⟨S60x1, .f32⟩
  | 93 => ⟨S60x1, .f32⟩
  | 94 => ⟨S_, .f32⟩
  | 95 => ⟨S_, .i1⟩
  | 96 => ⟨S_, .f32⟩
  | 97 => ⟨S_, .f32⟩
  | 98 => ⟨S60x1, .f32⟩
  | 99 => ⟨S60x1, .f32⟩
  | 100 => ⟨S60x1, .f32⟩
  | 101 => ⟨S60x16, .f32⟩
  | 102 => ⟨S60x16, .f32⟩
  | 103 => ⟨S60x16, .f32⟩
  | 104 => ⟨S60x16, .f32⟩
  | 105 => ⟨S_, .i32⟩
  | 106 => ⟨S60, .i32⟩
  | 107 => ⟨S60, .i1⟩
  | 108 => ⟨S_, .i32⟩
  | 109 => ⟨S60, .i32⟩
  | 110 => ⟨S60, .i32⟩
  | 111 => ⟨S60, .i32⟩
  | 112 => ⟨S60x1, .i32⟩
  | 113 => ⟨S1000000x16, .f32⟩
  | 114 => ⟨S_, .i32⟩
  | 115 => ⟨S60, .i32⟩
  | 116 => ⟨S60, .i1⟩
  | 117 => ⟨S_, .i32⟩
  | 118 => ⟨S60, .i32⟩
  | 119 => ⟨S60, .i32⟩
  | 120 => ⟨S60, .i32⟩
  | 121 => ⟨S60x1, .i32⟩
  | 122 => ⟨S1, .i32⟩
  | 123 => ⟨S_, .i32⟩
  | 124 => ⟨S60x1, .i32⟩
  | 125 => ⟨S60x1, .i1⟩
  | 126 => ⟨S1x1, .i32⟩
  | 127 => ⟨S60x1, .i32⟩
  | _ => ⟨S125000x128, .f32⟩

abbrev hbmTy0_1 (i : Nat) : BufTy := match i % 128 with
  | 0 => ⟨S60x1, .i1⟩
  | 1 => ⟨S60x1, .i1⟩
  | 2 => ⟨S_, .i1⟩
  | 3 => ⟨S60, .i1⟩
  | 4 => ⟨S60x16, .f32⟩
  | 5 => ⟨S60x16, .i1⟩
  | 6 => ⟨S_, .f32⟩
  | 7 => ⟨S60x16, .f32⟩
  | 8 => ⟨S60x16, .f32⟩
  | _ => ⟨S125000x128, .f32⟩

abbrev hbmTy (i : Nat) : BufTy := match i / 128 with
  | 0 => hbmTy0_0 i
  | 1 => hbmTy0_1 i
  | _ => ⟨S125000x128, .f32⟩

abbrev bufTy : (tb : Table) → Fin (tcTables nBuf tb) → BufTy
  | .hbm, ⟨i, _⟩ => hbmTy i
  | _, _ => ⟨S125000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_c_7 : Ref sig .tc := ⟨.hbm, 43, rfl⟩
abbrev main_v31 : Ref sig .tc := ⟨.hbm, 44, rfl⟩
abbrev main_v32 : Ref sig .tc := ⟨.hbm, 45, rfl⟩
abbrev main_c_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_v0 : Ref sig .tc := ⟨.hbm, 52, rfl⟩
abbrev main_call0_cst : Ref sig .tc := ⟨.hbm, 53, rfl⟩
abbrev main_call0_v1 : Ref sig .tc := ⟨.hbm, 54, rfl⟩
abbrev main_v38 : Ref sig .tc := ⟨.hbm, 55, rfl⟩
abbrev main_c_9 : Ref sig .tc := ⟨.hbm, 56, rfl⟩
abbrev main_v39 : Ref sig .tc := ⟨.hbm, 57, rfl⟩
abbrev main_v40 : Ref sig .tc := ⟨.hbm, 58, rfl⟩
abbrev main_c_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_values : Ref sig .tc := ⟨.hbm, 67, rfl⟩
abbrev main_indices : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_cst_13 : Ref sig .tc := ⟨.hbm, 73, rfl⟩
abbrev main_v50 : Ref sig .tc := ⟨.hbm, 74, rfl⟩
abbrev main_v51 : Ref sig .tc := ⟨.hbm, 75, rfl⟩
abbrev main_c_14 : Ref sig .tc := ⟨.hbm, 76, rfl⟩
abbrev main_call1_call0_cst : Ref sig .tc := ⟨.hbm, 77, rfl⟩
abbrev main_call1_call0_v0 : Ref sig .tc := ⟨.hbm, 78, rfl⟩
abbrev main_call1_call0_v1 : Ref sig .tc := ⟨.hbm, 79, rfl⟩
abbrev main_call1_call0_cst_0 : Ref sig .tc := ⟨.hbm, 80, rfl⟩
abbrev main_call1_call0_v2 : Ref sig .tc := ⟨.hbm, 81, rfl⟩
abbrev main_call1_call0_v3 : Ref sig .tc := ⟨.hbm, 82, rfl⟩
abbrev main_call1_call0_v4 : Ref sig .tc := ⟨.hbm, 83, rfl⟩
abbrev main_call1_call0_v5 : Ref sig .tc := ⟨.hbm, 84, rfl⟩
abbrev main_call1_call0_v6 : Ref sig .tc := ⟨.hbm, 85, rfl⟩
abbrev main_call1_call0_v7 : Ref sig .tc := ⟨.hbm, 86, rfl⟩
abbrev main_call1_call0_cst_1 : Ref sig .tc := ⟨.hbm, 87, rfl⟩
abbrev main_call1_call0_v8 : Ref sig .tc := ⟨.hbm, 88, rfl⟩
abbrev main_call1_call0_cst_2 : Ref sig .tc := ⟨.hbm, 89, rfl⟩
abbrev main_call1_call0_v9 : Ref sig .tc := ⟨.hbm, 90, rfl⟩
abbrev main_call1_call0_v10 : Ref sig .tc := ⟨.hbm, 91, rfl⟩
abbrev main_call1_call0_v11 : Ref sig .tc := ⟨.hbm, 92, rfl⟩
abbrev main_call1_call0_v12 : Ref sig .tc := ⟨.hbm, 93, rfl⟩
abbrev main_call1_call0_cst_3 : Ref sig .tc := ⟨.hbm, 94, rfl⟩
abbrev main_call1_call0_v13 : Ref sig .tc := ⟨.hbm, 95, rfl⟩
abbrev main_call1_call0_cst_4 : Ref sig .tc := ⟨.hbm, 96, rfl⟩
abbrev main_call1_call0_call0_v0 : Ref sig .tc := ⟨.hbm, 97, rfl⟩
abbrev main_call1_call0_call0_v1 : Ref sig .tc := ⟨.hbm, 98, rfl⟩
abbrev main_call1_v0 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_c_15 : Ref sig .tc := ⟨.hbm, 105, rfl⟩
abbrev main_v57 : Ref sig .tc := ⟨.hbm, 106, rfl⟩
abbrev main_v58 : Ref sig .tc := ⟨.hbm, 107, rfl⟩
abbrev main_c_16 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_call2_c : Ref sig .tc := ⟨.hbm, 114, rfl⟩
abbrev main_call2_v0 : Ref sig .tc := ⟨.hbm, 115, rfl⟩
abbrev main_call2_v1 : Ref sig .tc := ⟨.hbm, 116, rfl⟩
abbrev main_call2_c_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_c_1 : Ref sig .tc := ⟨.hbm, 122, rfl⟩
abbrev main_call2_c_2 : Ref sig .tc := ⟨.hbm, 123, rfl⟩
abbrev main_call2_v6 : Ref sig .tc := ⟨.hbm, 124, rfl⟩
abbrev main_call2_v7 : Ref sig .tc := ⟨.hbm, 125, rfl⟩
abbrev main_call2_v8 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_c_3 : Ref sig .tc := ⟨.hbm, 130, rfl⟩
abbrev main_call2_v12 : Ref sig .tc := ⟨.hbm, 131, rfl⟩
abbrev main_call2_v13 : Ref sig .tc := ⟨.hbm, 132, rfl⟩
abbrev main_call2_v14 : Ref sig .tc := ⟨.hbm, 133, rfl⟩
abbrev main_call2_cst : Ref sig .tc := ⟨.hbm, 134, rfl⟩
abbrev main_call2_v15 : Ref sig .tc := ⟨.hbm, 135, rfl⟩
abbrev main_v64 : Ref sig .tc := ⟨.hbm, 136, rfl⟩

abbrev nD : Nat := 1
abbrev τ : Topo := Topo.v7x

variable {F : FTy → Type} [FloatOps F]
-- ==== Proof.Groups.lean ====
/-
  A row of 128 columns holds eight groups of sixteen. Sums over the columns against a 0/1 table that picks
  one group, or one place in every group.
-/
module

public import Idealize.ShloMosaic.Lib.Pipeline.ValueKit
public import Idealize.ShloMosaic.Lib.Pointwise

@[expose] public section

namespace Cert.Groups

open Idealize.ShloMosaic

/-- The column of group `g` at place `d`. -/
abbrev col (g : Fin 8) (d : Fin 16) : Fin 128 := ⟨16 * g.val + d.val, by omega⟩

/-- Columns are the pairs of a group and a place. -/
def colEquiv : Fin 8 × Fin 16 ≃ Fin 128 where
  toFun p := col p.1 p.2
  invFun x := (⟨x.val / 16, by omega⟩, ⟨x.val % 16, by omega⟩)
  left_inv p := by
    obtain ⟨g, d⟩ := p
    simp only [col, Prod.mk.injEq]
    exact ⟨Fin.ext (by dsimp only; omega), Fin.ext (by dsimp only; omega)⟩
  right_inv x := Fin.ext (by dsimp only [col]; omega)

/-- A sum over the columns, group by group. -/
theorem sum_cols {M : Type} [AddCommMonoid M] (f : Fin 128 → M) :
    ∑ x, f x = ∑ g : Fin 8, ∑ d : Fin 16, f (col g d) := by
  rw [← colEquiv.sum_comp f, Fintype.sum_prod_type]
  rfl

/-- Against the table that is one on group `g`, the sum is the sum over that group. -/
theorem sum_group (f : Fin 128 → EReal) (g : Fin 8) :
    ∑ x : Fin 128, f x * (if x.val / 16 = g.val then 1 else 0) = ∑ d : Fin 16, f (col g d) := by
  rw [sum_cols, Finset.sum_eq_single g]
  · refine Finset.sum_congr rfl fun d _ => ?_
    rw [if_pos (by simp only [col]; omega), mul_one]
  · intro b _ hb
    refine Finset.sum_eq_zero fun d _ => ?_
    rw [if_neg (by simp only [col]; have := Fin.val_ne_of_ne hb; omega), mul_zero]
  · intro h; exact absurd (Finset.mem_univ _) h

/-- Against the table that is one at place `d` of every group, the sum runs over the groups at that place. -/
theorem sum_place (f : Fin 128 → EReal) (d : Fin 16) :
    ∑ x : Fin 128, f x * (if x.val % 16 = d.val then 1 else 0) = ∑ g : Fin 8, f (col g d) := by
  rw [sum_cols]
  refine Finset.sum_congr rfl fun g _ => ?_
  rw [Finset.sum_eq_single d]
  · rw [if_pos (by simp only [col]; omega), mul_one]
  · intro b _ hb
    rw [if_neg (by simp only [col]; have := Fin.val_ne_of_ne hb; omega), mul_zero]
  · intro h; exact absurd (Finset.mem_univ _) h

/-- Against a 0/1 table on the groups, the sum over the groups is the one entry it picks. -/
theorem sum_pick (f : Fin 8 → EReal) (x : ℕ) (hx : x < 8) :
    ∑ g : Fin 8, f g * (if g.val = x then 1 else 0) = f ⟨x, hx⟩ := by
  rw [Finset.sum_eq_single ⟨x, hx⟩]
  · rw [if_pos rfl, mul_one]
  · intro b _ hb
    rw [if_neg (fun e => hb (Fin.ext e)), mul_zero]
  · intro h; exact absurd (Finset.mem_univ _) h

/-- A sum over `K = A * B` rows, as the sums over `A` consecutive blocks of `B` rows. -/
theorem sum_rows {M : Type} [AddCommMonoid M] {A B K : ℕ} (hK : A * B = K) (f : Fin K → M) :
    ∑ R, f R = ∑ t : Fin A, ∑ r : Fin B,
      f ⟨B * t.val + r.val, by
        have h1 := t.isLt
        have h2 := r.isLt
        have h3 : B * (t.val + 1) ≤ B * A := Nat.mul_le_mul_left _ h1
        rw [Nat.mul_add, Nat.mul_one, Nat.mul_comm B A, hK] at h3
        omega⟩ := by
  subst hK
  rw [← finProdFinEquiv.sum_comp f, Fintype.sum_prod_type]
  refine Finset.sum_congr rfl fun t _ => Finset.sum_congr rfl fun r _ => congrArg f (Fin.ext ?_)
  simp [finProdFinEquiv, Nat.add_comm]

/-- A word that is one or zero reads as one or zero. -/
theorem ofWord (p : Prop) [Decidable p] :
    FloatOps.sitofp (F := Ideal) .f32 (if p then 1#32 else 0#32) = if p then 1 else 0 := by
  show (((if p then 1#32 else 0#32 : BitVec 32).toInt : ℝ) : EReal) = _
  split <;> simp

end Cert.Groups
-- ==== Proof.RepackValue.lean ====
/-
  The repacking call: one grid point lays eight slabs of a thousand items side by side in rows of 128 columns
  and adds the rows up; the arrays end holding the packed items and the sums of their columns.
-/
module

public import proofs.«01_k».proof.Defs
public import proofs.«01_k».proof.Proof.Gen.RepackIdeal.Value
public import proofs.«01_k».proof.Proof.Gen.RepackRefIdeal.Run
public import Idealize.ShloMosaic.Lib.Pipeline.ValueKit
public import Idealize.ShloMosaic.Lib.Pipeline.ReadBack
public import Idealize.ShloMosaic.Lib.Pointwise
public import proofs.«01_k».proof.Proof.Groups

@[expose] public section

set_option maxRecDepth 16384

noncomputable section

namespace Cert.RepackIdeal.Hand

open Cert.RepackIdeal Cert.RepackIdeal.Gen Cert.RepackIdeal.Value
open Idealize.ShloMosaic Idealize.ShloMosaic.TcCoe Idealize.SL.Sem
open Idealize.ShloMosaic.Pipeline (Dat)

variable (m : (ℓ : Loc nD τ sig) → Buf (Elt Ideal) ℓ)

/-- The packed block: column `j` of row `r` is feature `j % 16` of item `r` of slab `j / 16`. -/
def packed (b : Vec Ideal S8000x16 .f32) (r : Fin 1000) (j : Fin 128) : EReal :=
  b (ix2 ⟨j.val / 16 * 1000 + r.val, by omega⟩ ⟨j.val % 16, by omega⟩)

/-- The eight slabs side by side, of a block in place. -/
theorem pay2_apply (b : Vec Ideal S8000x16 .f32) (r : Fin 1000) (j : Fin 128) :
    k0_pay2 (F := Ideal) (View.ld b (Rect.unit ![0, 0] ![1000, 16] inb_S8000x16_S1000x16_0_0))
      (View.ld b (Rect.unit ![1000, 0] ![1000, 16] inb_S8000x16_S1000x16_1000_0))
      (View.ld b (Rect.unit ![2000, 0] ![1000, 16] inb_S8000x16_S1000x16_2000_0))
      (View.ld b (Rect.unit ![3000, 0] ![1000, 16] inb_S8000x16_S1000x16_3000_0))
      (View.ld b (Rect.unit ![4000, 0] ![1000, 16] inb_S8000x16_S1000x16_4000_0))
      (View.ld b (Rect.unit ![5000, 0] ![1000, 16] inb_S8000x16_S1000x16_5000_0))
      (View.ld b (Rect.unit ![6000, 0] ![1000, 16] inb_S8000x16_S1000x16_6000_0))
      (View.ld b (Rect.unit ![7000, 0] ![1000, 16] inb_S8000x16_S1000x16_7000_0)) (ix2 r j) = packed b r j := by
  unfold packed
  pointwise [Gen.k0_pay2]
  repeat' split
  all_goals exact congrArg b (by congr 1 <;> exact Fin.ext (by dsimp only; omega))

/-- What the sums gain at a point, and what they start from. -/
theorem pay3_apply (v3 v4 v5 v6 v7 v8 v9 v10 : Vec Ideal S1000x16 .f32) (v13 : Vec Ideal S1x128 .f32) (j : Fin 128) :
    k0_pay3 (F := Ideal) v3 v4 v5 v6 v7 v8 v9 v10 v13 (ix2 0 j)
      = v13 (ix2 0 j) + ∑ r : Fin 1000, k0_pay2 (F := Ideal) v3 v4 v5 v6 v7 v8 v9 v10 (ix2 r j) := by
  pointwise [Gen.k0_pay3]

/-- The array a point writes its block of to holds the packed block. -/
theorem dense_out (c : Dev nD) (t : Fin cfg0.N) (r : Fin 1000) (j : Fin 128) :
    (outsAt0 m c t.val t.isLt).1 (ix2 r j) = packed (iblk m c 0 t) r j := by
  by_cases h0 : t.val % 125 = 0
  · rw [outsAt0_A m c t h0]
    frame_out
    exact pay2_apply _ r j
  · rw [outsAt0_B m c t h0]
    frame_out
    exact pay2_apply _ r j

/-- The first point's sums. -/
theorem acc_A (c : Dev nD) (t : Fin cfg0.N) (h0 : t.val % 125 = 0) (j : Fin 128) :
    (outsAt0 m c t.val t.isLt).2 (ix2 0 j) = ∑ r : Fin 1000, packed (iblk m c 0 t) r j := by
  rw [outsAt0_A m c t h0]
  frame_out
  rw [pay3_apply]
  simp only [pay2_apply]
  pointwise [Gen.k0_pay1]

/-- Every later point adds the sums of its block to the sums before it. -/
theorem acc_B (c : Dev nD) (t : Fin cfg0.N) (h0 : ¬ t.val % 125 = 0) (j : Fin 128) :
    (outsAt0 m c t.val t.isLt).2 (ix2 0 j)
      = (outsAt0 m c (t.val - 1) (by omega)).2 (ix2 0 j) + ∑ r : Fin 1000, packed (iblk m c 0 t) r j := by
  rw [outsAt0_B m c t h0]
  frame_out
  rw [pay3_apply]
  simp only [pay2_apply]

/-- The packed array: column `j` of row `R` is feature `j % 16` of item `(R / 1000) * 8000 + (j / 16) * 1000 + R % 1000`. -/
def dense (x : Vec Ideal S1000000x16 .f32) (R : Fin 125000) (j : Fin 128) : EReal :=
  x (ix2 ⟨R.val / 1000 * 8000 + j.val / 16 * 1000 + R.val % 1000, by omega⟩ ⟨j.val % 16, by omega⟩)

/-- A point's block of the items, read from the array. -/
theorem iblk0 (c : Dev nD) (t : Fin cfg0.N) (r : Fin 8000) (j : Fin 16) (R : Fin 1000000) (hR : R.val = 8000 * t.val + r.val) :
    iblk m c 0 t (ix2 r j) = m ((c : Thread nD τ).loc main_arg0) (ix2 R j) := by
  have e : ∀ t : Fin cfg0.N, win0_0.index t = ![t.val, 0] := (by decide +kernel : ∀ t : Fin grid0.N, _)
  blk_ext [iblk, V, e t]

/-- A point's packed block is its thousand rows of the packed array. -/
theorem packed_iblk (c : Dev nD) (t : Fin cfg0.N) (r : Fin 1000) (j : Fin 128) (R : Fin 125000)
    (hR : R.val = 1000 * t.val + r.val) :
    packed (iblk m c 0 t) r j = dense (m ((c : Thread nD τ).loc main_arg0)) R j := by
  unfold packed dense
  exact iblk0 m c t _ _ _ (by dsimp only; omega)

/-- The first array after the run is the packed array. -/
theorem final_dense (c : Dev nD) (R : Fin 125000) (j : Fin 128) :
    (dats m 0 c).arrAt 1 cfg0.N (ix2 R j) = dense (m ((c : Thread nD τ).loc main_arg0)) R j := by
  have h : (dats m 0 c).arrAt 1 cfg0.N
      = fun i : S125000x128.Idx => dense (m ((c : Thread nD τ).loc main_arg0)) (i 0) (i 1) := by
    refine (dats m 0 c).arrAt_eq_of_covers 1 _ (by decide +kernel) fun t hf y => ?_
    have e : ∀ t : Fin cfg0.N, win0_1.index t = ![t.val, 0] := (by decide +kernel : ∀ t : Fin grid0.N, _)
    blk_simp
    rw [after0_1]
    idx_vars y
    have hN : cfg0.N = 125 := N_0
    have hb : 1000 * t.val + y0.val < 125000 := by
      have : t.val < 125 := lt_of_lt_of_eq t.isLt hN
      omega
    rw [dense_out m c t y0 y1, packed_iblk m c t y0 y1 ⟨1000 * t.val + y0.val, hb⟩ rfl]
    congr 1
    · apply Fin.ext
      show _ = win0_1.index t (0 : Fin 2) * 1000 + 1 * y0.val
      rw [e t]
      show 1000 * t.val + y0.val = t.val * 1000 + 1 * y0.val
      omega
    · apply Fin.ext
      show _ = win0_1.index t (1 : Fin 2) * 128 + 1 * y1.val
      rw [e t]
      show y1.val = 0 * 128 + 1 * y1.val
      omega
  rw [h]
  rfl

/-- The last point of the grid. -/
def lastPoint : Fin cfg0.N := ⟨124, lt_of_lt_of_eq (by decide) N_0.symm⟩

/-- After the last point the sums are those of all the rows. -/
theorem acc_last (c : Dev nD) (j : Fin 128) :
    (outsAt0 m c lastPoint.val lastPoint.isLt).2 (ix2 0 j)
      = ∑ R : Fin 125000, dense (m ((c : Thread nD τ).loc main_arg0)) R j := by
  have h := Pipeline.eq_sum_fin_of_reset_step_last (N := cfg0.N) (fun n hn => (outsAt0 m c n hn).2 (ix2 0 j)) 125 0
    (fun t => ∑ r : Fin 1000, packed (iblk m c 0 t) r j)
    (fun t h0 => (acc_A m c t h0 j).trans (zero_add _).symm) (fun t h0 => acc_B m c t h0 j)
    (le_of_eq N_0) lastPoint (Eq.trans rfl N_0.symm)
  rw [h, zero_add, Cert.Groups.sum_rows (A := 125) (B := 1000) rfl]
  show ∑ t : Fin 125, _ = _
  exact Finset.sum_congr rfl fun t _ => Finset.sum_congr rfl fun r _ => packed_iblk m c t r j _ rfl

/-- The second array after the run holds the sums of the columns. -/
theorem final_acc (c : Dev nD) (j : Fin 128) :
    (dats m 0 c).arrAt 2 cfg0.N (ix2 0 j) = ∑ R : Fin 125000, dense (m ((c : Thread nD τ).loc main_arg0)) R j := by
  have h : (dats m 0 c).arrAt 2 cfg0.N
      = fun i : S1x128.Idx => ∑ R : Fin 125000, dense (m ((c : Thread nD τ).loc main_arg0)) R (i 1) := by
    refine (dats m 0 c).arrAt_eq_of_after_last 2 lastPoint (by decide +kernel) _ fun y => ?_
    rw [after0_2]
    idx_vars y
    obtain rfl : y0 = 0 := Subsingleton.elim _ _
    exact (acc_last m c y1).trans rfl
  rw [h]
  rfl

/-- The reference's packed array at an index. -/
theorem ref_dense (a0 : Vec Ideal S1000000x16 .f32) (R : Fin 125000) (j : Fin 128) :
    shapeCast S125000x128 (transpose Cert.RepackRefIdeal.S125x1000x8x16 [0, 2, 1, 3] (shapeCast Cert.RepackRefIdeal.S125x8x1000x16 a0 Cert.RepackRefIdeal.Gen.shapeCasts_S1000000x16_S125x8x1000x16) Cert.RepackRefIdeal.Gen.transposes_S125x8x1000x16_S125x1000x8x16_0_2_1_3) Cert.RepackRefIdeal.Gen.shapeCasts_S125x1000x8x16_S125000x128 (ix2 R j)
      = dense a0 R j := by
  unfold dense
  pointwise

/-- The reference's sums at a column. -/
theorem ref_acc (a0 : Vec Ideal S1000000x16 .f32) (j : Fin 128) :
    broadcastInDim Cert.RepackRefIdeal.S1x128 ![1] Cert.RepackRefIdeal.Gen.bcast_S128_S1x128_1
      (Host.reduceAdd (F := Ideal) (φ := .f32) (shapeCast Cert.RepackRefIdeal.S125000x128 (transpose Cert.RepackRefIdeal.S125x1000x8x16 [0, 2, 1, 3] (shapeCast Cert.RepackRefIdeal.S125x8x1000x16 a0 Cert.RepackRefIdeal.Gen.shapeCasts_S1000000x16_S125x8x1000x16) Cert.RepackRefIdeal.Gen.transposes_S125x8x1000x16_S125x1000x8x16_0_2_1_3) Cert.RepackRefIdeal.Gen.shapeCasts_S125x1000x8x16_S125000x128)
        (constant Cert.RepackRefIdeal.S_ .f32 0x00000000#32) Cert.RepackRefIdeal.Gen.reducesTo_S125000x128_S128_d0 Cert.RepackRefIdeal.Gen.h_S_) (ix2 0 j)
      = ∑ R : Fin 125000, dense a0 R j := by
  simp only [← ref_dense]
  pointwise

/-- The claim: the call and the reference agree on the packed array and on the sums. -/
theorem algebraic : Cert.algebraic_RepackIdeal_RepackRefIdeal := by
  intro m g m' g' _ hagree
  refine ⟨fun c => (dats m 0 c).arrAt 1 cfg0.N, fun c => (dats m 0 c).arrAt 2 cfg0.N,
    Cert.RepackIdeal.Value.run_blocks (F := Ideal) m g, ?_⟩
  refine (θ_run Cert.RepackRefIdeal.defs _ _).mono (fun _ h c => ?_) (Cert.RepackRefIdeal.Value.run (F := Ideal) m' g')
  refine ⟨(h c).1.trans ?_, (h c).2.1.trans ?_, (h c).2.2⟩
  · rw [hagree c]
    funext i
    idx_vars i
    exact (ref_dense _ _ _).trans (final_dense m c _ _).symm
  · rw [hagree c]
    funext i
    idx_vars i
    obtain rfl : i0 = 0 := Subsingleton.elim _ _
    exact (ref_acc _ _).trans (final_acc m c _).symm

/-- The reference's frame: it runs, its arguments end unchanged, and it has no counters. -/
theorem ref_frame : Cert.quiescent_RepackRefIdeal := by
  intro m ρ _
  exact (θ_run Cert.RepackRefIdeal.defs _ _).mono
    (fun r h => ⟨fun c => (h c).2.2, Idealize.ShloMosaic.sem_eq_zero_of_no_sems (by decide) r.2⟩)
    (Cert.RepackRefIdeal.Value.run (F := Ideal) m ρ)

end Cert.RepackIdeal.Hand
-- ==== Proof.InnerValue.lean ====
/-
  The inner-product call: one grid point multiplies 5000 rows of the packed items by the average row and adds
  up each group of sixteen columns; the array ends holding every item's inner product with the average.
-/
module

public import proofs.«01_k».proof.Defs
public import proofs.«01_k».proof.Proof.Gen.InnerIdeal.Value
public import proofs.«01_k».proof.Proof.Gen.InnerRefIdeal.Run
public import Idealize.ShloMosaic.Lib.Pipeline.ValueKit
public import Idealize.ShloMosaic.Lib.Pipeline.ReadBack
public import Idealize.ShloMosaic.Lib.Pointwise
public import proofs.«01_k».proof.Proof.Groups

@[expose] public section

set_option maxRecDepth 16384

noncomputable section

namespace Cert.InnerIdeal.Hand

open Cert.InnerIdeal Cert.InnerIdeal.Gen Cert.InnerIdeal.Value
open Idealize.ShloMosaic Idealize.ShloMosaic.TcCoe Idealize.SL.Sem
open Idealize.ShloMosaic.Pipeline (Dat)

variable (m : (ℓ : Loc nD τ sig) → Buf (Elt Ideal) ℓ)

/-- The table of the groups: one where the column lies in the group. -/
theorem group_word : ∀ (x : Fin 128) (j : Fin 8),
    BitVec.setWidth 32 (IntOp.cmpi CmpIPredicate.eq
      (Scalar.select
        (IntOp.andi
          (IntOp.cmpi CmpIPredicate.ne
            (IntOp.subi (BitVec.setWidth 32 (IntOp.cmpi CmpIPredicate.sgt (BitVec.ofNat 32 x.val) 0#32))
              (BitVec.setWidth 32 (IntOp.cmpi CmpIPredicate.slt (BitVec.ofNat 32 x.val) 0#32)))
            (Scalar.subi (Scalar.extui (Scalar.cmpi CmpIPredicate.sgt 16#32 0#32))
              (Scalar.extui (Scalar.cmpi CmpIPredicate.slt 16#32 0#32))))
          (IntOp.cmpi CmpIPredicate.ne (IntOp.remsi ArithUnit.vector (BitVec.ofNat 32 x.val) 16#32) 0#32))
        (IntOp.subi (IntOp.divsi ArithUnit.vector (BitVec.ofNat 32 x.val) 16#32) 1#32)
        (IntOp.divsi ArithUnit.vector (BitVec.ofNat 32 x.val) 16#32))
      (BitVec.ofNat 32 j.val)) = if x.val / 16 = j.val then 1#32 else 0#32 := by
  decide +kernel

/-- The average row the call keeps: at column `j`, the packed sums of the eight groups at `j`'s place, divided
    by the number of items. -/
def avgRow (acc : Fin 128 → EReal) (j : Fin 128) : EReal :=
  Ideal.div (∑ g : Fin 8, acc (Cert.Groups.col g ⟨j.val % 16, by omega⟩)) (Ideal.ofBits .f32 0x49742400#32)

/-- The remainder of a column by sixteen, as the call takes it. -/
theorem place_word : ∀ x : Fin 128,
    Scalar.select
      (IntOp.andi
        (IntOp.xori
          (IntOp.cmpi CmpIPredicate.slt
            (IntOp.remsi ArithUnit.vector (BitVec.ofNat 32 x.val)
              (Scalar.select (Scalar.cmpi CmpIPredicate.eq 16#32 0#32) 1#32 16#32))
            0#32)
          (Scalar.cmpi CmpIPredicate.slt
            (Scalar.select (Scalar.cmpi CmpIPredicate.eq 16#32 0#32) 1#32 16#32) 0#32))
        (IntOp.cmpi CmpIPredicate.ne
          (IntOp.remsi ArithUnit.vector (BitVec.ofNat 32 x.val)
            (Scalar.select (Scalar.cmpi CmpIPredicate.eq 16#32 0#32) 1#32 16#32))
          0#32))
      (IntOp.addi
        (IntOp.remsi ArithUnit.vector (BitVec.ofNat 32 x.val)
          (Scalar.select (Scalar.cmpi CmpIPredicate.eq 16#32 0#32) 1#32 16#32))
        (Scalar.select (Scalar.cmpi CmpIPredicate.eq 16#32 0#32) 1#32 16#32))
      (IntOp.remsi ArithUnit.vector (BitVec.ofNat 32 x.val)
        (Scalar.select (Scalar.cmpi CmpIPredicate.eq 16#32 0#32) 1#32 16#32)) = BitVec.ofNat 32 (x.val % 16) := by
  decide +kernel

/-- Two places are compared as numbers. -/
theorem place_eq : ∀ a b : Fin 16,
    BitVec.setWidth 32 (IntOp.cmpi CmpIPredicate.eq (BitVec.ofNat 32 a.val) (BitVec.ofNat 32 b.val))
      = if a.val = b.val then 1#32 else 0#32 := by
  decide +kernel

/-- What the first point computes from the packed sums is the average row. -/
theorem pay3_apply (v : Vec Ideal S1x128 .f32) (j : Fin 128) :
    k0_pay3 v (ix2 0 j) = avgRow (fun x => v (ix2 0 x)) j := by
  pointwise [Gen.k0_pay3]
  simp only [place_word]
  unfold avgRow
  rw [← Cert.Groups.sum_place (fun x => v (ix2 0 x)) ⟨j.val % 16, by omega⟩]
  congr 1
  refine Finset.sum_congr rfl fun x _ => ?_
  rw [← Cert.Groups.ofWord, ← place_eq ⟨x.val % 16, by omega⟩ ⟨j.val % 16, by omega⟩]

/-- The first point stores the average row in the scratch row. -/
theorem scratch_A (c : Dev nD) (t : Fin cfg0.N) (h0 : t.val % 25 = 0) (j : Fin 128) :
    (outsAt0 m c t.val t.isLt).2 (ix2 0 j) = avgRow (fun x => iblk m c 1 t (ix2 0 x)) j := by
  rw [outsAt0_A m c t h0]
  frame_out
  pointwise [Gen.k0_pay1]
  exact pay3_apply _ j

/-- One block of inner products from a block of packed items and the row kept. -/
theorem pay2_apply (x : Vec Ideal S5000x128 .f32) (v : Vec Ideal S1x128 .f32) (r : Fin 5000) (j : Fin 8) :
    k0_pay2 x v (ix2 r j) = ∑ d : Fin 16, x (ix2 r (Cert.Groups.col j d)) * v (ix2 0 (Cert.Groups.col j d)) := by
  pointwise [Gen.k0_pay2]
  simp only [group_word, Cert.Groups.ofWord]
  exact Cert.Groups.sum_group (fun x_1 => x (ix2 r x_1) * v (ix2 0 x_1)) j

/-- At a later point the block written is computed from the row kept. -/
theorem out_B (c : Dev nD) (t : Fin cfg0.N) (h0 : ¬ t.val % 25 = 0) :
    (outsAt0 m c t.val t.isLt).1 = k0_pay2 (iblk m c 0 t) (outsAt0 m c (t.val - 1) (Nat.lt_of_le_of_lt (Nat.sub_le _ _) t.isLt)).2 := by
  rw [outsAt0_B m c t h0]
  frame_out
  simp only [read_unread_whole]

/-- At the first point it is computed from the row just stored. -/
theorem out_A (c : Dev nD) (t : Fin cfg0.N) (h0 : t.val % 25 = 0) :
    (outsAt0 m c t.val t.isLt).1 = k0_pay2 (iblk m c 0 t) (k0_pay1 (k0_pay3 (iblk m c 1 t))) := by
  rw [outsAt0_A m c t h0]
  frame_out

/-- The packed sums every point reads are the whole second argument. -/
theorem iblk1 (c : Dev nD) (t : Fin cfg0.N) (j : Fin 128) :
    iblk m c 1 t (ix2 0 j) = m ((c : Thread nD τ).loc main_arg1) (ix2 0 j) := by
  have e : ∀ t : Fin cfg0.N, win0_1.index t = ![0, 0] := (by decide +kernel : ∀ t : Fin grid0.N, _)
  blk_ext [iblk, V, e t]

/-- The block of packed items at a point: rows `5000 t` on. -/
theorem iblk0 (c : Dev nD) (t : Fin cfg0.N) (r : Fin 5000) (j : Fin 128) (R : Fin 125000) (hR : R.val = 5000 * t.val + r.val) :
    iblk m c 0 t (ix2 r j) = m ((c : Thread nD τ).loc main_arg0) (ix2 R j) := by
  have e : ∀ t : Fin cfg0.N, win0_0.index t = ![t.val, 0] := (by decide +kernel : ∀ t : Fin grid0.N, _)
  blk_ext [iblk, V, e t]

/-- After every point the row kept is the average row. -/
theorem kept (c : Dev nD) : ∀ (n : ℕ) (hn : n < cfg0.N) (j : Fin 128),
    (outsAt0 m c n hn).2 (ix2 0 j) = avgRow (fun x => m ((c : Thread nD τ).loc main_arg1) (ix2 0 x)) j := by
  intro n
  induction n with
  | zero =>
    intro hn j
    rw [scratch_A m c ⟨0, hn⟩ rfl j]
    simp only [iblk1]
  | succ n ih =>
    intro hn j
    have hN : cfg0.N = 25 := N_0
    have h0 : ¬ (⟨n + 1, hn⟩ : Fin cfg0.N).val % 25 = 0 := by dsimp only; omega
    rw [outsAt0_B m c ⟨n + 1, hn⟩ h0]
    unfold sout0_B_0
    exact ih (Nat.lt_of_succ_lt hn) j

/-- The inner product of the packed item at row `R`, group `j`, with the average row. -/
def inner (dense : Vec Ideal S125000x128 .f32) (acc : Vec Ideal S1x128 .f32) (R : Fin 125000) (j : Fin 8) : EReal :=
  ∑ d : Fin 16, dense (ix2 R (Cert.Groups.col j d)) * avgRow (fun x => acc (ix2 0 x)) (Cert.Groups.col j d)

/-- What a point writes: the inner products of its rows. -/
theorem block (c : Dev nD) (t : Fin cfg0.N) (r : Fin 5000) (j : Fin 8) (R : Fin 125000) (hR : R.val = 5000 * t.val + r.val) :
    (outsAt0 m c t.val t.isLt).1 (ix2 r j)
      = inner (m ((c : Thread nD τ).loc main_arg0)) (m ((c : Thread nD τ).loc main_arg1)) R j := by
  have hk : ∀ v : Vec Ideal S1x128 .f32, (∀ x : Fin 128, v (ix2 0 x) = avgRow (fun x => m ((c : Thread nD τ).loc main_arg1) (ix2 0 x)) x) →
      k0_pay2 (iblk m c 0 t) v (ix2 r j) = inner (m ((c : Thread nD τ).loc main_arg0)) (m ((c : Thread nD τ).loc main_arg1)) R j := by
    intro v hv
    rw [pay2_apply]
    unfold inner
    refine Finset.sum_congr rfl fun d _ => ?_
    rw [hv, iblk0 m c t r _ R hR]
  by_cases h0 : t.val % 25 = 0
  · rw [out_A m c t h0]
    refine hk _ fun x => ?_
    pointwise [Gen.k0_pay1]
    rw [pay3_apply]
    simp only [iblk1]
  · rw [out_B m c t h0]
    exact hk _ fun x => kept m c _ _ x

/-- The array after the run holds every inner product. -/
theorem final (c : Dev nD) (R : Fin 125000) (j : Fin 8) :
    (dats m 0 c).arrAt 2 cfg0.N (ix2 R j)
      = inner (m ((c : Thread nD τ).loc main_arg0)) (m ((c : Thread nD τ).loc main_arg1)) R j := by
  have h : (dats m 0 c).arrAt 2 cfg0.N
      = fun i : S125000x8.Idx => inner (m ((c : Thread nD τ).loc main_arg0)) (m ((c : Thread nD τ).loc main_arg1)) (i 0) (i 1) := by
    refine (dats m 0 c).arrAt_eq_of_covers 2 _ (by decide +kernel) fun t hf y => ?_
    have e : ∀ t : Fin cfg0.N, win0_2.index t = ![t.val, 0] := (by decide +kernel : ∀ t : Fin grid0.N, _)
    blk_simp
    rw [after0_2]
    idx_vars y
    have hN : cfg0.N = 25 := N_0
    have ht := t.isLt
    have hb : 5000 * t.val + y0.val < 125000 := by
      have : t.val < 25 := lt_of_lt_of_eq ht hN
      omega
    rw [block m c t y0 y1 ⟨5000 * t.val + y0.val, hb⟩ rfl]
    congr 1
    · apply Fin.ext
      show _ = win0_2.index t (0 : Fin 2) * 5000 + 1 * y0.val
      rw [e t]
      show 5000 * t.val + y0.val = t.val * 5000 + 1 * y0.val
      omega
    · apply Fin.ext
      show _ = win0_2.index t (1 : Fin 2) * 8 + 1 * y1.val
      rw [e t]
      show y1.val = 0 * 8 + 1 * y1.val
      omega
  rw [h]
  rfl

/-- The reference's composed term at an index is the same inner product. -/
theorem ref_apply (a0 : Vec Ideal S125000x128 .f32) (a1 : Vec Ideal S1x128 .f32) (R : Fin 125000) (j : Fin 8) :
    (Host.dotGeneral (φ₁ := .f32) Cert.InnerRefIdeal.dot_S125000x8x16_S16_S125000x8_2_0_01_n_n_n none
      (shapeCast _ a0 Cert.InnerRefIdeal.Gen.shapeCasts_S125000x128_S125000x8x16)
      (Host.divf (Host.reduceAdd (shapeCast _ a1 Cert.InnerRefIdeal.Gen.shapeCasts_S1x128_S8x16)
        (constant Cert.InnerRefIdeal.S_ .f32 0x00000000#32) Cert.InnerRefIdeal.Gen.reducesTo_S8x16_S16_d0 Cert.InnerRefIdeal.Gen.h_S_)
        (broadcastInDim Cert.InnerRefIdeal.S16 ![] Cert.InnerRefIdeal.Gen.bcast_S_S16 (constant Cert.InnerRefIdeal.S_ .f32 0x49742400#32)))
      : FVec Ideal Cert.InnerRefIdeal.S125000x8 .f32) (ix2 R j) = inner a0 a1 R j := by
  pointwise
  unfold inner avgRow
  refine Finset.sum_congr rfl fun d _ => ?_
  have hd : (⟨(Cert.Groups.col j d).val % 16, by omega⟩ : Fin 16) = d := Fin.ext (by simp only [Cert.Groups.col]; omega)
  rw [hd]
  have hcol : ∀ g : Fin 8, ∀ h, (⟨g.val * 16 + d.val, h⟩ : Fin 128) = Cert.Groups.col g d :=
    fun g h => Fin.ext (by show g.val * 16 + d.val = 16 * g.val + d.val; omega)
  simp only [hcol]

/-- The claim: the call and the reference agree on every inner product. -/
theorem algebraic : Cert.algebraic_InnerIdeal_InnerRefIdeal := by
  intro m g m' g' _ hagree
  refine ⟨fun c => (dats m 0 c).arrAt 2 cfg0.N, Cert.InnerIdeal.Value.run_blocks (F := Ideal) m g, ?_⟩
  refine (θ_run Cert.InnerRefIdeal.defs _ _).mono (fun _ h c => ?_) (Cert.InnerRefIdeal.Value.run (F := Ideal) m' g')
  refine ⟨(h c).1.trans ?_, (h c).2⟩
  rw [(hagree c).1, (hagree c).2]
  funext i
  idx_vars i
  exact (ref_apply _ _ _ _).trans (final m c _ _).symm

/-- The reference's frame: it runs, its arguments end unchanged, and it has no counters. -/
theorem ref_frame : Cert.quiescent_InnerRefIdeal := by
  intro m ρ _
  exact (θ_run Cert.InnerRefIdeal.defs _ _).mono
    (fun r h => ⟨fun c => (h c).2, Idealize.ShloMosaic.sem_eq_zero_of_no_sems (by decide) r.2⟩)
    (Cert.InnerRefIdeal.Value.run (F := Ideal) m ρ)

end Cert.InnerIdeal.Hand
-- ==== Proof.SelectRun.lean ====
module

public import proofs.«01_k».proof.Proof.Gen.SelectIdeal.Launch
public import proofs.«01_k».proof.Proof.Gen.SelectIdeal.Points
public import proofs.«01_k».proof.Proof.Gen.SelectIdeal.Skeleton
public import Idealize.ShloMosaic.Lib.Ring
public import Idealize.ShloMosaic.Lib.Tactic
public import Idealize.ShloMosaic.Lib.WordCmp
public import Idealize.ShloMosaic.Lib.Pipeline.FrameBody
public import Idealize.ShloMosaic.Lib.VecWindow
public import Idealize.ShloMosaic.Lib.Pipeline.Value
public import Idealize.ShloMosaic.Lib.Pointwise

@[expose] public section

set_option maxRecDepth 16384

noncomputable section

namespace Cert.SelectIdeal.Hand

open Cert.SelectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the loops compute -/

/-- The floor of the average of two words, as the kernel computes it without overflow. -/
def midW (lo hi : BitVec 32) : BitVec 32 :=
  Scalar.addi (Scalar.addi (Scalar.shrsi lo 1#32) (Scalar.shrsi hi 1#32)) (Scalar.andi (Scalar.andi lo hi) 1#32)

/-- The number of codes at or below the average, as a word. -/
def countMid (v1 : IVec S8192x128 32) (lo hi : BitVec 32) : BitVec 32 :=
  extractAt ![0, 0, 0] (k0_pay1 v1 lo hi) inpos_S1x1x1_p0_0_0

/-- One step of the search for the threshold. -/
def nextW (v1 : IVec S8192x128 32) (p : BitVec 32 × BitVec 32) : BitVec 32 × BitVec 32 :=
  (Scalar.select (Scalar.cmpi .sge (countMid v1 p.1 p.2) 100#32) p.1 (Scalar.addi (midW p.1 p.2) 1#32),
    Scalar.select (Scalar.cmpi .sge (countMid v1 p.1 p.2) 100#32) (midW p.1 p.2) p.2)

/-- The search for the threshold, with at most so many steps. -/
def loopW (v1 : IVec S8192x128 32) : ℕ → BitVec 32 × BitVec 32 → BitVec 32 × BitVec 32
  | 0, p => p
  | k + 1, p => if Scalar.cmpi .slt p.1 p.2 = 1#1 then loopW v1 k (nextW v1 p) else p

/-- How far the two ends of the search are apart. -/
def gap (p : BitVec 32 × BitVec 32) : ℕ := (p.2.toInt - p.1.toInt).toNat

/-- The comparison of two words, read as integers. -/
theorem slt_iff (a b : BitVec 32) : Scalar.cmpi .slt a b = 1#1 ↔ a.toInt < b.toInt := by
  unfold Scalar.cmpi IntOp.cmpi
  simp only [BitVec.slt]
  by_cases h : a.toInt < b.toInt <;> simp [h]

/-- The average, read as an integer. -/
theorem midW_toInt (lo hi : BitVec 32) : (midW lo hi).toInt = (lo.toInt + hi.toInt) / 2 := by
  have h1 := lo.toInt_lt
  have h2 := hi.toInt_lt
  have h3 := lo.le_toInt
  have h4 := hi.le_toInt
  have s1 : (Scalar.shrsi lo 1#32).toInt = lo.toInt / 2 := by
    show (lo.sshiftRight 1).toInt = _
    rw [BitVec.toInt_sshiftRight, Int.shiftRight_eq_div_pow]; rfl
  have s2 : (Scalar.shrsi hi 1#32).toInt = hi.toInt / 2 := by
    show (hi.sshiftRight 1).toInt = _
    rw [BitVec.toInt_sshiftRight, Int.shiftRight_eq_div_pow]; rfl
  have s3 : (Scalar.andi (Scalar.andi lo hi) 1#32).toInt = if lo.toInt % 2 = 1 ∧ hi.toInt % 2 = 1 then 1 else 0 := by
    have e : (Scalar.andi (Scalar.andi lo hi) 1#32).toNat = (lo.toNat % 2) * (hi.toNat % 2) := by
      show (lo &&& hi &&& 1#32).toNat = _
      rw [BitVec.toNat_and, BitVec.toNat_and, show (1#32 : BitVec 32).toNat = 1 from rfl, Nat.and_one_is_mod, Nat.and_mod_two_pow (n := 1)]
      rcases Nat.mod_two_eq_zero_or_one lo.toNat with h | h <;> rcases Nat.mod_two_eq_zero_or_one hi.toNat with h' | h' <;> simp [h, h']
    have l1 : lo.toInt % 2 = (lo.toNat % 2 : ℕ) := by rw [BitVec.toInt_eq_toNat_cond]; split <;> omega
    have l2 : hi.toInt % 2 = (hi.toNat % 2 : ℕ) := by rw [BitVec.toInt_eq_toNat_cond]; split <;> omega
    rw [l1, l2, BitVec.toInt_eq_toNat_cond, e]
    rcases Nat.mod_two_eq_zero_or_one lo.toNat with h | h <;> rcases Nat.mod_two_eq_zero_or_one hi.toNat with h' | h' <;> simp [h, h']
  unfold midW
  show ((Scalar.shrsi lo 1#32 + Scalar.shrsi hi 1#32) + Scalar.andi (Scalar.andi lo hi) 1#32).toInt = _
  rw [BitVec.toInt_add, BitVec.toInt_add, s1, s2, s3]
  rw [Int.bmod_eq_of_le (n := lo.toInt / 2 + hi.toInt / 2) (by omega) (by omega)]
  split <;> rw [Int.bmod_eq_of_le] <;> omega

theorem gap_next (v1 : IVec S8192x128 32) (p : BitVec 32 × BitVec 32) (h : Scalar.cmpi .slt p.1 p.2 = 1#1) :
    gap (nextW v1 p) < gap p := by
  rw [slt_iff] at h
  have hm := midW_toInt p.1 p.2
  have h1 := p.1.toInt_lt
  have h2 := p.2.toInt_lt
  have h3 := p.1.le_toInt
  have h4 := p.2.le_toInt
  unfold gap nextW
  have hs : (Scalar.addi (midW p.1 p.2) 1#32).toInt = (midW p.1 p.2).toInt + 1 := by
    show (midW p.1 p.2 + 1#32).toInt = _
    rw [BitVec.toInt_add, show (1#32 : BitVec 32).toInt = 1 from rfl, Int.bmod_eq_of_le] <;> omega
  unfold Scalar.select
  split
  · simp only; rw [hm]; omega
  · simp only; rw [hs, hm]; omega

/-! ## The loop's label -/

/-- One turn of the loop: the search's step, or its end. -/
theorem while_eq (i : grid0.Coords) (v1 : IVec S8192x128 32) (p : BitVec 32 × BitVec 32) :
    cc0_while1 (F := F) i v1 p.1 p.2
      = if Scalar.cmpi .slt p.1 p.2 = 1#1 then
          Prog.op (TpuEff.call (1 : (Λ₀ F).Label) ⟨i, v1, (nextW v1 p).1, (nextW v1 p).2⟩) Prog.ret
        else Prog.ret p := by
  rw [cc0_while1_eq_skeleton]
  unfold cc0_while1_skel nextW countMid
  generalize extractAt ![0, 0, 0] (k0_pay1 v1 p.1 p.2) inpos_S1x1x1_p0_0_0 = n
  unfold midW
  rfl

theorem loopW_zero (v1 : IVec S8192x128 32) (p : BitVec 32 × BitVec 32) : loopW v1 0 p = p := by
  unfold loopW; rfl

theorem loopW_step (v1 : IVec S8192x128 32) (k : ℕ) (p : BitVec 32 × BitVec 32) (h : Scalar.cmpi .slt p.1 p.2 = 1#1) :
    loopW v1 (k + 1) p = loopW v1 k (nextW v1 p) := by
  rw [loopW, if_pos h]

theorem loopW_stop (v1 : IVec S8192x128 32) (k : ℕ) (p : BitVec 32 × BitVec 32) (h : ¬ Scalar.cmpi .slt p.1 p.2 = 1#1) :
    loopW v1 k p = p := by
  cases k with
  | zero => exact loopW_zero v1 p
  | succ k => rw [loopW, if_neg h]

/-- A call of the label, answered by its body. -/
theorem call_le (c : Dev nD) (E : Set ℕ) (k : ℕ) (a : (Λ₀ F).Args 1) (K : BitVec 32 × BitVec 32 → sProp 𝕄) (P : sProp 𝕄)
    (h : P ⊢ wp frame (wpE' (defs₀ (F := F)) Variants.nat (c : Thread nD τ) (some k) (PendingWaitsCtx.empty.descend none)) E
      (defs₀ (F := F) (c : Thread nD τ).2 (1 : (Λ₀ F).Label) a) K) :
    P ⊢ wp frame (wpE (defs₀ (F := F)) Variants.nat (c : Thread nD τ) (some (k + 1))) E
      (Prog.op (TpuEff.call (1 : (Λ₀ F).Label) a) Prog.ret) K := by
  refine BIBase.Entails.trans h ?_
  refine BIBase.Entails.trans ?_ (wp_call (Λ := Λ₀ F) (ℓ := (1 : (Λ₀ F).Label)) (a := a) (k := Prog.ret) (Q := K) (Γ := .empty) (defs := defs₀ (F := F))
        Variants.nat (c : Thread nD τ) (some (k + 1)) E k (fun u hu => by cases hu; exact Nat.lt_succ_self k))
  generalize defs₀ (F := F) (c : Thread nD τ).2 (1 : (Λ₀ F).Label) a = prog
  refine wp_mono _ _ _ fun x => ?_
  iintro H
  rw [wp_ret]; imodintro
  iexact H

/-- The loop's label returns what the search computes: by induction on how far the ends are apart. -/
theorem while_le (c : Dev nD) (E : Set ℕ) (i : grid0.Coords) (v1 : IVec S8192x128 32) :
    ∀ k (p : BitVec 32 × BitVec 32), gap p ≤ k → ∀ K : BitVec 32 × BitVec 32 → sProp 𝕄, K (loopW v1 k p)
      ⊢ wp frame (wpE' (defs₀ (F := F)) Variants.nat (c : Thread nD τ) (some k) (PendingWaitsCtx.empty.descend none)) E
          (defs₀ (F := F) (c : Thread nD τ).2 (1 : (Λ₀ F).Label) ⟨i, v1, p.1, p.2⟩) K := by
  intro k
  induction k with
  | zero =>
    intro p hp K
    show _ ⊢ wp frame (wpE (defs₀ (F := F)) Variants.nat (c : Thread nD τ) (some 0)) E (cc0_while1 i v1 p.1 p.2) K
    have htest : ¬ Scalar.cmpi .slt p.1 p.2 = 1#1 := by
      rw [slt_iff]; unfold gap at hp; omega
    rw [while_eq, if_neg htest, loopW_zero]
    iintro H
    rw [wp_ret]; imodintro
    iexact H
  | succ k ih =>
    intro p hp K
    show _ ⊢ wp frame (wpE (defs₀ (F := F)) Variants.nat (c : Thread nD τ) (some (k + 1))) E (cc0_while1 i v1 p.1 p.2) K
    rw [while_eq]
    by_cases htest : Scalar.cmpi .slt p.1 p.2 = 1#1
    · have hg : gap (nextW v1 p) ≤ k := by have := gap_next v1 p htest; omega
      rw [if_pos htest, loopW_step v1 k p htest]
      generalize nextW v1 p = q at hg ⊢
      have h2 := ih q hg K
      exact call_le c E k _ K _ h2
    · rw [if_neg htest, loopW_stop v1 (k + 1) p htest]
      iintro H
      rw [wp_ret]; imodintro
      iexact H

/-- The same of two ends. -/
theorem while_pair (c : Dev nD) (E : Set ℕ) (i : grid0.Coords) (v1 : IVec S8192x128 32) (lo hi : BitVec 32)
    (K : BitVec 32 × BitVec 32 → sProp 𝕄) : K (loopW v1 (gap (lo, hi)) (lo, hi))
      ⊢ wp frame (wpE' (defs₀ (F := F)) Variants.nat (c : Thread nD τ) (some (gap (lo, hi))) (PendingWaitsCtx.empty.descend none)) E
          (defs₀ (F := F) (c : Thread nD τ).2 (1 : (Λ₀ F).Label) ⟨i, v1, lo, hi⟩) K :=
  while_le c E i v1 (gap (lo, hi)) (lo, hi) le_rfl K

/-- A call of the label from outside the loop, on any way to go on. -/
theorem call_none (c : Dev nD) (E : Set ℕ) (n : ℕ) (a : (Λ₀ F).Args 1) (r : BitVec 32 × BitVec 32)
    (k : BitVec 32 × BitVec 32 → Prog (TpuEff nD τ sig (Elt F) (Λ₀ F) .tc) PUnit) (Q : PUnit → sProp 𝕄)
    (h : ∀ K : BitVec 32 × BitVec 32 → sProp 𝕄, K r
      ⊢ wp frame (wpE' (defs₀ (F := F)) Variants.nat (c : Thread nD τ) (some n) (PendingWaitsCtx.empty.descend none)) E
          (defs₀ (F := F) (c : Thread nD τ).2 (1 : (Λ₀ F).Label) a) K) :
    wp frame (wpE (defs₀ (F := F)) Variants.nat (c : Thread nD τ) none) E (k r) Q
      ⊢ wp frame (wpE (defs₀ (F := F)) Variants.nat (c : Thread nD τ) none) E (Prog.op (TpuEff.call (1 : (Λ₀ F).Label) a) k) Q := by
  refine BIBase.Entails.trans ?_ (wp_call (Λ := Λ₀ F) (ℓ := (1 : (Λ₀ F).Label)) (a := a) (k := k) (Q := Q) (Γ := .empty) (defs := defs₀ (F := F))
        Variants.nat (c : Thread nD τ) none E n (fun u hu => nomatch hu))
  generalize defs₀ (F := F) (c : Thread nD τ).2 (1 : (Λ₀ F).Label) a = prog at h ⊢
  exact h (fun x => wp frame (wpE (defs₀ (F := F)) Variants.nat (c : Thread nD τ) none) E (k x) Q)

/-! ## The words the body computes -/

/-- The search for the threshold starts one below the least code. -/
def loW (v0 : Vec F S8192x128 .i32) : BitVec 32 := Scalar.subi (extractAt ![0, 0, 0] (k0_pay3 v0) inpos_S1x1x1_p0_0_0) 1#32
/-- It starts at the greatest of the columns' least codes. -/
def hiW (v0 : Vec F S8192x128 .i32) : BitVec 32 := extractAt ![0, 0] (k0_pay4 v0) inpos_S1x1_p0_0

/-- The threshold: where the search ends. -/
def thrOf (lw : IVec S8192x128 32 → ℕ → BitVec 32 × BitVec 32 → BitVec 32 × BitVec 32) (v1 : IVec S8192x128 32) (p : BitVec 32 × BitVec 32) : BitVec 32 :=
  (lw v1 (gap p) p).2

/-- The threshold of the codes. -/
def thr (v0 : Vec F S8192x128 .i32) : BitVec 32 := thrOf loopW (k0_pay2 v0) (loW v0, hiW v0)

/-- The number of codes below a threshold, as a word. -/
def belowW (v0 : Vec F S8192x128 .i32) (t : BitVec 32) : BitVec 32 := extractAt ![0, 0, 0] (k0_pay5 v0 t) inpos_S1x1x1_p0_0_0
/-- The number of codes at or below it. -/
def uptoW (v0 : Vec F S8192x128 .i32) (t : BitVec 32) : BitVec 32 := extractAt ![0, 0, 0] (k0_pay6 v0 t) inpos_S1x1x1_p0_0_0

/-- The quotients and remainders the index of an item is made of. -/
def ix10 : IVec S8192x128 32 := k0_pay10 k0_pay7 8#32 k0_pay8 k0_pay9 (Scalar.extui (Scalar.cmpi .sgt 8#32 0#32)) 0#32
def ix11 : IVec S8192x128 32 := k0_pay11 k0_pay7
def ix12 : IVec S8192x128 32 := k0_pay12 k0_pay7 8#32 k0_pay8 k0_pay9 (Scalar.extui (Scalar.cmpi .sgt 8#32 0#32)) 0#32
def ix13 : IVec S8192x128 1 := k0_pay13 k0_pay7 8#32 k0_pay8 k0_pay9 (Scalar.extui (Scalar.cmpi .sgt 8#32 0#32)) 0#32
def ix14 : IVec S8192x128 32 := k0_pay14 k0_pay7 8#32 k0_pay8 k0_pay9 (Scalar.extui (Scalar.cmpi .sgt 8#32 0#32)) 0#32

/-- The floor of half the sum of two words, as the kernel divides. -/
def halfW (lo hi : BitVec 32) : BitVec 32 :=
  Scalar.select
    (Scalar.andi
      (Scalar.cmpi .ne
        (Scalar.subi (Scalar.extui (Scalar.cmpi .sgt (Scalar.addi lo hi) 0#32)) (Scalar.extui (Scalar.cmpi .slt (Scalar.addi lo hi) 0#32)))
        (Scalar.subi (Scalar.extui (Scalar.cmpi .sgt 2#32 0#32)) (Scalar.extui (Scalar.cmpi .slt 2#32 0#32))))
      (Scalar.cmpi .ne (Scalar.remsi (Scalar.addi lo hi) 2#32) 0#32))
    (Scalar.subi (Scalar.divsi (Scalar.addi lo hi) 2#32) 1#32) (Scalar.divsi (Scalar.addi lo hi) 2#32)

/-- The number of ties at or below half the sum, as a word. -/
def countTie (v1 : IVec S8192x128 32) (t : BitVec 32) (p : BitVec 32 × BitVec 32) : BitVec 32 :=
  extractAt ![0, 0, 0] (k0_pay16 v1 t ix10 ix11 ix12 ix13 ix14 p.1 p.2) inpos_S1x1x1_p0_0_0

/-- One step of the search for the last tie taken. -/
def nextTie (v1 : IVec S8192x128 32) (t need : BitVec 32) (p : BitVec 32 × BitVec 32) : BitVec 32 × BitVec 32 :=
  (Scalar.select (Scalar.cmpi .sge (countTie v1 t p) need) p.1 (Scalar.addi (halfW p.1 p.2) 1#32),
    Scalar.select (Scalar.cmpi .sge (countTie v1 t p) need) (halfW p.1 p.2) p.2)

/-- Twenty steps of a search. -/
def lastOf (g : BitVec 32 × BitVec 32 → BitVec 32 × BitVec 32) : BitVec 32 :=
  (Scf.fold (n := k0_t1_loop.trips) (fun _ p => g p) (0#32, 999999#32)).2

/-- The last tie taken, by twenty steps. -/
def lastTie (v1 : IVec S8192x128 32) (t need : BitVec 32) : BitVec 32 := lastOf (nextTie v1 t need)

/-- Whether the codes at or below the threshold are exactly a hundred. -/
def exactW (v0 : Vec F S8192x128 .i32) (t : BitVec 32) : Prop :=
  Scalar.cmpi .ne (Scalar.extui (Scalar.cmpi .eq (uptoW v0 t) 100#32) : BitVec 32) 0#32 = 1#1

instance (v0 : Vec F S8192x128 .i32) (t : BitVec 32) : Decidable (exactW v0 t) := by unfold exactW; infer_instance

/-- The last index taken among the ties of the threshold. -/
def lastW (v0 : Vec F S8192x128 .i32) (t : BitVec 32) : BitVec 32 :=
  if exactW v0 t then 999999#32 else lastTie (k0_pay2 v0) t (Scalar.subi 100#32 (belowW v0 t))

/-- What the body stores. -/
def maskW (v0 : Vec F S8192x128 .i32) : Vec F S8192x128 .f32 :=
  k0_pay17 (F := F) (k0_pay2 v0) (thr v0) ix10 ix11 ix12 ix13 ix14 (lastW v0 (thr v0))

/-- The second loop's trip is a step of the search. -/
theorem trip_eq (i : grid0.Coords) (arg1 : Memref sig .tc .vmem S8192x128 .i32) (harg1 : arg1.IsWhole)
    (arg2 : Memref sig .tc .vmem S8192x128 .f32) (harg2 : arg2.IsWhole) (v1 : IVec S8192x128 32) (t need : BitVec 32)
    (k : Fin k0_t1_loop.trips) (p : BitVec 32 × BitVec 32) :
    k0_t1_body (F := F) i arg1 harg1 arg2 harg2 v1 t need ix10 ix11 ix12 ix13 ix14 k p = Prog.ret (nextTie v1 t need p) := by
  obtain ⟨a, b⟩ := p
  unfold k0_t1_body nextTie countTie halfW
  dsimp only
  generalize extractAt ![0, 0, 0] (k0_pay16 v1 t ix10 ix11 ix12 ix13 ix14 a b) inpos_S1x1x1_p0_0_0 = n
  rfl

/-- A first part made of two steps, then the rest, then nothing. -/
theorem seq_first {σ1 β : Type} {α1 α2 : Type} (e1 : TpuEff nD τ sig (Elt F) (Λ₀ F) .tc α1) (e2 : α1 → TpuEff nD τ sig (Elt F) (Λ₀ F) .tc α2)
    (g : α1 → α2 → σ1) (p1 : Prog (TpuEff nD τ sig (Elt F) (Λ₀ F) .tc) σ1)
    (h1 : p1 = Prog.op e1 fun v => Prog.op (e2 v) fun r => Prog.ret (g v r)) (K : σ1 → Prog (TpuEff nD τ sig (Elt F) (Λ₀ F) .tc) β) (G : β → Prog (TpuEff nD τ sig (Elt F) (Λ₀ F) .tc) β) :
    ((p1 >>= K) >>= G) = Prog.op e1 fun v => Prog.op (e2 v) fun r => (K (g v r) >>= G) := by
  subst h1; rfl

/-- A part that only computes, then the rest. -/
theorem seq_pure {σ β : Type} (v : σ) (p : Prog (TpuEff nD τ sig (Elt F) (Λ₀ F) .tc) σ) (h : p = Prog.ret v)
    (K : σ → Prog (TpuEff nD τ sig (Elt F) (Λ₀ F) .tc) β) (G : β → Prog (TpuEff nD τ sig (Elt F) (Λ₀ F) .tc) β) :
    ((p >>= K) >>= G) = (K v >>= G) := by
  subst h; rfl

/-- A choice between a word and a loop's second word, then a load and a store, then nothing. -/
theorem seq_last {α1 α2 : Type} (cond : Prop) [Decidable cond] (w : BitVec 32) (lp : Prog (TpuEff nD τ sig (Elt F) (Λ₀ F) .tc) (BitVec 32 × BitVec 32))
    (e1 : TpuEff nD τ sig (Elt F) (Λ₀ F) .tc α1) (e2 : BitVec 32 → TpuEff nD τ sig (Elt F) (Λ₀ F) .tc α2) :
    ((if cond then (pure w >>= fun v => Prog.lift e1 >>= fun _ => Prog.lift (e2 v) >>= fun _ => pure PUnit.unit)
      else lp >>= fun p => match p with
        | (_, y) => pure y >>= fun v => Prog.lift e1 >>= fun _ => Prog.lift (e2 v) >>= fun _ => (pure PUnit.unit : Prog (TpuEff nD τ sig (Elt F) (Λ₀ F) .tc) PUnit))
        >>= fun _ => pure PUnit.unit)
      = ((if cond then (Prog.ret w : Prog (TpuEff nD τ sig (Elt F) (Λ₀ F) .tc) (BitVec 32)) else lp >>= fun p => Prog.ret p.2)
        >>= fun v => Prog.op e1 fun _ => Prog.op (e2 v) fun _ => Prog.ret PUnit.unit) := by
  by_cases h : cond
  · rw [if_pos h, if_pos h]; rfl
  · rw [if_neg h, if_neg h]
    exact (Prog.bind_assoc lp _ _).trans (Eq.trans (congrArg (Prog.bind lp) (funext fun p => by obtain ⟨x, y⟩ := p; rfl)) (Prog.bind_assoc lp _ _).symm)

/-- The first part of the body: a load, the first search and the counts at its end. -/
theorem part1_eq (i : grid0.Coords) (arg1 : Memref sig .tc .vmem S8192x128 .i32) (harg1 : arg1.IsWhole)
    (arg2 : Memref sig .tc .vmem S8192x128 .f32) (harg2 : arg2.IsWhole) :
    k0_part1 (F := F) i arg1 harg1 arg2 harg2
      = Prog.op (.load arg1 (Rect.unit (s := S8192x128) ![0, 0] S8192x128.size inb_S8192x128_S8192x128_0_0).toLoadRect (View.loadsAt_vmem h_S8192x128))
        fun v0 : Vec F S8192x128 .i32 => Prog.op (TpuEff.call (1 : (Λ₀ F).Label) ⟨i, k0_pay2 v0, loW v0, hiW v0⟩)
        fun r : BitVec 32 × BitVec 32 => Prog.ret ⟨k0_pay2 v0, r.2, Scalar.subi 100#32 (belowW v0 r.2), uptoW v0 r.2, k0_pay7, 8#32, k0_pay8, k0_pay9,
          Scalar.extui (Scalar.cmpi .sgt 8#32 0#32), 0#32⟩ := by
  rw [k0_part1_eq_skeleton]; delta k0_part1_skel
  delta loW hiW belowW uptoW
  generalize k0_pay2 (F := F) = f2
  generalize k0_pay3 (F := F) = f3
  generalize k0_pay4 (F := F) = f4
  generalize k0_pay5 (F := F) = f5
  generalize k0_pay6 (F := F) = f6
  generalize k0_pay7 = f7
  generalize k0_pay8 = f8
  generalize k0_pay9 = f9
  rfl

/-- The second part of the body: the quotients and remainders. -/
theorem part2_eq (i : grid0.Coords) (arg1 : Memref sig .tc .vmem S8192x128 .i32) (harg1 : arg1.IsWhole)
    (arg2 : Memref sig .tc .vmem S8192x128 .f32) (harg2 : arg2.IsWhole) :
    k0_part2 (F := F) i arg1 harg1 arg2 harg2 k0_pay7 8#32 k0_pay8 k0_pay9 (Scalar.extui (Scalar.cmpi .sgt 8#32 0#32)) 0#32
      = Prog.ret ⟨ix10, ix11, ix12, ix13, ix14⟩ := by
  rw [k0_part2_eq_skeleton]; delta k0_part2_skel
  delta ix10 ix11 ix12 ix13 ix14
  generalize k0_pay7 = f7
  generalize k0_pay8 = f8
  generalize k0_pay9 = f9
  generalize k0_pay10 = f10
  generalize k0_pay11 = f11
  generalize k0_pay12 = f12
  generalize k0_pay13 = f13
  generalize k0_pay14 = f14
  rfl

/-- The body as one line of steps. -/
theorem body_eq (i : grid0.Coords) (arg1 : Memref sig .tc .vmem S8192x128 .i32) (harg1 : arg1.IsWhole)
    (arg2 : Memref sig .tc .vmem S8192x128 .f32) (harg2 : arg2.IsWhole) :
    cc0__sel_body (F := F) i arg1 harg1 arg2 harg2
      = Prog.op (.load arg1 (Rect.unit (s := S8192x128) ![0, 0] S8192x128.size inb_S8192x128_S8192x128_0_0).toLoadRect (View.loadsAt_vmem h_S8192x128))
        fun v0 : Vec F S8192x128 .i32 => Prog.op (TpuEff.call (1 : (Λ₀ F).Label) ⟨i, k0_pay2 v0, loW v0, hiW v0⟩)
        fun r : BitVec 32 × BitVec 32 =>
          (if Scalar.cmpi .ne (Scalar.extui (Scalar.cmpi .eq (uptoW v0 r.2) 100#32) : BitVec 32) 0#32 = 1#1 then (Prog.ret 999999#32 : Prog (TpuEff nD τ sig (Elt F) (Λ₀ F) .tc) (BitVec 32)) else
            Scf.Loop.for k0_t1_loop k0_t1_ok (0#32, 999999#32) (k0_t1_body i arg1 harg1 arg2 harg2 (k0_pay2 v0) r.2 (Scalar.subi 100#32 (belowW v0 r.2)) ix10 ix11 ix12 ix13 ix14)
              >>= fun p : BitVec 32 × BitVec 32 => Prog.ret p.2)
          >>= fun v122 : BitVec 32 =>
        Prog.op (.load arg2 (Rect.unit (s := S8192x128) ![0, 0] S8192x128.size inb_S8192x128_S8192x128_0_0).toLoadRect (View.loadsAt_vmem h_S8192x128))
        fun _ : Vec F S8192x128 .f32 => Prog.op (.store arg2 (Rect.unit (s := S8192x128) ![0, 0] S8192x128.size inb_S8192x128_S8192x128_0_0)
          (k0_pay17 (F := F) (k0_pay2 v0) r.2 ix10 ix11 ix12 ix13 ix14 v122) Finset.univ (View.stores_vmem_bits_univ h_S8192x128 rfl) (.inl rfl))
        fun _ : PUnit => Prog.ret ⟨⟩ := by
  rw [cc0__sel_body_eq_skeleton]; delta cc0__sel_body_skel
  rw [k0_part3_eq_skeleton]; delta k0_part3_skel
  have h1 := part1_eq (F := F) i arg1 harg1 arg2 harg2
  have h2 := part2_eq (F := F) i arg1 harg1 arg2 harg2
  generalize loW (F := F) = fl at h1 ⊢
  generalize hiW (F := F) = fh at h1 ⊢
  generalize belowW (F := F) = f5 at h1 ⊢
  generalize uptoW (F := F) = f6 at h1 ⊢
  generalize ix10 = j10 at h2 ⊢
  generalize ix11 = j11 at h2 ⊢
  generalize ix12 = j12 at h2 ⊢
  generalize ix13 = j13 at h2 ⊢
  generalize ix14 = j14 at h2 ⊢
  generalize k0_pay2 (F := F) = f2 at h1 ⊢
  generalize k0_pay7 = f7 at h1 h2
  generalize k0_pay8 = f8 at h1 h2
  generalize k0_pay9 = f9 at h1 h2
  generalize k0_pay17 (F := F) = f17
  generalize k0_t1_body (F := F) = b1
  generalize k0_part1 (F := F) = q1 at h1 ⊢
  generalize k0_part2 (F := F) = q2 at h2 ⊢
  refine (seq_first _ _ _ _ h1 _ _).trans ?_
  refine congrArg (Prog.op _) (funext fun v0 => congrArg (Prog.op _) (funext fun r => ?_))
  refine (seq_pure _ _ h2 _ _).trans ?_
  exact seq_last _ _ _ _ _

/-- A choice settled one way. -/
theorem choice_pos {α : Type} {β : Type} (cond : Prop) [Decidable cond] (h : cond) (a : α) (X : Prog (TpuEff nD τ sig (Elt F) (Λ₀ F) .tc) α)
    (k : α → Prog (TpuEff nD τ sig (Elt F) (Λ₀ F) .tc) β) : ((if cond then Prog.ret a else X) >>= k) = k a := by
  rw [if_pos h]; rfl

/-- A choice settled the other way, by a counted loop that neither reads nor writes. -/
theorem choice_neg {β : Type} (cond : Prop) [Decidable cond] (h : ¬ cond) (a : BitVec 32)
    (body : Fin k0_t1_loop.trips → BitVec 32 × BitVec 32 → Prog (TpuEff nD τ sig (Elt F) (Λ₀ F) .tc) (BitVec 32 × BitVec 32))
    (g : BitVec 32 × BitVec 32 → BitVec 32 × BitVec 32) (hg : ∀ k p, body k p = Prog.ret (g p))
    (k : BitVec 32 → Prog (TpuEff nD τ sig (Elt F) (Λ₀ F) .tc) β) :
    ((if cond then (Prog.ret a : Prog (TpuEff nD τ sig (Elt F) (Λ₀ F) .tc) (BitVec 32)) else
        Scf.Loop.for k0_t1_loop k0_t1_ok (0#32, 999999#32) body >>= fun p : BitVec 32 × BitVec 32 => Prog.ret p.2) >>= k)
      = k (Scf.fold (n := k0_t1_loop.trips) (fun _ p => g p) (0#32, 999999#32)).2 := by
  rw [if_neg h]
  have e := Scf.for_pure_bind k0_t1_loop.lb k0_t1_loop.ub k0_t1_loop.st k0_t1_ok (0#32, 999999#32) body (fun _ p => g p) hg
    (fun p : BitVec 32 × BitVec 32 => (Prog.ret p.2 : Prog (TpuEff nD τ sig (Elt F) (Λ₀ F) .tc) (BitVec 32)))
  exact congrArg (· >>= k) e

theorem lastW_pos (v0 : Vec F S8192x128 .i32) (t : BitVec 32) (h : exactW v0 t) : lastW v0 t = 999999#32 := if_pos h
theorem lastW_neg (v0 : Vec F S8192x128 .i32) (t : BitVec 32) (h : ¬ exactW v0 t) :
    lastW v0 t = lastTie (k0_pay2 v0) t (Scalar.subi 100#32 (belowW v0 t)) := if_neg h

theorem thr_eq (v0 : Vec F S8192x128 .i32) : thr v0 = thrOf loopW (k0_pay2 v0) (loW v0, hiW v0) := rfl

theorem maskW_eq (v0 : Vec F S8192x128 .i32) :
    maskW v0 = k0_pay17 (F := F) (k0_pay2 v0) (thr v0) ix10 ix11 ix12 ix13 ix14 (lastW v0 (thr v0)) := by
  delta maskW
  rfl

theorem lastTie_eq (v1 : IVec S8192x128 32) (t need : BitVec 32) :
    lastTie v1 t need = (Scf.fold (n := k0_t1_loop.trips) (fun _ p => nextTie v1 t need p) (0#32, 999999#32)).2 := by
  have e2 : lastTie v1 t need = lastOf (nextTie v1 t need) := by delta lastTie; rfl
  rw [e2]
  generalize nextTie v1 t need = g
  rfl

/-- The choice of the body settled. -/
theorem settle (i : grid0.Coords) (arg1 : Memref sig .tc .vmem S8192x128 .i32) (harg1 : arg1.IsWhole)
    (arg2 : Memref sig .tc .vmem S8192x128 .f32) (harg2 : arg2.IsWhole) (v0 : Vec F S8192x128 .i32) (t : BitVec 32)
    (k : BitVec 32 → Prog (TpuEff nD τ sig (Elt F) (Λ₀ F) .tc) PUnit) :
    ((if Scalar.cmpi .ne (Scalar.extui (Scalar.cmpi .eq (uptoW v0 t) 100#32) : BitVec 32) 0#32 = 1#1 then (Prog.ret 999999#32 : Prog (TpuEff nD τ sig (Elt F) (Λ₀ F) .tc) (BitVec 32)) else
            Scf.Loop.for k0_t1_loop k0_t1_ok (0#32, 999999#32) (k0_t1_body i arg1 harg1 arg2 harg2 (k0_pay2 v0) t (Scalar.subi 100#32 (belowW v0 t)) ix10 ix11 ix12 ix13 ix14)
              >>= fun p : BitVec 32 × BitVec 32 => Prog.ret p.2) >>= k) = k (lastW v0 t) := by
  by_cases hx : Scalar.cmpi .ne (Scalar.extui (Scalar.cmpi .eq (uptoW v0 t) 100#32) : BitVec 32) 0#32 = 1#1
  · rw [lastW_pos v0 t hx]
    exact choice_pos _ hx _ _ k
  · rw [lastW_neg v0 t hx, lastTie_eq]
    have hg := trip_eq (F := F) i arg1 harg1 arg2 harg2 (k0_pay2 v0) t (Scalar.subi 100#32 (belowW v0 t))
    generalize nextTie (k0_pay2 v0) t (Scalar.subi 100#32 (belowW v0 t)) = g at hg ⊢
    generalize k0_t1_body i arg1 harg1 arg2 harg2 (k0_pay2 v0) t (Scalar.subi 100#32 (belowW v0 t)) ix10 ix11 ix12 ix13 ix14 = body at hg ⊢
    exact choice_neg _ hx _ body g hg k

/-- A load, a call, a choice and a store, one after another: for any call answered and any choice settled. -/
theorem run_gen (c : Dev nD)
    (arg1 : Memref sig .tc .vmem S8192x128 .i32) (harg1 : arg1.IsWhole) (arg2 : Memref sig .tc .vmem S8192x128 .f32) (harg2 : arg2.IsWhole)
    (x0 : Vec F S8192x128 .i32) (s1 : Vec F S8192x128 .f32) (K : PUnit → sProp 𝕄)
    (f : Vec F S8192x128 .i32 → (Λ₀ F).Args 1) (a : (Λ₀ F).Args 1) (hfa : f x0 = a) (R : BitVec 32 × BitVec 32) (n : ℕ)
    (hcall : ∀ K : BitVec 32 × BitVec 32 → sProp 𝕄, K R
      ⊢ wp frame (wpE' (defs₀ (F := F)) Variants.nat (c : Thread nD τ) (some n) (PendingWaitsCtx.empty.descend none)) Set.univ
          (defs₀ (F := F) (c : Thread nD τ).2 (1 : (Λ₀ F).Label) a) K)
    (T : Vec F S8192x128 .i32 → BitVec 32 × BitVec 32 → Prog (TpuEff nD τ sig (Elt F) (Λ₀ F) .tc) (BitVec 32)) (L : BitVec 32)
    (hT : ∀ k : BitVec 32 → Prog (TpuEff nD τ sig (Elt F) (Λ₀ F) .tc) PUnit, (T x0 R >>= k) = k L)
    (P : Vec F S8192x128 .i32 → BitVec 32 × BitVec 32 → BitVec 32 → Vec F S8192x128 .f32)
    (out : Vec F S8192x128 .f32) (hout : P x0 R L = out) (prog : Prog (TpuEff nD τ sig (Elt F) (Λ₀ F) .tc) PUnit)
    (hprog : prog = Prog.op (.load arg1 (Rect.unit (s := S8192x128) ![0, 0] S8192x128.size inb_S8192x128_S8192x128_0_0).toLoadRect (View.loadsAt_vmem h_S8192x128))
        fun v0 : Vec F S8192x128 .i32 => Prog.op (TpuEff.call (1 : (Λ₀ F).Label) (f v0))
        fun r : BitVec 32 × BitVec 32 => T v0 r >>= fun v122 : BitVec 32 =>
        Prog.op (.load arg2 (Rect.unit (s := S8192x128) ![0, 0] S8192x128.size inb_S8192x128_S8192x128_0_0).toLoadRect (View.loadsAt_vmem h_S8192x128))
        fun _ : Vec F S8192x128 .f32 => Prog.op (.store arg2 (Rect.unit (s := S8192x128) ![0, 0] S8192x128.size inb_S8192x128_S8192x128_0_0)
          (P v0 r v122) Finset.univ (View.stores_vmem_bits_univ h_S8192x128 rfl) (.inl rfl))
        fun _ : PUnit => Prog.ret ⟨⟩) :
    iprop(owns (c : Thread nD τ) arg1 fullShare x0 ∗ owns (c : Thread nD τ) arg2 fullShare s1
      ∗ (iprop(owns (c : Thread nD τ) arg1 fullShare x0 ∗ owns (c : Thread nD τ) arg2 fullShare out) -∗ K ⟨⟩))
      ⊢ wp frame (wpE (defs₀ (F := F)) Variants.nat c none) Set.univ prog K := by
  subst hprog hfa hout
  unfold owns
  iintro ⟨⟨%f0, %hf0, H0⟩, ⟨%f1, %hf1, H1⟩, Hk⟩
  iapply (wp_load Variants.nat (c : Thread nD τ) none Set.univ (m := arg1) (View.setOn_subset_set _ _)) $$ H0
  iintro H0
  rw [show arg1.view.readAt (Elt F) (Rect.unit (s := S8192x128) ![0, 0] S8192x128.size inb_S8192x128_S8192x128_0_0).toLoadRect f0 = x0 from
    (View.readAt_full arg1.view f0 inb_S8192x128_S8192x128_0_0).trans hf0]
  iapply (call_none c Set.univ n (f x0) R _ K hcall)
  rw [hT]
  iapply (wp_load Variants.nat (c : Thread nD τ) none Set.univ (m := arg2) (View.setOn_subset_set _ _)) $$ H1
  iintro H1
  have hst := wp_store (defs := defs₀ (F := F)) (Γ := .empty) (Q := K) Variants.nat (c : Thread nD τ) none Set.univ (m := arg2)
    (r := Rect.unit (s := S8192x128) ![0, 0] S8192x128.size inb_S8192x128_S8192x128_0_0) (w := P x0 R L) (Mk := Finset.univ)
    (hx := View.stores_vmem_bits_univ h_S8192x128 rfl) (hm := .inl rfl) (k := fun _ => Prog.ret ⟨⟩) (S := arg2.view.set) (f := f1)
    ((View.setOn_subset_set _ _).trans (View.set_slice_subset _ _))
  iapply hst $$ H1
  iintro H1
  rw [wp_ret]; imodintro
  iapply Hk
  isplitl [H0]
  · iexists f0
    isplitr
    · ipureintro; exact hf0
    · iexact H0
  · iexists _
    isplitr
    · ipureintro
      exact View.read_writes_full arg2.view f1 inb_S8192x128_S8192x128_0_0 (P x0 R L) []
    · iexact H1

set_option maxHeartbeats 1600000 in
/-- The body's run, whatever the words it computes are. -/
theorem run_abs (c : Dev nD) (i : grid0.Coords)
    (arg1 : Memref sig .tc .vmem S8192x128 .i32) (harg1 : arg1.IsWhole) (arg2 : Memref sig .tc .vmem S8192x128 .f32) (harg2 : arg2.IsWhole)
    (x0 : Vec F S8192x128 .i32) (s1 : Vec F S8192x128 .f32) (K : PUnit → sProp 𝕄)
    (lw : IVec S8192x128 32 → ℕ → BitVec 32 × BitVec 32 → BitVec 32 × BitVec 32) (fm : Vec F S8192x128 .i32 → Vec F S8192x128 .f32) (ft fl fh : Vec F S8192x128 .i32 → BitVec 32)
    (f5 f6 : Vec F S8192x128 .i32 → BitVec 32 → BitVec 32) (j10 j11 j12 : IVec S8192x128 32) (j13 : IVec S8192x128 1) (j14 : IVec S8192x128 32) (f2 : Vec F S8192x128 .i32 → IVec S8192x128 32)
    (f17 : IVec S8192x128 32 → BitVec 32 → IVec S8192x128 32 → IVec S8192x128 32 → IVec S8192x128 32 → IVec S8192x128 1 → IVec S8192x128 32 → BitVec 32 → FVec F S8192x128 .f32)
    (fz : Vec F S8192x128 .i32 → BitVec 32 → BitVec 32)
    (b1 : grid0.Coords → (arg1 : Memref sig .tc .vmem S8192x128 .i32) → arg1.IsWhole → (arg2 : Memref sig .tc .vmem S8192x128 .f32) → arg2.IsWhole →
      IVec S8192x128 32 → BitVec 32 → BitVec 32 → IVec S8192x128 32 → IVec S8192x128 32 → IVec S8192x128 32 → IVec S8192x128 1 → IVec S8192x128 32 → Fin k0_t1_loop.trips → BitVec 32 × BitVec 32 → Prog (TpuEff nD τ sig (Elt F) (Λ₀ F) .tc) (BitVec 32 × BitVec 32))
    (prog : Prog (TpuEff nD τ sig (Elt F) (Λ₀ F) .tc) PUnit)
    (hb : prog = Prog.op (.load arg1 (Rect.unit (s := S8192x128) ![0, 0] S8192x128.size inb_S8192x128_S8192x128_0_0).toLoadRect (View.loadsAt_vmem h_S8192x128))
        fun v0 : Vec F S8192x128 .i32 => Prog.op (TpuEff.call (1 : (Λ₀ F).Label) ⟨i, f2 v0, fl v0, fh v0⟩)
        fun r : BitVec 32 × BitVec 32 =>
          (if Scalar.cmpi .ne (Scalar.extui (Scalar.cmpi .eq (f6 v0 r.2) 100#32) : BitVec 32) 0#32 = 1#1 then (Prog.ret 999999#32 : Prog (TpuEff nD τ sig (Elt F) (Λ₀ F) .tc) (BitVec 32)) else
            Scf.Loop.for k0_t1_loop k0_t1_ok (0#32, 999999#32) (b1 i arg1 harg1 arg2 harg2 (f2 v0) r.2 (Scalar.subi 100#32 (f5 v0 r.2)) j10 j11 j12 j13 j14)
              >>= fun p : BitVec 32 × BitVec 32 => Prog.ret p.2)
          >>= fun v122 : BitVec 32 =>
        Prog.op (.load arg2 (Rect.unit (s := S8192x128) ![0, 0] S8192x128.size inb_S8192x128_S8192x128_0_0).toLoadRect (View.loadsAt_vmem h_S8192x128))
        fun _ : Vec F S8192x128 .f32 => Prog.op (.store arg2 (Rect.unit (s := S8192x128) ![0, 0] S8192x128.size inb_S8192x128_S8192x128_0_0)
          (f17 (f2 v0) r.2 j10 j11 j12 j13 j14 v122) Finset.univ (View.stores_vmem_bits_univ h_S8192x128 rfl) (.inl rfl))
        fun _ : PUnit => Prog.ret ⟨⟩)
    (hs : ∀ (v0 : Vec F S8192x128 .i32) (t : BitVec 32) (k : BitVec 32 → Prog (TpuEff nD τ sig (Elt F) (Λ₀ F) .tc) PUnit), ((if Scalar.cmpi .ne (Scalar.extui (Scalar.cmpi .eq (f6 v0 t) 100#32) : BitVec 32) 0#32 = 1#1 then (Prog.ret 999999#32 : Prog (TpuEff nD τ sig (Elt F) (Λ₀ F) .tc) (BitVec 32)) else
            Scf.Loop.for k0_t1_loop k0_t1_ok (0#32, 999999#32) (b1 i arg1 harg1 arg2 harg2 (f2 v0) t (Scalar.subi 100#32 (f5 v0 t)) j10 j11 j12 j13 j14)
              >>= fun p : BitVec 32 × BitVec 32 => Prog.ret p.2) >>= k) = k (fz v0 t))
    (ht : ∀ v0, ft v0 = thrOf lw (f2 v0) (fl v0, fh v0))
    (hm : ∀ v0, fm v0 = f17 (f2 v0) (ft v0) j10 j11 j12 j13 j14 (fz v0 (ft v0)))
    (hw : ∀ (v1 : IVec S8192x128 32) (lo hi : BitVec 32) (K : BitVec 32 × BitVec 32 → sProp 𝕄), K (lw v1 (gap (lo, hi)) (lo, hi))
      ⊢ wp frame (wpE' (defs₀ (F := F)) Variants.nat (c : Thread nD τ) (some (gap (lo, hi))) (PendingWaitsCtx.empty.descend none)) Set.univ
          (defs₀ (F := F) (c : Thread nD τ).2 (1 : (Λ₀ F).Label) ⟨i, v1, lo, hi⟩) K) :
    iprop(owns (c : Thread nD τ) arg1 fullShare x0 ∗ owns (c : Thread nD τ) arg2 fullShare s1
      ∗ (iprop(owns (c : Thread nD τ) arg1 fullShare x0 ∗ owns (c : Thread nD τ) arg2 fullShare (fm x0)) -∗ K ⟨⟩))
      ⊢ wp frame (wpE (defs₀ (F := F)) Variants.nat c none) Set.univ prog K := by
  have hq : ft x0 = (lw (f2 x0) (gap (fl x0, fh x0)) (fl x0, fh x0)).2 := (ht x0).trans rfl
  exact run_gen c arg1 harg1 arg2 harg2 x0 s1 K
    (fun v0 => ⟨i, f2 v0, fl v0, fh v0⟩) ⟨i, f2 x0, fl x0, fh x0⟩ rfl (lw (f2 x0) (gap (fl x0, fh x0)) (fl x0, fh x0)) (gap (fl x0, fh x0))
    (hw (f2 x0) (fl x0) (fh x0))
    (fun v0 r => if Scalar.cmpi .ne (Scalar.extui (Scalar.cmpi .eq (f6 v0 r.2) 100#32) : BitVec 32) 0#32 = 1#1 then (Prog.ret 999999#32 : Prog (TpuEff nD τ sig (Elt F) (Λ₀ F) .tc) (BitVec 32)) else
            Scf.Loop.for k0_t1_loop k0_t1_ok (0#32, 999999#32) (b1 i arg1 harg1 arg2 harg2 (f2 v0) r.2 (Scalar.subi 100#32 (f5 v0 r.2)) j10 j11 j12 j13 j14)
              >>= fun p : BitVec 32 × BitVec 32 => Prog.ret p.2)
    (fz x0 (lw (f2 x0) (gap (fl x0, fh x0)) (fl x0, fh x0)).2)
    (fun k => hs x0 (lw (f2 x0) (gap (fl x0, fh x0)) (fl x0, fh x0)).2 k)
    (fun v0 r v122 => f17 (f2 v0) r.2 j10 j11 j12 j13 j14 v122)
    (fm x0) ((hm x0).trans (congrArg (fun t => f17 (f2 x0) t j10 j11 j12 j13 j14 (fz x0 t)) hq)).symm prog hb

set_option maxHeartbeats 1600000 in
/-- The body leaves the codes as they are and the mask in the output. -/
theorem run_body (c : Dev nD) (i : grid0.Coords)
    (arg1 : Memref sig .tc .vmem S8192x128 .i32) (harg1 : arg1.IsWhole) (arg2 : Memref sig .tc .vmem S8192x128 .f32) (harg2 : arg2.IsWhole)
    (x0 : Vec F S8192x128 .i32) (s1 : Vec F S8192x128 .f32) (K : PUnit → sProp 𝕄) :
    iprop(owns (c : Thread nD τ) arg1 fullShare x0 ∗ owns (c : Thread nD τ) arg2 fullShare s1
      ∗ (iprop(owns (c : Thread nD τ) arg1 fullShare x0 ∗ owns (c : Thread nD τ) arg2 fullShare (maskW x0)) -∗ K ⟨⟩))
      ⊢ wp frame (wpE (defs₀ (F := F)) Variants.nat c none) Set.univ (cc0__sel_body i arg1 harg1 arg2 harg2) K := by
  exact run_abs c i arg1 harg1 arg2 harg2 x0 s1 K loopW maskW thr loW hiW belowW uptoW ix10 ix11 ix12 ix13 ix14 k0_pay2 (k0_pay17 (F := F)) lastW
    (k0_t1_body (F := F)) (cc0__sel_body (F := F) i arg1 harg1 arg2 harg2) (body_eq i arg1 harg1 arg2 harg2) (settle i arg1 harg1 arg2 harg2)
    thr_eq maskW_eq (while_pair c Set.univ i)

end Cert.SelectIdeal.Hand

end
-- ==== Proof.SelectFrame.lean ====
module

public import proofs.«01_k».proof.Proof.SelectRun
public import Idealize.ShloMosaic.Lib.Pipeline.Frame
public import Idealize.ShloMosaic.Lib.Claim

@[expose] public section

set_option maxRecDepth 16384

noncomputable section

namespace Cert.SelectIdeal.Hand

open Cert.SelectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffers when the region is entered: after the host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- The program is the host operations, then the region. -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefixes (cfgs (F := F)) 0 defs₀ 𝒱₀ m main [hostOps0, hostOps0_1, hostOps0_2] ⟨hostOps0_sub, hostOps0_1_sub, hostOps0_2_sub⟩
    ⟨hostOps0_fresh, hostOps0_1_fresh, hostOps0_2_fresh⟩ main_chain

/-- No host operation writes the argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The block of a window at the point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The input's staging buffer holds its block. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The pipeline, for any function the body computes -/

/-- What the body does: it leaves the codes as they are and `f` of them in the output. -/
def Computes (f : Vec F S8192x128 .i32 → Vec F S8192x128 .f32) : Prop :=
  ∀ (c : Dev nD) (i : grid0.Coords)
    (arg1 : Memref sig .tc .vmem S8192x128 .i32) (harg1 : arg1.IsWhole) (arg2 : Memref sig .tc .vmem S8192x128 .f32) (harg2 : arg2.IsWhole)
    (x0 : Vec F S8192x128 .i32) (s1 : Vec F S8192x128 .f32) (K : PUnit → sProp 𝕄),
    iprop(owns (c : Thread nD τ) arg1 fullShare x0 ∗ owns (c : Thread nD τ) arg2 fullShare s1
      ∗ (iprop(owns (c : Thread nD τ) arg1 fullShare x0 ∗ owns (c : Thread nD τ) arg2 fullShare (f x0)) -∗ K ⟨⟩))
      ⊢ wp frame (wpE (defs₀ (F := F)) Variants.nat c none) Set.univ (cc0__sel_body i arg1 harg1 arg2 harg2) K

/-- The body computes the mask. -/
theorem computes_mask : Computes (F := F) maskW := run_body

variable (f : Vec F S8192x128 .i32 → Vec F S8192x128 .f32)

/-- Each window's current staging memref at point `t`. -/
abbrev ms0_0 (t : Fin (cfg0 (F := F)).N) : Memref sig .tc .vmem S8192x128 .i32 := win0_0.stage ((cfg0 (F := F)).slots t 0)
abbrev ms0_1 (t : Fin (cfg0 (F := F)).N) : Memref sig .tc .vmem S8192x128 .f32 := win0_1.stage ((cfg0 (F := F)).slots t 1)

/-- The proof data of the one pipeline on core `c`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => f (iblk m c 0 t)
  Φ _ := Pipeline.ΦA spec0 c
  q _ := fullShare
  owed _ := 0

theorem A_eq (c : Dev nD) (w : Fin (cfg0 (F := F)).W) : (dats m f 0 c).A w = V m c (Pipeline.arrRef spec0 w) := by
  dsimp only [dats]
theorem after0_0 (c : Dev nD) (t : Fin (cfg0 (F := F)).N) : (dats m f 0 c).after 0 t = iblk m c 0 t := by dsimp only [dats]; rfl
theorem after0_1 (c : Dev nD) (t : Fin (cfg0 (F := F)).N) : (dats m f 0 c).after 1 t = f (iblk m c 0 t) := by dsimp only [dats]; rfl
theorem before0_0 (c : Dev nD) (t : Fin (cfg0 (F := F)).N) (d) : (dats m f 0 c).before 0 t d = iblk m c 0 t :=
  before0_0_of m (dats m f 0 c) (A_eq m f c 0) (after0_0 m f c) t d

/-- What the body is called with, -/
def bodyPre (c : Dev nD) (t : Fin (cfg0 (F := F)).N) : sProp 𝕄 :=
  iprop((dats m f 0 c).Φ t.castSucc ∗ (dats m f 0 c).owesAt () t.castSucc
    ∗ (∃ d, owns (c : Thread nD τ) (ms0_0 t) fullShare ((dats m f 0 c).before 0 t d))
    ∗ (∃ d, owns (c : Thread nD τ) (ms0_1 t) fullShare ((dats m f 0 c).before 1 t d)))

/-- and what it returns. -/
def bodyPost (c : Dev nD) (t : Fin (cfg0 (F := F)).N) : sProp 𝕄 :=
  iprop((dats m f 0 c).Φ t.succ ∗ (dats m f 0 c).owesAt () t.succ
    ∗ owns (c : Thread nD τ) (ms0_0 t) fullShare ((dats m f 0 c).after 0 t)
    ∗ owns (c : Thread nD τ) (ms0_1 t) fullShare ((dats m f 0 c).after 1 t))

/-- The body's run at a point, whatever the rest of the state. -/
theorem sound_abs (hf : Computes f) (c : Dev nD) (t : Fin (cfg0 (F := F)).N) (P O : sProp 𝕄) {D0 D1 : Type}
    (B0 : D0 → Vec F S8192x128 .i32) (B1 : D1 → Vec F S8192x128 .f32) (x : Vec F S8192x128 .i32) (h0 : ∀ d, B0 d = x) :
    iprop(P ∗ O ∗ (∃ d, owns (c : Thread nD τ) (ms0_0 (F := F) t) fullShare (B0 d))
      ∗ (∃ d, owns (c : Thread nD τ) (ms0_1 (F := F) t) fullShare (B1 d)))
      ⊢ wp frame (wpE (defs₀ (F := F)) Variants.nat c none) Set.univ (bodyAt0 t)
        (fun _ => iprop(P ∗ O ∗ owns (c : Thread nD τ) (ms0_0 (F := F) t) fullShare x ∗ owns (c : Thread nD τ) (ms0_1 (F := F) t) fullShare (f x))) := by
  have e : B0 = fun _ => x := funext h0
  subst e
  unfold bodyAt0
  iintro ⟨HP, Ho, ⟨%d0, H0⟩, ⟨%d1, H1⟩⟩
  iapply (hf c _ _ _ _ _ x _ _)
  isplitl [H0]; · iexact H0
  isplitl [H1]; · iexact H1
  iintro ⟨H0, H1⟩
  isplitl [HP]; · iexact HP
  isplitl [Ho]; · iexact Ho
  isplitl [H0]; · iexact H0
  iexact H1

/-- The body meets the pipeline's obligation. -/
theorem sound_body (hf : Computes f) (c : Dev nD) (t : Fin (cfg0 (F := F)).N) :
    bodyPre m f c t ⊢ wp frame (wpE (defs₀ (F := F)) Variants.nat c none) Set.univ (bodyAt0 t) (fun _ => bodyPost m f c t) := by
  unfold bodyPre bodyPost
  rw [after0_0, after0_1]
  rw [show (dats m f 0 c).owesAt () t.succ = (dats m f 0 c).owesAt () t.castSucc from rfl, show (dats m f 0 c).Φ t.succ = (dats m f 0 c).Φ t.castSucc from rfl]
  have h1 := sound_abs f hf c t ((dats m f 0 c).Φ t.castSucc) ((dats m f 0 c).owesAt () t.castSucc) ((dats m f 0 c).before 0 t)
    ((dats m f 0 c).before 1 t) (iblk m c 0 t) (before0_0 m f c t)
  convert h1 using 3

/-- The body table's row at the point's slots is the body. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation. -/
theorem body_obligation (hf : Computes f) (c : Dev nD) : BodyObligation (dats m f 0 c) (defs₀ (F := F)) Variants.nat () Set.univ := fun t => by
  rw [bigSep_W0, bigSep_W0, defs₀_row]
  exact triple_restated (sound_body m f hf c t) rfl .rfl fun _ => .rfl

theorem hin (c : Dev nD) : Pipeline.ΦA spec0 c ⊢ (dats m f 0 c).Φ 0 := Idealize.SL.BI.Entails.refl _
theorem hout (c : Dev nD) : (dats m f 0 c).Φ (Fin.last (cfg0 (F := F)).N) ⊢ Pipeline.ΦA spec0 c := Idealize.SL.BI.Entails.refl _

/-! ## The run and the frame -/

set_option backward.isDefEq.respectTransparency.types false in
/-- The launch: every run ends with the arrays at what the proof data says and every semaphore at zero. -/
theorem run_main_quiescent (hf : Computes f) : θ_run defs (onTc (τ := τ) (main (F := F))) (s₀ m ρ) (fun r => (Pipeline.FramePost (cfgs (F := F)) (dats m f) 0 (V m)) r ∧ r.2.sem = fun _ => 0) :=
  Pipeline.θ_run_frame_track (Q' := _) (cfgs (F := F)) (dats m f) (0 : Fin 1) launch0 defs₀ Variants.nat m ρ main
    (hbody := fun c => (body_obligation m f hf c).loose) (hshare := fun c => (dats m f 0 c).share_full fun _ => rfl)
    (howed := fun _ _ => rfl) (V := V m) (hmain := hmain m Variants.nat) (hA := A_eq m f) (hin := hin m f) (hout := hout m f)

/-- Every run ends with the arrays at what the proof data says. -/
theorem run_main (hf : Computes f) : θ_run defs (onTc (τ := τ) (main (F := F))) (s₀ m ρ) (Pipeline.FramePost (cfgs (F := F)) (dats m f) 0 (V m)) :=
  (θ_run defs _ _).mono (fun _ h => h.1) (run_main_quiescent m ρ f hf)

/-- The frame, for any function the body computes. -/
theorem frame_any (hf : Computes f) : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).2 main_arg0 (show main_arg0 ∈ Pipeline.restRefs sig spec0 by decide)).trans (V_main_arg0 m c), h.2⟩) (run_main_quiescent m ρ f hf)

/-- The frame claim at any float type. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  frame_any m ρ maskW computes_mask

end Cert.SelectIdeal.Hand

end
-- ==== Proof.SelectCount.lean ====
/-
  Counting: the first so many of a stable sort are a set that is closed downwards in the order of the code and then the
  place; and a threshold with a last place among its ties describes that set.
-/
module

public import Idealize.ShloMosaic.Lib.SortPrefix
public import Mathlib.Data.Finset.Card
public import Mathlib.Data.Fintype.Card
public import Mathlib.Data.Fintype.Fin
public import Mathlib.Tactic.Ring

@[expose] public section

noncomputable section

namespace Cert.SelectIdeal.Hand

open Idealize.ShloMosaic

section sorting

variable {N : ℕ} (code : Fin N → ℤ)

/-- Sorting by the code alone. -/
def byCode (a b : Fin N) : Bool := decide (code a < code b)

/-- Sorting by the code, then by the place. -/
def byBoth (a b : Fin N) : Bool := decide (code a < code b) || (decide (code a = code b) && decide (a < b))

theorem byBoth_iff (a b : Fin N) : byBoth code a b = true ↔ code a < code b ∨ (code a = code b ∧ a < b) := by
  unfold byBoth; simp

/-- The second is a strict total order. -/
theorem byBoth_total : StrictTotalBefore (byBoth code) :=
  StrictTotalBefore.of_key_then_position (fun a b : ℤ => decide (a < b)) code (by simp)
    (fun a b c h h' => by simp only [decide_eq_true_eq] at *; omega) (fun a b => by simp only [decide_eq_true_eq]; omega)

/-- Of a list in the order of the places the stable sort by the code is the sort by both. -/
theorem stableSort_both (l : List (Fin N)) (hl : l.Pairwise (· < ·)) : stableSort (byCode code) l = stableSort (byBoth code) l := by
  induction l with
  | nil => rfl
  | cons a l ih =>
    rw [List.pairwise_cons] at hl
    unfold stableSort
    rw [ih hl.2]
    refine insertBefore_congr _ _ _ _ fun b hb => ?_
    have hab := hl.1 b ((perm_stableSort _ l).mem_iff.mp hb)
    have hn : ¬ b < a := fun h => absurd (lt_trans hab h) (lt_irrefl _)
    unfold byCode byBoth
    simp [hn]

theorem sortedFrom_both (j : Fin N) : sortedFrom (byCode code) j = sortedFrom (byBoth code) j := by
  have h : sortPositions N (byCode code) = sortPositions N (byBoth code) := stableSort_both code _ (List.pairwise_lt_finRange N)
  unfold sortedFrom
  rw [List.get_of_eq h]
  rfl

/-- A set of `K` places closed downwards is the first `K` of the sort. -/
theorem first_of_sort {K : ℕ} (hK : K ≤ N) (S : Finset (Fin N)) (hS : S.card = K)
    (hdown : ∀ a b, b ∈ S → (code a < code b ∨ (code a = code b ∧ a < b)) → a ∈ S) (i : Fin N) :
    i ∈ S ↔ ∃ j : Fin K, sortedFrom (byCode code) (j.castLE hK) = i := by
  classical
  have hB := byBoth_total code
  have hinj : Function.Injective fun j : Fin K => sortedFrom (byBoth code) (j.castLE hK) := fun a b h =>
    Fin.castLE_injective hK (sortedFrom_injective _ h)
  have hP : (Finset.univ.image fun j : Fin K => sortedFrom (byBoth code) (j.castLE hK)) = S := by
    refine Finset.eq_of_subset_of_card_le (fun b hb => ?_) ?_
    · by_contra hbS
      obtain ⟨j, -, rfl⟩ := Finset.mem_image.mp hb
      have : ∃ a ∈ S, a ∉ (Finset.univ.image fun j : Fin K => sortedFrom (byBoth code) (j.castLE hK)) := by
        by_contra hne
        push Not at hne
        have e := Finset.eq_of_subset_of_card_le (s := S) (t := Finset.univ.image fun j : Fin K => sortedFrom (byBoth code) (j.castLE hK)) hne (by
          rw [Finset.card_image_of_injective _ hinj, Finset.card_univ, Fintype.card_fin, hS])
        exact hbS (e ▸ hb)
      obtain ⟨a, haS, haP⟩ := this
      obtain ⟨k, rfl⟩ := sortedFrom_surjective (byBoth code) a
      have hk : K ≤ k.val := by
        by_contra hlt
        exact haP (Finset.mem_image.mpr ⟨⟨k.val, by omega⟩, Finset.mem_univ _, rfl⟩)
      have hno := sortedFrom_noInversion (byBoth code) (byBoth code) (fun a b h => hB.asymm a b h) (fun _ _ h => h) hB.negTrans
        (j.castLE hK) k (by rw [Fin.lt_def]; simp only [Fin.val_castLE]; omega)
      have hne : sortedFrom (byBoth code) (j.castLE hK) ≠ sortedFrom (byBoth code) k := fun h => hbS (h ▸ haS)
      rcases hB.total _ _ hne with h | h
      · exact hbS (hdown _ _ haS ((byBoth_iff code _ _).mp h))
      · rw [h] at hno; exact absurd hno (by decide)
    · rw [Finset.card_image_of_injective _ hinj, Finset.card_univ, Fintype.card_fin, hS]
  rw [← hP, Finset.mem_image]
  simp only [Finset.mem_univ, true_and, sortedFrom_both]

end sorting

section counting

variable {I : Type} [Fintype I] (key : I → ℤ) (tx : I → ℕ)

/-- How many codes are at or below a value. -/
def cnt (v : ℤ) : ℕ := (Finset.univ.filter fun y => key y ≤ v).card

/-- How many codes are a value, at a place at or below another. -/
def tie (t v : ℤ) : ℕ := (Finset.univ.filter fun y => key y = t ∧ (tx y : ℤ) ≤ v).card

/-- The set a threshold and a last place describe, counted. -/
theorem card_chosen (t v : ℤ) : (Finset.univ.filter fun y => key y < t ∨ (key y = t ∧ (tx y : ℤ) ≤ v)).card = cnt key (t - 1) + tie key tx t v := by
  classical
  unfold cnt tie
  rw [← Finset.card_union_of_disjoint, ← Finset.filter_or]
  · congr 1
    ext y
    simp only [Finset.mem_filter, Finset.mem_univ, true_and]
    omega
  · rw [Finset.disjoint_filter]
    intro y _ h1 h2
    omega

/-- All codes at or below the threshold, counted. -/
theorem cnt_split (t : ℤ) : cnt key t = cnt key (t - 1) + (Finset.univ.filter fun y => key y = t).card := by
  classical
  unfold cnt
  rw [← Finset.card_union_of_disjoint, ← Finset.filter_or]
  · congr 1
    ext y
    simp only [Finset.mem_filter, Finset.mem_univ, true_and]
    omega
  · rw [Finset.disjoint_filter]
    intro y _ h1 h2
    omega

variable (hinj : Function.Injective tx) {N K : ℕ} (hKN : K ≤ N) (M : ℤ) (hpad : ∀ y, N ≤ tx y → key y = M) (hle : ∀ y, key y ≤ M)
  (hsurj : ∀ i : Fin N, ∃ y, tx y = i.val)
include hKN hpad hle hsurj

/-- There are enough ties at the places that are no padding. -/
theorem tie_enough (t : ℤ) (htM : t ≤ M) (h1 : K ≤ cnt key t) : K ≤ cnt key (t - 1) + tie key tx t (N - 1) := by
  classical
  rcases lt_or_eq_of_le htM with h | h
  · rw [cnt_split] at h1
    refine le_trans h1 (Nat.add_le_add_left (Finset.card_le_card fun y hy => ?_) _)
    simp only [Finset.mem_filter, Finset.mem_univ, true_and] at hy ⊢
    refine ⟨hy, ?_⟩
    by_contra hn
    have := hpad y (by omega)
    omega
  · rw [← card_chosen]
    choose g hg using hsurj
    have hgi : Function.Injective g := fun a b e => Fin.ext (by rw [← hg a, ← hg b, e])
    refine hKN.trans ?_
    have e : N = (Finset.univ : Finset (Fin N)).card := by rw [Finset.card_univ, Fintype.card_fin]
    conv_lhs => rw [e]
    refine Finset.card_le_card_of_injOn g (fun i _ => ?_) hgi.injOn
    have h1 := hg i
    have h2 := hle (g i)
    have h3 := i.isLt
    simp only [Finset.coe_filter, Finset.mem_univ, true_and, Set.mem_setOf_eq]
    omega

include hinj

/-- The set of a threshold and a last place is the first `K` of the stable sort of the codes. -/
theorem chosen_iff (hcard : K < Fintype.card I) (code : Fin N → ℤ) (hcode : ∀ y (h : tx y < N), code ⟨tx y, h⟩ = key y)
    (t last : ℤ) (htM : t ≤ M) (h1 : K ≤ cnt key t) (h0 : cnt key (t - 1) < K) (hl0 : 0 ≤ last) (hlN : last < N)
    (hl : (cnt key t = K ∧ last = N - 1) ∨ (K ≤ cnt key (t - 1) + tie key tx t last ∧ ∀ v < last, cnt key (t - 1) + tie key tx t v < K)) (y : I) :
    (key y < t ∨ (key y = t ∧ (tx y : ℤ) ≤ last))
      ↔ ∃ h : tx y < N, ∃ j : Fin K, sortedFrom (byCode code) (j.castLE hKN) = ⟨tx y, h⟩ := by
  classical
  have hT : (Finset.univ.filter fun y => key y < t ∨ (key y = t ∧ (tx y : ℤ) ≤ last)).card = K := by
    rcases hl with ⟨he, hv⟩ | ⟨ha, hb⟩
    · rw [card_chosen, ← he, cnt_split key t]
      congr 1
      unfold tie
      congr 1
      ext y
      simp only [Finset.mem_filter, Finset.mem_univ, true_and, and_iff_left_iff_imp]
      intro hy
      by_contra hn
      have hp := hpad y (by omega)
      have : cnt key t = Fintype.card I := by
        unfold cnt
        rw [Finset.filter_true_of_mem fun z _ => by rw [← hy, hp]; exact hle z, Finset.card_univ]
      omega
    · rw [card_chosen]
      have hb' := hb (last - 1) (by omega)
      have hstep : tie key tx t last ≤ tie key tx t (last - 1) + 1 := by
        unfold tie
        have hone : (Finset.univ.filter fun y => (tx y : ℤ) = last).card ≤ 1 := by
          rw [Finset.card_le_one]
          intro a ha b hb
          simp only [Finset.mem_filter, Finset.mem_univ, true_and] at ha hb
          exact hinj (by omega)
        refine le_trans (Finset.card_le_card (t := (Finset.univ.filter fun y => key y = t ∧ (tx y : ℤ) ≤ last - 1) ∪ (Finset.univ.filter fun y => (tx y : ℤ) = last)) fun y hy => ?_)
          ((Finset.card_union_le _ _).trans (Nat.add_le_add_left hone _))
        simp only [Finset.mem_filter, Finset.mem_univ, true_and, Finset.mem_union] at hy ⊢
        omega
      omega
  have hlt : ∀ y, (key y < t ∨ (key y = t ∧ (tx y : ℤ) ≤ last)) → tx y < N := by
    intro y hy
    by_contra hn
    have := hpad y (by omega)
    omega
  set S : Finset (Fin N) := Finset.univ.filter fun i => code i < t ∨ (code i = t ∧ (i.val : ℤ) ≤ last) with hS
  have hSc : S.card = K := by
    rw [← hT]
    symm
    refine Finset.card_bij (fun y hy => ⟨tx y, hlt y (Finset.mem_filter.mp hy).2⟩) ?_ ?_ ?_
    · intro y hy
      have := (Finset.mem_filter.mp hy).2
      rw [hS, Finset.mem_filter]
      refine ⟨Finset.mem_univ _, ?_⟩
      rw [hcode]
      exact this
    · intro a _ b _ e
      exact hinj (Fin.ext_iff.mp e)
    · intro i hi
      obtain ⟨y, hy⟩ := hsurj i
      have hi' := (Finset.mem_filter.mp hi).2
      have hyN : tx y < N := hy ▸ i.isLt
      have e : (⟨tx y, hyN⟩ : Fin N) = i := Fin.ext hy
      have hk := hcode y hyN
      rw [e] at hk
      refine ⟨y, ?_, e⟩
      rw [Finset.mem_filter]
      refine ⟨Finset.mem_univ _, ?_⟩
      rw [← hk, hy]
      exact hi'
  have hfirst := first_of_sort code hKN S hSc (fun a b hb hab => by
    have hb' := (Finset.mem_filter.mp hb).2
    rw [hS, Finset.mem_filter]
    refine ⟨Finset.mem_univ _, ?_⟩
    have hlt : a < b → a.val < b.val := fun h => h
    rcases hab with h | ⟨h, h'⟩
    · omega
    · have := hlt h'; omega)
  constructor
  · intro hy
    refine ⟨hlt y hy, (hfirst _).mp ?_⟩
    rw [hS, Finset.mem_filter, hcode]
    exact ⟨Finset.mem_univ _, hy⟩
  · rintro ⟨h, hj⟩
    have := (Finset.mem_filter.mp ((hfirst _).mpr hj)).2
    rw [hcode] at this
    exact this

end counting

end Cert.SelectIdeal.Hand

end
-- ==== Proof.SelectWords.lean ====
/-
  What the words of the selection's body say: the counts, the least and greatest codes, the index of an item and the
  floor of half a sum, each read as an integer.
-/
module

public import proofs.«01_k».proof.Proof.SelectRun
public import proofs.«01_k».proof.Proof.SelectCount
public import Idealize.ShloMosaic.Lib.IndicatorCount
public import Idealize.ShloMosaic.Lib.SortNet.Extract
public import Idealize.ShloMosaic.Lib.Affine
public import Idealize.ShloMosaic.Lib.ValueLayout
public import Mathlib.Data.Finset.Fold

@[expose] public section

set_option maxRecDepth 16384

noncomputable section

namespace Cert.SelectIdeal.Hand

open Cert.SelectIdeal.Gen
open Idealize.ShloMosaic

/-! ## Division and remainder of words that are not negative -/

/-- The quotient by a positive literal. -/
theorem toNat_divsi (u : ArithUnit) {x : BitVec 32} (hx : 2 * x.toNat < 2 ^ 32) (k : Nat) (hk : 0 < k) (hk' : 2 * k < 2 ^ 32) :
    (IntOp.divsi u x (BitVec.ofNat 32 k)).toNat = x.toNat / k := by
  have hkN : (BitVec.ofNat 32 k).toNat = k := by rw [BitVec.toNat_ofNat]; omega
  have hm : x.msb = false := by rw [BitVec.msb_eq_false_iff_two_mul_lt]; exact hx
  have hkm : (BitVec.ofNat 32 k).msb = false := by rw [BitVec.msb_eq_false_iff_two_mul_lt]; omega
  unfold IntOp.divsi
  rw [if_neg (IntOp.not_corner_of_pos (by rw [BitVec.toInt_eq_toNat_of_lt (by omega)]; omega)), BitVec.sdiv_eq, hm, hkm]
  show (x / BitVec.ofNat 32 k).toNat = _
  rw [BitVec.toNat_udiv, hkN]

/-- The sign of a word, as the difference of two comparisons. -/
def sgnW (x : BitVec 32) : BitVec 32 := IntOp.subi ((IntOp.cmpi .sgt x 0#32).setWidth 32) ((IntOp.cmpi .slt x 0#32).setWidth 32)

theorem slt_zero {x : BitVec 32} (hx : 2 * x.toNat < 2 ^ 32) : IntOp.cmpi .slt x 0#32 = 0#1 := by
  have h : ¬ IntOp.cmpi .slt x 0#32 = 1#1 := by
    rw [IntOp.cmpi_slt, BitVec.toInt_eq_toNat_of_lt hx, show (0#32 : BitVec 32).toInt = 0 from rfl]; omega
  revert h; generalize IntOp.cmpi .slt x 0#32 = c; revert c; decide

/-- The floor's correction of the quotient of a word that is not negative changes nothing. -/
theorem floor_fix (u : ArithUnit) (x q c : BitVec 32) (hc : c = 1#32) (k : ℕ) (hx : 2 * x.toNat < 2 ^ 32) (hk : 0 < k) (hk' : 2 * k < 2 ^ 32) :
    Scalar.select (IntOp.andi (IntOp.cmpi .ne (sgnW x) c) (IntOp.cmpi .ne (IntOp.remsi u x (BitVec.ofNat 32 k)) 0#32)) (IntOp.subi q 1#32) q = q := by
  subst hc
  have h : ¬ IntOp.andi (IntOp.cmpi .ne (sgnW x) 1#32) (IntOp.cmpi .ne (IntOp.remsi u x (BitVec.ofNat 32 k)) 0#32) = 1#1 := by
    rw [IntOp.andi_eq_one]
    rintro ⟨h1, h2⟩
    rw [IntOp.cmpi_ne] at h1 h2
    rcases Nat.eq_zero_or_pos x.toNat with h0 | h0
    · apply h2
      rw [IntOp.remsi_eq_zero_iff u hx k hk hk', h0]
      exact dvd_zero k
    · apply h1
      unfold sgnW
      rw [slt_zero hx, show IntOp.cmpi .sgt x 0#32 = 1#1 from IntOp.cmpi_sgt.mpr (by
        rw [BitVec.toInt_eq_toNat_of_lt hx, show (0#32 : BitVec 32).toInt = 0 from rfl]; omega)]
      rfl
  exact if_neg h

/-- The correction of a remainder that is not negative changes nothing. -/
theorem mod_fix (r c : BitVec 32) (b : BitVec 1) (hb : b = 0#1) (hr : 2 * r.toNat < 2 ^ 32) :
    Scalar.select (IntOp.andi (IntOp.xori (IntOp.cmpi .slt r 0#32) b) (IntOp.cmpi .ne r 0#32)) (IntOp.addi r c) r = r := by
  subst hb
  rw [slt_zero hr]
  refine if_neg fun h => ?_
  exact absurd (IntOp.andi_eq_one.mp h).1 (by decide)

/-! ## The index of an item -/

/-- The index of the item at a place of the row-major codes. -/
def tix (n : ℕ) : ℕ := n / 8 / 1000 * 8000 + n % 8 * 1000 + n / 8 % 1000

/-- The index of the item at a place of the array. -/
def tx (y : S8192x128.Idx) : ℕ := tix ((y 0).val * 128 + (y 1).val)

theorem tix_inj {n m : ℕ} (h : tix n = tix m) : n = m := by unfold tix at h; omega
theorem tix_lt (n : ℕ) : tix n < 1000000 ↔ n < 1000000 := by unfold tix; omega

/-- The place of an item's index. -/
def nix (i : ℕ) : ℕ := i / 8000 * 8000 + i % 1000 * 8 + i % 8000 / 1000
theorem tix_nix (i : ℕ) : tix (nix i) = i := by
  have h1 : nix i / 8 = i / 8000 * 1000 + i % 1000 := by unfold nix; omega
  have h2 : nix i % 8 = i % 8000 / 1000 := by unfold nix; omega
  have h3 : (i / 8000 * 1000 + i % 1000) / 1000 = i / 8000 := by omega
  have h4 : (i / 8000 * 1000 + i % 1000) % 1000 = i % 1000 := by omega
  unfold tix
  rw [h1, h2, h3, h4]
  omega
theorem nix_lt {i : ℕ} (h : i < 1000000) : nix i < 1000000 := by unfold nix; omega

theorem place_lt (y : S8192x128.Idx) : (y 0).val * 128 + (y 1).val < 1048576 := by
  have h0 : (y 0).val < 8192 := (y 0).isLt
  have h1 : (y 1).val < 128 := (y 1).isLt
  omega

theorem tx_inj : Function.Injective tx := by
  intro y z h
  have := tix_inj h
  have h1 : (y 1).val < 128 := (y 1).isLt
  have h1' : (z 1).val < 128 := (z 1).isLt
  funext a
  match a with
  | ⟨0, _⟩ => exact Fin.ext (show (y 0).val = (z 0).val by omega)
  | ⟨1, _⟩ => exact Fin.ext (show (y 1).val = (z 1).val by omega)

/-- The place of a number below the size. -/
def place (n : ℕ) (h : n < 1048576) : S8192x128.Idx := fun a => match a with
  | ⟨0, _⟩ => ⟨n / 128, show n / 128 < 8192 by omega⟩
  | ⟨1, _⟩ => ⟨n % 128, show n % 128 < 128 by omega⟩

theorem place_val (n : ℕ) (h : n < 1048576) : (place n h 0).val * 128 + (place n h 1).val = n := by
  show n / 128 * 128 + n % 128 = n
  omega

theorem tx_surj (i : Fin 1000000) : ∃ y, tx y = i.val := by
  have h := nix_lt i.isLt
  exact ⟨place (nix i.val) (by omega), by unfold tx; rw [place_val, tix_nix]⟩

theorem pay7_toNat (y : S8192x128.Idx) : (k0_pay7 y).toNat = (y 0).val * 128 + (y 1).val := by
  have h0 : (y 0).val < 8192 := (y 0).isLt
  have h1 : (y 1).val < 128 := (y 1).isLt
  show (BitVec.ofNat 32 (0 * 8192 + (y 0).val) * 128#32 + BitVec.ofNat 32 (0 * 128 + (y 1).val)).toNat = _
  rw [BitVec.toNat_add, BitVec.toNat_mul, BitVec.toNat_ofNat, BitVec.toNat_ofNat, BitVec.toNat_ofNat]
  omega

theorem ix10_toNat (y : S8192x128.Idx) : (ix10 y).toNat = ((y 0).val * 128 + (y 1).val) / 8 := by
  have hp := pay7_toNat y
  have hl := place_lt y
  have e : ix10 y = IntOp.divsi .vector (k0_pay7 y) (BitVec.ofNat 32 8) :=
    floor_fix .vector (k0_pay7 y) (IntOp.divsi .vector (k0_pay7 y) (BitVec.ofNat 32 8))
      (Scalar.subi (Scalar.extui (Scalar.cmpi .sgt 8#32 0#32)) (Scalar.extui (Scalar.cmpi .slt 8#32 0#32))) (by decide) 8 (by omega) (by omega) (by omega)
  rw [e, toNat_divsi _ (by omega) 8 (by omega) (by omega), hp]

theorem ix11_toNat (y : S8192x128.Idx) : (ix11 y).toNat = ((y 0).val * 128 + (y 1).val) % 8 := by
  have hp := pay7_toNat y
  have hl := place_lt y
  have hr := IntOp.toNat_remsi .vector (x := k0_pay7 y) (by omega) 8 (by omega) (by omega)
  have e : ix11 y = IntOp.remsi .vector (k0_pay7 y) (BitVec.ofNat 32 8) :=
    mod_fix (IntOp.remsi .vector (k0_pay7 y) (BitVec.ofNat 32 8)) 8#32 (Scalar.cmpi .slt 8#32 0#32) (by decide) (by omega)
  rw [e, hr, hp]

/-- The word of the item's index. -/
theorem index_toNat (y : S8192x128.Idx) : (k0_pay15 ix10 ix11 ix12 ix13 ix14 y).toNat = tx y := by
  have h10 := ix10_toNat y
  have h11 := ix11_toNat y
  have hl := place_lt y
  have hq := toNat_divsi .vector (x := ix10 y) (by omega) 1000 (by omega) (by omega)
  have hr := IntOp.toNat_remsi .vector (x := ix10 y) (by omega) 1000 (by omega) (by omega)
  have e1 := floor_fix .vector (ix10 y) (IntOp.divsi .vector (ix10 y) (BitVec.ofNat 32 1000))
      (Scalar.subi (Scalar.extui (Scalar.cmpi .sgt 1000#32 0#32)) (Scalar.extui (Scalar.cmpi .slt 1000#32 0#32))) (by decide) 1000 (by omega) (by omega) (by omega)
  have e2 := mod_fix (IntOp.remsi .vector (ix10 y) (BitVec.ofNat 32 1000)) 1000#32 (Scalar.cmpi .slt 1000#32 0#32) (by decide) (by omega)
  have e : k0_pay15 ix10 ix11 ix12 ix13 ix14 y
      = IntOp.divsi .vector (ix10 y) (BitVec.ofNat 32 1000) * 8000#32 + ix11 y * 1000#32 + IntOp.remsi .vector (ix10 y) (BitVec.ofNat 32 1000) := by
    refine Eq.trans ?_ (congrArg₂ (fun a b : BitVec 32 => a * 8000#32 + ix11 y * 1000#32 + b) e1 e2)
    rfl
  rw [e, BitVec.toNat_add, BitVec.toNat_add, BitVec.toNat_mul, BitVec.toNat_mul, hq, hr, h10, h11, BitVec.toNat_ofNat, BitVec.toNat_ofNat]
  unfold tx tix
  omega

theorem index_toInt (y : S8192x128.Idx) : (k0_pay15 ix10 ix11 ix12 ix13 ix14 y).toInt = (tx y : ℤ) := by
  have h := index_toNat y
  have hl := place_lt y
  have : tx y < 2000000 := by unfold tx tix; omega
  rw [BitVec.toInt_eq_toNat_of_lt (by omega), h]

/-! ## The counts -/

theorem card_place : Fintype.card S8192x128.Idx = 1048576 := by
  refine (Fintype.card_congr (piFinTwoEquiv fun a : Fin 2 => Fin (S8192x128.size a))).trans ?_
  rw [Fintype.card_prod, Fintype.card_fin, Fintype.card_fin]
  rfl

/-- A reduction to one word folds every word. -/
theorem red_one {s : Shape} (kind : IKind) (axes : List (Fin s.rank)) (src : IVec s 32) (acc : BitVec 32) (h : s.Reduces axes S1) (hacc : acc = kind.neutral) (j : S1.Idx) :
    multiReductionI kind axes S1 src acc h hacc j = Finset.univ.fold kind.op acc src := by
  rw [multiReductionI_eq_fold, Finset.filter_true_of_mem fun i _ => funext fun a => match a with
    | ⟨0, _⟩ => Fin.ext (Nat.lt_one_iff.mp (Fin.isLt _) |>.trans (Nat.lt_one_iff.mp (Fin.isLt _)).symm)]

/-- A one-bit word per place, widened and added up, is the number of the ones. -/
theorem count_word (w : IVec S8192x128 1) :
    extractAt ![0, 0, 0] (shapeCast S1x1x1 (multiReductionI .add [1, 2] S1 (shapeCast S1x8192x128 (extui 32 w natLt_1_32) shapeCasts_S8192x128_S1x8192x128) 0#32 reduces_S1x8192x128_S1 rfl) shapeCasts_S1_S1x1x1) inpos_S1x1x1_p0_0_0
      = BitVec.ofNat 32 (Finset.univ.filter fun y => w y = 1#1).card := by
  refine (red_one .add _ _ _ _ rfl _).trans ?_
  refine (IndicatorCount.fold_addi_setWidth_eq_card (fun i => w (Shape.reshapeEquiv shapeCasts_S8192x128_S1x8192x128 i)) Finset.univ).trans ?_
  congr 1
  refine Finset.card_equiv (Shape.reshapeEquiv shapeCasts_S8192x128_S1x8192x128) fun i => ?_
  simp

theorem count_toInt (p : S8192x128.Idx → Prop) [DecidablePred p] : (BitVec.ofNat 32 (Finset.univ.filter p).card).toInt = ((Finset.univ.filter p).card : ℤ) := by
  have h : (Finset.univ.filter p).card ≤ 1048576 := card_place ▸ Finset.card_le_univ _
  have e : (BitVec.ofNat 32 (Finset.univ.filter p).card).toNat = (Finset.univ.filter p).card := by
    rw [BitVec.toNat_ofNat]; omega
  rw [BitVec.toInt_eq_toNat_of_lt (by omega), e]

/-- The code at a place, read as an integer. -/
def keyOf (v1 : IVec S8192x128 32) (y : S8192x128.Idx) : ℤ := (v1 y).toInt

theorem pay2_eq (v0 : Vec Ideal S8192x128 .i32) : k0_pay2 (F := Ideal) v0 = v0 := shapeCast_self _ _

theorem countMid_toInt (v1 : IVec S8192x128 32) (lo hi : BitVec 32) : (countMid v1 lo hi).toInt = (cnt (keyOf v1) (midW lo hi).toInt : ℤ) := by
  refine (congrArg BitVec.toInt (count_word (cmpi .sle v1 (broadcast S8192x128 (midW lo hi))))).trans ((count_toInt _).trans ?_)
  unfold cnt keyOf
  congr 2
  ext y
  simp only [Finset.mem_filter, Finset.mem_univ, true_and]
  exact IntOp.cmpi_sle

theorem uptoW_toInt (v0 : Vec Ideal S8192x128 .i32) (t : BitVec 32) : (uptoW v0 t).toInt = (cnt (keyOf v0) t.toInt : ℤ) := by
  refine (congrArg BitVec.toInt (count_word (cmpi .sle (k0_pay2 v0) (broadcast S8192x128 t)))).trans ((count_toInt _).trans ?_)
  unfold cnt keyOf
  rw [pay2_eq]
  congr 2
  ext y
  simp only [Finset.mem_filter, Finset.mem_univ, true_and]
  exact IntOp.cmpi_sle

theorem belowW_toInt (v0 : Vec Ideal S8192x128 .i32) (t : BitVec 32) : (belowW v0 t).toInt = (cnt (keyOf v0) (t.toInt - 1) : ℤ) := by
  refine (congrArg BitVec.toInt (count_word (cmpi .slt (k0_pay2 v0) (broadcast S8192x128 t)))).trans ((count_toInt _).trans ?_)
  unfold cnt keyOf
  rw [pay2_eq]
  congr 2
  ext y
  simp only [Finset.mem_filter, Finset.mem_univ, true_and]
  refine IntOp.cmpi_slt.trans ?_
  show (v0 y).toInt < t.toInt ↔ _
  omega

theorem countTie_toInt (v1 : IVec S8192x128 32) (t : BitVec 32) (p : BitVec 32 × BitVec 32) :
    (countTie v1 t p).toInt = (tie (keyOf v1) tx t.toInt (halfW p.1 p.2).toInt : ℤ) := by
  refine (congrArg BitVec.toInt (count_word (andi (cmpi .eq v1 (broadcast S8192x128 t)) (cmpi .sle (k0_pay15 ix10 ix11 ix12 ix13 ix14) (broadcast S8192x128 (halfW p.1 p.2)))))).trans ((count_toInt _).trans ?_)
  unfold tie keyOf
  congr 2
  ext y
  simp only [Finset.mem_filter, Finset.mem_univ, true_and]
  refine IntOp.andi_eq_one.trans (and_congr (IntOp.cmpi_eq.trans ?_) (IntOp.cmpi_sle.trans ?_))
  · exact BitVec.toInt_inj.symm
  · rw [index_toInt]; rfl

/-! ## The least code and the greatest of the columns' least -/

theorem least_toInt (v0 : Vec Ideal S8192x128 .i32) :
    (∀ y, (extractAt ![0, 0, 0] (k0_pay3 v0) inpos_S1x1x1_p0_0_0).toInt ≤ keyOf v0 y)
      ∧ ((∀ y, -2147483648 < keyOf v0 y) → -2147483648 < (extractAt ![0, 0, 0] (k0_pay3 v0) inpos_S1x1x1_p0_0_0).toInt) := by
  have e : (extractAt ![0, 0, 0] (k0_pay3 v0) inpos_S1x1x1_p0_0_0).toInt
      = Finset.univ.fold min (2147483647 : ℤ) fun i : S1x8192x128.Idx => keyOf v0 (Shape.reshapeEquiv shapeCasts_S8192x128_S1x8192x128 i) := by
    have h := red_one .minsi [1, 2] (shapeCast S1x8192x128 (k0_pay2 v0) shapeCasts_S8192x128_S1x8192x128) 2147483647#32 reduces_S1x8192x128_S1 rfl
      (Shape.reshapeEquiv shapeCasts_S1_S1x1x1 fun a => ⟨![0, 0, 0] a, inpos_S1x1x1_p0_0_0 a⟩)
    refine Eq.trans (b := (Finset.univ.fold IKind.minsi.op 2147483647#32 (shapeCast S1x8192x128 (k0_pay2 v0) shapeCasts_S8192x128_S1x8192x128)).toInt) ?_ ?_
    · rw [← h]; rfl
    rw [pay2_eq]
    exact (Finset.fold_hom (op := IntOp.minsi) (op' := min) (m := BitVec.toInt) SortNet.toInt_minsi).symm
  rw [e]
  constructor
  · intro y
    rw [Finset.fold_min_le]
    refine Or.inr ⟨(Shape.reshapeEquiv shapeCasts_S8192x128_S1x8192x128).symm y, Finset.mem_univ _, ?_⟩
    rw [Equiv.apply_symm_apply]
  · intro h
    rw [Finset.lt_fold_min]
    exact ⟨by decide, fun i _ => h _⟩

/-- The least code of a column. -/
def colMin (v1 : IVec S8192x128 32) (j : S128.Idx) : ℤ :=
  (Finset.univ.filter fun i => (reduces_S8192x128_S128).drop i = j).fold min (2147483647 : ℤ) (keyOf v1)

theorem greatest_toInt (v0 : Vec Ideal S8192x128 .i32) (c : Fin 128) : ∃ y : S8192x128.Idx, (y 1).val = c.val ∧ keyOf v0 y ≤ (hiW v0).toInt := by
  have e : (hiW v0).toInt = Finset.univ.fold max (-2147483648 : ℤ) fun i : S1x128.Idx => colMin v0 (Shape.reshapeEquiv shapeCasts_S128_S1x128 i) := by
    refine (congrArg BitVec.toInt (red_one .maxsi _ (shapeCast S1x128 (multiReductionI .minsi [0] S128 (k0_pay2 v0) 2147483647#32 reduces_S8192x128_S128 rfl) shapeCasts_S128_S1x128) _ _ rfl _)).trans ?_
    rw [pay2_eq]
    refine (Finset.fold_hom (op := IntOp.maxsi) (op' := max) (m := BitVec.toInt) SortNet.toInt_maxsi).symm.trans ?_
    refine Finset.fold_congr fun i _ => ?_
    refine (congrArg BitVec.toInt (multiReductionI_eq_fold _ _ _ _ _ _)).trans ?_
    exact (Finset.fold_hom (op := IntOp.minsi) (op' := min) (m := BitVec.toInt) SortNet.toInt_minsi).symm
  have hcol : colMin v0 (fun a => match a with | ⟨0, _⟩ => c) ≤ (hiW v0).toInt := by
    rw [e, Finset.le_fold_max]
    refine Or.inr ⟨(Shape.reshapeEquiv shapeCasts_S128_S1x128).symm (fun a => match a with | ⟨0, _⟩ => c), Finset.mem_univ _, ?_⟩
    rw [Equiv.apply_symm_apply]
  have hdrop : ∀ y : S8192x128.Idx, (reduces_S8192x128_S128).drop y = (fun a => match a with | ⟨0, _⟩ => c) ↔ (y 1).val = c.val := by
    intro y
    have := (reduces_S8192x128_S128).drop_apply_val_of_eq y 0 1
    rw [← this]
    constructor
    · intro h; rw [h]
    · intro h; funext a; match a with | ⟨0, _⟩ => exact Fin.ext h
  have hmin : colMin v0 (fun a => match a with | ⟨0, _⟩ => c) ≤ colMin v0 (fun a => match a with | ⟨0, _⟩ => c) := le_rfl
  conv_lhs at hmin => unfold colMin
  rw [Finset.fold_min_le] at hmin
  rcases hmin with h | ⟨y, hy, h⟩
  · refine ⟨fun a => match a with | ⟨0, _⟩ => ⟨0, show 0 < 8192 by decide⟩ | ⟨1, _⟩ => c, rfl, ?_⟩
    have := (v0 (fun a => match a with | ⟨0, _⟩ => ⟨0, show 0 < 8192 by decide⟩ | ⟨1, _⟩ => c)).toInt_lt
    unfold keyOf
    omega
  · exact ⟨y, (hdrop y).mp (Finset.mem_filter.mp hy).2, h.trans hcol⟩

/-! ## The floor of half a sum -/

theorem halfW_toInt (lo hi : BitVec 32) (h0 : 0 ≤ lo.toInt) (h1 : lo.toInt ≤ 1000000) (h2 : 0 ≤ hi.toInt) (h3 : hi.toInt ≤ 999999) :
    (halfW lo hi).toInt = (lo.toInt + hi.toInt) / 2 := by
  have es : (Scalar.addi lo hi).toInt = lo.toInt + hi.toInt := by
    show (lo + hi).toInt = _
    rw [BitVec.toInt_add, Int.bmod_eq_of_le] <;> omega
  have hn : 2 * (Scalar.addi lo hi).toNat < 2 ^ 32 := by
    rw [BitVec.toInt_eq_toNat_cond] at es
    split at es <;> omega
  have en : ((Scalar.addi lo hi).toNat : ℤ) = lo.toInt + hi.toInt := by rw [← es, BitVec.toInt_eq_toNat_of_lt hn]
  have hq := toNat_divsi .scalar hn 2 (by omega) (by omega)
  have e : halfW lo hi = IntOp.divsi .scalar (Scalar.addi lo hi) (BitVec.ofNat 32 2) :=
    floor_fix .scalar (Scalar.addi lo hi) (IntOp.divsi .scalar (Scalar.addi lo hi) (BitVec.ofNat 32 2))
      (Scalar.subi (Scalar.extui (Scalar.cmpi .sgt 2#32 0#32)) (Scalar.extui (Scalar.cmpi .slt 2#32 0#32))) (by decide) 2 hn (by omega) (by omega)
  rw [e, BitVec.toInt_eq_toNat_of_lt (by omega), hq]
  omega

end Cert.SelectIdeal.Hand

end
-- ==== Proof.SelectBisect.lean ====
/-
  The two searches of the selection's body find the threshold and the last tie, and what the body stores is a one at
  each of the first hundred of the stable sort and a zero elsewhere.
-/
module

public import proofs.«01_k».proof.Proof.SelectWords
public import Idealize.ShloMosaic.Lib.Exec.Context

@[expose] public section

set_option maxRecDepth 16384

noncomputable section

namespace Cert.SelectIdeal.Hand

open Cert.SelectIdeal.Gen
open Idealize.ShloMosaic

/-- A choice on a comparison, when it holds. -/
theorem pick_pos {α : Type} {a b : BitVec 32} (h : b.toInt ≤ a.toInt) (x y : α) : Scalar.select (Scalar.cmpi .sge a b) x y = x :=
  if_pos (IntOp.cmpi_sge.mpr h)

/-- A choice on a comparison, when it does not hold. -/
theorem pick_neg {α : Type} {a b : BitVec 32} (h : ¬ b.toInt ≤ a.toInt) (x y : α) : Scalar.select (Scalar.cmpi .sge a b) x y = y :=
  if_neg fun h' => h (IntOp.cmpi_sge.mp h')

/-- The word after a word that is not the last. -/
theorem succ_toInt (a : BitVec 32) (h : a.toInt < 2147483647) : (Scalar.addi a 1#32).toInt = a.toInt + 1 := by
  have h3 := a.le_toInt
  show (a + 1#32).toInt = _
  rw [BitVec.toInt_add, show (1#32 : BitVec 32).toInt = 1 from rfl, Int.bmod_eq_of_le] <;> omega

/-- The first search ends at the least value with a hundred codes at or below it. -/
theorem loopW_spec (v1 : IVec S8192x128 32) : ∀ (k : ℕ) (p : BitVec 32 × BitVec 32), gap p ≤ k → p.1.toInt ≤ p.2.toInt →
    100 ≤ cnt (keyOf v1) p.2.toInt → (∀ v < p.1.toInt, cnt (keyOf v1) v < 100) →
    100 ≤ cnt (keyOf v1) (loopW v1 k p).2.toInt ∧ cnt (keyOf v1) ((loopW v1 k p).2.toInt - 1) < 100 := by
  have stop : ∀ p : BitVec 32 × BitVec 32, ¬ p.1.toInt < p.2.toInt → p.1.toInt ≤ p.2.toInt → 100 ≤ cnt (keyOf v1) p.2.toInt →
      (∀ v < p.1.toInt, cnt (keyOf v1) v < 100) → 100 ≤ cnt (keyOf v1) p.2.toInt ∧ cnt (keyOf v1) (p.2.toInt - 1) < 100 :=
    fun p h1 h2 h3 h4 => ⟨h3, h4 _ (by omega)⟩
  intro k
  induction k with
  | zero =>
    intro p hg hle hhi hlo
    rw [loopW_zero]
    exact stop p (by unfold gap at hg; omega) hle hhi hlo
  | succ k ih =>
    intro p hg hle hhi hlo
    by_cases h : Scalar.cmpi .slt p.1 p.2 = 1#1
    · rw [loopW_step v1 k p h]
      have hn := gap_next v1 p h
      rw [slt_iff] at h
      have hm := midW_toInt p.1 p.2
      have h2 := p.2.toInt_lt
      have hs := succ_toInt (midW p.1 p.2) (by omega)
      have hc := countMid_toInt v1 p.1 p.2
      refine ih (nextW v1 p) (by omega) ?_ ?_ ?_
      all_goals
        unfold nextW
        by_cases hq : (100#32 : BitVec 32).toInt ≤ (countMid v1 p.1 p.2).toInt
        · simp only [pick_pos hq]
          rw [show (100#32 : BitVec 32).toInt = 100 from rfl, hc] at hq
          first
            | omega
            | exact hlo
        · simp only [pick_neg hq]
          rw [show (100#32 : BitVec 32).toInt = 100 from rfl, hc] at hq
          first
            | omega
            | exact hhi
            | (intro v hv
               refine lt_of_le_of_lt (b := cnt (keyOf v1) (midW p.1 p.2).toInt) ?_ (by omega)
               refine Finset.card_le_card fun y hy => ?_
               simp only [Finset.mem_filter, Finset.mem_univ, true_and] at hy ⊢
               omega)
    · rw [loopW_stop v1 _ p h]
      rw [slt_iff] at h
      exact stop p h hle hhi hlo

/-- What the second search keeps true, with so many steps to go. -/
def Keeps (T : ℤ → ℕ) (need : ℤ) (w : ℕ) (p : BitVec 32 × BitVec 32) : Prop :=
  0 ≤ p.1.toInt ∧ p.1.toInt ≤ p.2.toInt ∧ p.2.toInt ≤ 999999 ∧ p.2.toInt - p.1.toInt < (2 ^ w : ℕ) ∧ need ≤ T p.2.toInt ∧ ∀ v < p.1.toInt, (T v : ℤ) < need

/-- A step of the second search keeps it. -/
theorem keeps_next (v1 : IVec S8192x128 32) (t need : BitVec 32) (w : ℕ) (p : BitVec 32 × BitVec 32)
    (h : Keeps (tie (keyOf v1) tx t.toInt) need.toInt (w + 1) p) : Keeps (tie (keyOf v1) tx t.toInt) need.toInt w (nextTie v1 t need p) := by
  obtain ⟨h0, h1, h2, h3, h4, h5⟩ := h
  have hm := halfW_toInt p.1 p.2 h0 (by omega) (by omega) h2
  have hs := succ_toInt (halfW p.1 p.2) (by omega)
  have hc := countTie_toInt v1 t p
  have hw : (2 ^ (w + 1) : ℕ) = 2 * 2 ^ w := by rw [pow_succ]; ring
  rw [hw] at h3
  push_cast at h3
  unfold Keeps nextTie
  by_cases hq : need.toInt ≤ (countTie v1 t p).toInt
  · simp only [pick_pos hq]
    rw [hc] at hq
    refine ⟨h0, by omega, by omega, ?_, hq, h5⟩
    push_cast
    omega
  · simp only [pick_neg hq]
    rw [hc] at hq
    have hlt : (halfW p.1 p.2).toInt ≠ p.2.toInt := fun e => hq (e ▸ h4)
    refine ⟨by omega, by omega, h2, ?_, h4, fun v hv => ?_⟩
    · push_cast
      omega
    · refine lt_of_le_of_lt (b := (tie (keyOf v1) tx t.toInt (halfW p.1 p.2).toInt : ℤ)) ?_ (by omega)
      refine Int.ofNat_le.mpr (Finset.card_le_card fun y hy => ?_)
      simp only [Finset.mem_filter, Finset.mem_univ, true_and] at hy ⊢
      omega

/-- Steps that each keep it, in a row. -/
theorem keeps_fold {α : Type} (T : ℤ → ℕ) (need : ℤ) (g : BitVec 32 × BitVec 32 → BitVec 32 × BitVec 32)
    (hg : ∀ w p, Keeps T need (w + 1) p → Keeps T need w (g p)) :
    ∀ (l : List α) (p : BitVec 32 × BitVec 32), Keeps T need l.length p → Keeps T need 0 (l.foldl (fun p _ => g p) p) := by
  intro l
  induction l with
  | nil => intro p h; exact h
  | cons a l ih => intro p h; exact ih (g p) (hg _ _ h)

/-- The second search ends at the least place with enough ties at or below it. -/
theorem lastTie_spec (v1 : IVec S8192x128 32) (t need : BitVec 32) (h1 : need.toInt ≤ tie (keyOf v1) tx t.toInt 999999) (h0 : 0 < need.toInt) :
    0 ≤ (lastTie v1 t need).toInt ∧ (lastTie v1 t need).toInt ≤ 999999 ∧ need.toInt ≤ tie (keyOf v1) tx t.toInt (lastTie v1 t need).toInt
      ∧ ∀ v < (lastTie v1 t need).toInt, (tie (keyOf v1) tx t.toInt v : ℤ) < need.toInt := by
  have h : Keeps (tie (keyOf v1) tx t.toInt) need.toInt 0 (Scf.fold (n := k0_t1_loop.trips) (fun _ p => nextTie v1 t need p) (0#32, 999999#32)) := by
    rw [Scf.fold_eq]
    refine keeps_fold _ _ (nextTie v1 t need) (keeps_next v1 t need) (List.finRange k0_t1_loop.trips) (0#32, 999999#32) ?_
    rw [List.length_finRange, show k0_t1_loop.trips = 20 by decide]
    have e0 : (0#32 : BitVec 32).toInt = 0 := by decide
    have e1 : (999999#32 : BitVec 32).toInt = 999999 := by decide
    unfold Keeps
    dsimp only
    rw [e0, e1]
    refine ⟨by omega, by omega, by omega, by norm_num, h1, fun v hv => ?_⟩
    have : tie (keyOf v1) tx t.toInt v = 0 := by
      refine Finset.card_eq_zero.mpr (Finset.filter_eq_empty_iff.mpr fun y _ hy => ?_)
      omega
    omega
  unfold lastTie lastOf
  generalize Scf.fold (n := k0_t1_loop.trips) (fun _ p => nextTie v1 t need p) (0#32, 999999#32) = r at h ⊢
  obtain ⟨a0, a1, a2, a3, a4, a5⟩ := h
  have a3' : r.2.toInt - r.1.toInt < 1 := by simpa using a3
  exact ⟨by omega, a2, a4, fun v hv => a5 v (by omega)⟩

/-- The same of two ends. -/
theorem thrOf_spec (v1 : IVec S8192x128 32) (lo hi : BitVec 32) (h : lo.toInt ≤ hi.toInt) (h1 : 100 ≤ cnt (keyOf v1) hi.toInt)
    (h2 : ∀ v < lo.toInt, cnt (keyOf v1) v < 100) :
    100 ≤ cnt (keyOf v1) (thrOf loopW v1 (lo, hi)).toInt ∧ cnt (keyOf v1) ((thrOf loopW v1 (lo, hi)).toInt - 1) < 100 :=
  loopW_spec v1 (gap (lo, hi)) (lo, hi) le_rfl h h1 h2

theorem thr_search (v0 : Vec Ideal S8192x128 .i32) : thr v0 = thrOf loopW v0 (loW v0, hiW v0) := by
  unfold thr; rw [pay2_eq]

/-- The threshold found by the first search. -/
theorem thr_spec (v0 : Vec Ideal S8192x128 .i32) (hlow : ∀ y, -2147483648 < keyOf v0 y) :
    100 ≤ cnt (keyOf v0) (thr v0).toInt ∧ cnt (keyOf v0) ((thr v0).toInt - 1) < 100 := by
  obtain ⟨hle, hgt⟩ := least_toInt v0
  have hl : (loW v0).toInt = (extractAt ![0, 0, 0] (k0_pay3 v0) inpos_S1x1x1_p0_0_0).toInt - 1 := by
    have h1 := hgt hlow
    unfold loW
    generalize extractAt ![0, 0, 0] (k0_pay3 v0) inpos_S1x1x1_p0_0_0 = a at h1
    have h2 := a.toInt_lt
    show (a - 1#32).toInt = _
    rw [BitVec.toInt_sub, show (1#32 : BitVec 32).toInt = 1 from rfl, Int.bmod_eq_of_le] <;> omega
  choose g hg1 hg2 using greatest_toInt v0
  have hgi : Function.Injective g := fun a b e => Fin.ext (by rw [← hg1 a, ← hg1 b, e])
  rw [thr_search]
  refine thrOf_spec v0 (loW v0) (hiW v0) ?_ ?_ ?_
  · have h3 := hle (g 0)
    have h4 := hg2 0
    omega
  · have e : (Finset.univ : Finset (Fin 128)).card = 128 := by rw [Finset.card_univ, Fintype.card_fin]
    have : 128 ≤ cnt (keyOf v0) (hiW v0).toInt := by
      rw [← e]
      refine Finset.card_le_card_of_injOn g (fun c _ => ?_) hgi.injOn
      simpa using hg2 c
    omega
  · intro v hv
    have : cnt (keyOf v0) v = 0 := by
      refine Finset.card_eq_zero.mpr (Finset.filter_eq_empty_iff.mpr fun y _ hy => ?_)
      have := hle y
      omega
    omega

theorem maskW_pay (v0 : Vec Ideal S8192x128 .i32) :
    maskW v0 = k0_pay17 (F := Ideal) v0 (thr v0) ix10 ix11 ix12 ix13 ix14 (lastW v0 (thr v0)) := by
  unfold maskW; rw [pay2_eq]

/-- The body's last value at a place, of any words. -/
theorem pay17_at (v1 : IVec S8192x128 32) (t : BitVec 32) (a b c : IVec S8192x128 32) (d : IVec S8192x128 1) (e : IVec S8192x128 32) (l : BitVec 32) (y : S8192x128.Idx) :
    k0_pay17 (F := Ideal) v1 t a b c d e l y
      = ((((IntOp.ori (IntOp.cmpi .slt (v1 y) t) (IntOp.andi (IntOp.cmpi .eq (v1 y) t) (IntOp.cmpi .sle (k0_pay15 a b c d e y) l))).setWidth 32 : BitVec 32).toInt : ℝ) : EReal) := rfl

/-- What the body stores at a place. -/
theorem maskW_at (v0 : Vec Ideal S8192x128 .i32) (y : S8192x128.Idx) :
    (keyOf v0 y < (thr v0).toInt ∨ (keyOf v0 y = (thr v0).toInt ∧ (tx y : ℤ) ≤ (lastW v0 (thr v0)).toInt) → maskW v0 y = (1 : EReal))
      ∧ (¬ (keyOf v0 y < (thr v0).toInt ∨ (keyOf v0 y = (thr v0).toInt ∧ (tx y : ℤ) ≤ (lastW v0 (thr v0)).toInt)) → maskW v0 y = (0 : EReal)) := by
  have hi := index_toInt y
  have hv := (congrFun (maskW_pay v0) y).trans (pay17_at v0 (thr v0) ix10 ix11 ix12 ix13 ix14 (lastW v0 (thr v0)) y)
  generalize maskW v0 y = z at hv ⊢
  generalize thr v0 = t at hv ⊢
  generalize lastW v0 t = l at hv ⊢
  generalize k0_pay15 ix10 ix11 ix12 ix13 ix14 y = w at hi hv
  have hb : IntOp.ori (IntOp.cmpi .slt (v0 y) t) (IntOp.andi (IntOp.cmpi .eq (v0 y) t) (IntOp.cmpi .sle w l)) = 1#1
      ↔ keyOf v0 y < t.toInt ∨ (keyOf v0 y = t.toInt ∧ (tx y : ℤ) ≤ l.toInt) := by
    rw [IntOp.ori_eq_one, IntOp.andi_eq_one, IntOp.cmpi_slt, IntOp.cmpi_eq, IntOp.cmpi_sle, hi]
    unfold keyOf
    rw [BitVec.toInt_inj]
  rw [hv, ← hb]
  generalize IntOp.ori (IntOp.cmpi .slt (v0 y) t) (IntOp.andi (IntOp.cmpi .eq (v0 y) t) (IntOp.cmpi .sle w l)) = c
  constructor
  · intro h
    rw [h, show ((1#1 : BitVec 1).setWidth 32 : BitVec 32).toInt = 1 from rfl]
    simp
  · intro h
    have h0 : c = 0#1 := by revert h; revert c; decide
    rw [h0, show ((0#1 : BitVec 1).setWidth 32 : BitVec 32).toInt = 0 from rfl]
    simp

/-- The body stores a one at the first hundred of the stable sort of the codes, and a zero elsewhere. -/
theorem maskW_first (v0 : Vec Ideal S8192x128 .i32) (hlow : ∀ y, -2147483648 < keyOf v0 y) (hpad : ∀ y, 1000000 ≤ tx y → keyOf v0 y = 2147483647)
    (code : Fin 1000000 → ℤ) (hcode : ∀ y (h : tx y < 1000000), code ⟨tx y, h⟩ = keyOf v0 y) (y : S8192x128.Idx) :
    ((∃ h : tx y < 1000000, ∃ j : Fin 100, sortedFrom (byCode code) (j.castLE (by decide : 100 ≤ 1000000)) = ⟨tx y, h⟩) → maskW v0 y = (1 : EReal))
      ∧ ((¬ ∃ h : tx y < 1000000, ∃ j : Fin 100, sortedFrom (byCode code) (j.castLE (by decide : 100 ≤ 1000000)) = ⟨tx y, h⟩) → maskW v0 y = (0 : EReal)) := by
  obtain ⟨h1, h0⟩ := thr_spec v0 hlow
  have htM : (thr v0).toInt ≤ 2147483647 := by have := (thr v0).toInt_lt; omega
  have hle : ∀ z, keyOf v0 z ≤ 2147483647 := fun z => by have := (v0 z).toInt_lt; unfold keyOf; omega
  have henough := tie_enough (keyOf v0) tx (by decide : 100 ≤ 1000000) 2147483647 hpad hle tx_surj (thr v0).toInt htM h1
  have hup := uptoW_toInt v0 (thr v0)
  have hbelow := belowW_toInt v0 (thr v0)
  have hneed : (Scalar.subi 100#32 (belowW v0 (thr v0))).toInt = 100 - cnt (keyOf v0) ((thr v0).toInt - 1) := by
    rw [← hbelow]
    show (100#32 - belowW v0 (thr v0)).toInt = _
    rw [BitVec.toInt_sub, show (100#32 : BitVec 32).toInt = 100 from rfl, Int.bmod_eq_of_le] <;> omega
  have hex : exactW v0 (thr v0) ↔ cnt (keyOf v0) (thr v0).toInt = 100 := by
    unfold exactW
    rw [Scalar.guard_iff]
    show IntOp.cmpi .eq (uptoW v0 (thr v0)) 100#32 = 1#1 ↔ _
    rw [IntOp.cmpi_eq, ← BitVec.toInt_inj, hup, show (100#32 : BitVec 32).toInt = 100 from rfl]
    omega
  have hlast : 0 ≤ (lastW v0 (thr v0)).toInt ∧ (lastW v0 (thr v0)).toInt < 1000000 ∧
      ((cnt (keyOf v0) (thr v0).toInt = 100 ∧ (lastW v0 (thr v0)).toInt = 1000000 - 1)
        ∨ (100 ≤ cnt (keyOf v0) ((thr v0).toInt - 1) + tie (keyOf v0) tx (thr v0).toInt (lastW v0 (thr v0)).toInt
          ∧ ∀ v < (lastW v0 (thr v0)).toInt, cnt (keyOf v0) ((thr v0).toInt - 1) + tie (keyOf v0) tx (thr v0).toInt v < 100)) := by
    unfold lastW
    by_cases h : exactW v0 (thr v0)
    · rw [if_pos h, show (999999#32 : BitVec 32).toInt = 999999 from by decide]
      exact ⟨by omega, by omega, Or.inl ⟨hex.mp h, by omega⟩⟩
    · rw [if_neg h, pay2_eq]
      have henough' : 100 ≤ cnt (keyOf v0) ((thr v0).toInt - 1) + tie (keyOf v0) tx (thr v0).toInt 999999 := by
        simpa using henough
      obtain ⟨a0, a1, a2, a3⟩ := lastTie_spec v0 (thr v0) (Scalar.subi 100#32 (belowW v0 (thr v0))) (by omega) (by omega)
      exact ⟨a0, by omega, Or.inr ⟨by omega, fun v hv => by have := a3 v hv; omega⟩⟩
  have hiff := chosen_iff (keyOf v0) tx tx_inj (by decide : 100 ≤ 1000000) 2147483647 hpad hle tx_surj (by rw [card_place]; decide) code hcode
    (thr v0).toInt (lastW v0 (thr v0)).toInt htM h1 h0 hlast.1 (by simpa using hlast.2.1) (by simpa using hlast.2.2) y
  obtain ⟨m1, m0⟩ := maskW_at v0 y
  exact ⟨fun h => m1 (hiff.mpr h), fun h => m0 fun h' => h (hiff.mp h')⟩

end Cert.SelectIdeal.Hand

end
-- ==== Proof.Rows.lean ====
/-
  Rows written and read by number: a scatter that sets whole rows, one that adds to them, a gather of rows, the same for
  the entries of a vector, and the first places of a stable sort.
-/
module

public import Idealize.ShloMosaic.Lib.Routing.Ops
public import Idealize.ShloMosaic.Lib.Routing.OpsSet
public import Idealize.ShloMosaic.Lib.Routing.OpsPair
public import Idealize.ShloMosaic.PureOps.Ideal.Laws

@[expose] public section

noncomputable section

namespace Cert.UpdateIdeal.Hand

open Idealize.ShloMosaic Idealize.ShloMosaic.Routing Idealize.ShloMosaic.ValueIdx

section rows

variable {N n B : ℕ} (d : ScatterDims ⟨2, ![N, B]⟩ ⟨2, ![n, 1]⟩ ⟨2, ![n, B]⟩) (h1 : d.updateWindowDims = [1])
  (h2 : d.insertedWindowDims = [0]) (h3 : d.scatterDimsToOperandDims = [0]) (h4 : d.indexVectorDim = 1)
  (idx : IVec ⟨2, ![n, 1]⟩ 32) (g : Fin n → ℕ) (hg : ∀ j : (⟨2, ![n, 1]⟩ : Shape).Idx, (idx j).toInt = (g (j 0) : ℤ))
include h1 h2 h3 h4 hg

/-- Where an update of a row lands: in the row its number says, at its own column. -/
theorem row_lands (k : (⟨2, ![n, B]⟩ : Shape).Idx) (i : (⟨2, ![N, B]⟩ : Shape).Idx) :
    d.resultIdx? k idx = some i ↔ g (k 0) = (i 0).val ∧ (k 1).val = (i 1).val := by
  obtain ⟨u, iw, sd, iv, wf⟩ := d
  dsimp only at h1 h2 h3 h4
  subst h1 h2 h3 h4
  rw [resultIdx?_eq_some, Fin.forall_fin_two]
  have e0 : ScatterDims.start ⟨[1], [0], [0], 1, wf⟩ k idx 0 = (g (k 0) : ℤ) := by
    show (idx _).toInt = _
    rw [hg]
    rfl
  have e1 : ScatterDims.start (⟨[1], [0], [0], 1, wf⟩ : ScatterDims ⟨2, ![N, B]⟩ ⟨2, ![n, 1]⟩ ⟨2, ![n, B]⟩) k idx 1 = 0 := rfl
  have e2 : ScatterDims.window (⟨[1], [0], [0], 1, wf⟩ : ScatterDims ⟨2, ![N, B]⟩ ⟨2, ![n, 1]⟩ ⟨2, ![n, B]⟩) k 0 = 0 := rfl
  have e3 : ScatterDims.window (⟨[1], [0], [0], 1, wf⟩ : ScatterDims ⟨2, ![N, B]⟩ ⟨2, ![n, 1]⟩ ⟨2, ![n, B]⟩) k 1 = (k 1).val := rfl
  rw [e0, e1, e2, e3]
  omega

/-- Setting rows, read in a row that some number names: the update's row. -/
theorem row_hit (hinj : Function.Injective g) {α : Type} (x : (⟨2, ![N, B]⟩ : Shape).Idx → α) (upd : (⟨2, ![n, B]⟩ : Shape).Idx → α)
    (i : (⟨2, ![N, B]⟩ : Shape).Idx) (k : (⟨2, ![n, B]⟩ : Shape).Idx) (hk : g (k 0) = (i 0).val) (hk' : (k 1).val = (i 1).val) :
    Host.scatter d (fun _ b => b) x idx upd i = upd k := by
  refine scatter_set_hit d x idx upd i _ (fun k' h' => ?_) k ((row_lands d h1 h2 h3 h4 idx g hg k i).mpr ⟨hk, hk'⟩)
  obtain ⟨ha, hb⟩ := (row_lands d h1 h2 h3 h4 idx g hg k' i).mp h'
  refine congrArg upd (funext fun a => ?_)
  match a with
  | ⟨0, _⟩ => exact hinj (ha.trans hk.symm)
  | ⟨1, _⟩ => exact Fin.ext (hb.trans hk'.symm)

/-- Setting rows, read in a row that no number names: the row as it was. -/
theorem row_miss {α : Type} (x : (⟨2, ![N, B]⟩ : Shape).Idx → α) (upd : (⟨2, ![n, B]⟩ : Shape).Idx → α)
    (i : (⟨2, ![N, B]⟩ : Shape).Idx) (hi : ∀ j, g j ≠ (i 0).val) : Host.scatter d (fun _ b => b) x idx upd i = x i :=
  scatter_set_miss d x idx upd i fun k hk => hi _ ((row_lands d h1 h2 h3 h4 idx g hg k i).mp hk).1

/-- Adding to rows, read in a row that some number names: the row and the update's. -/
theorem row_add (hinj : Function.Injective g) (x : FVec Ideal ⟨2, ![N, B]⟩ .f32) (upd : FVec Ideal ⟨2, ![n, B]⟩ .f32)
    (i : (⟨2, ![N, B]⟩ : Shape).Idx) (k : (⟨2, ![n, B]⟩ : Shape).Idx) (hk : g (k 0) = (i 0).val) (hk' : (k 1).val = (i 1).val) :
    Host.scatterAdd (F := Ideal) d x idx upd i = x i + upd k := by
  show x i + ∑ j ∈ Finset.univ.filter (fun j => d.resultIdx? j idx = some i), upd j = _
  congr 1
  have e : Finset.univ.filter (fun j => d.resultIdx? j idx = some i) = {k} := by
    ext k'
    rw [Finset.mem_filter, Finset.mem_singleton, row_lands d h1 h2 h3 h4 idx g hg k' i]
    constructor
    · rintro ⟨-, ha, hb⟩
      funext a
      match a with
      | ⟨0, _⟩ => exact hinj (ha.trans hk.symm)
      | ⟨1, _⟩ => exact Fin.ext (hb.trans hk'.symm)
    · rintro rfl
      exact ⟨Finset.mem_univ _, hk, hk'⟩
  rw [e, Finset.sum_singleton]

end rows

section entries

variable {N n : ℕ} (d : ScatterDims ⟨1, ![N]⟩ ⟨2, ![n, 1]⟩ ⟨1, ![n]⟩) (h1 : d.updateWindowDims = [])
  (h2 : d.insertedWindowDims = [0]) (h3 : d.scatterDimsToOperandDims = [0]) (h4 : d.indexVectorDim = 1)
  (idx : IVec ⟨2, ![n, 1]⟩ 32) (g : Fin n → ℕ) (hg : ∀ j : (⟨2, ![n, 1]⟩ : Shape).Idx, (idx j).toInt = (g (j 0) : ℤ))
include h1 h2 h3 h4 hg

/-- Where an update of an entry lands: in the entry its number says. -/
theorem entry_lands (k : (⟨1, ![n]⟩ : Shape).Idx) (i : (⟨1, ![N]⟩ : Shape).Idx) :
    d.resultIdx? k idx = some i ↔ g (k 0) = (i 0).val := by
  obtain ⟨u, iw, sd, iv, wf⟩ := d
  dsimp only at h1 h2 h3 h4
  subst h1 h2 h3 h4
  rw [resultIdx?_eq_some, Fin.forall_fin_one]
  have e0 : ScatterDims.start ⟨[], [0], [0], 1, wf⟩ k idx 0 = (g (k 0) : ℤ) := by
    show (idx _).toInt = _
    rw [hg]
    rfl
  have e2 : ScatterDims.window (⟨[], [0], [0], 1, wf⟩ : ScatterDims ⟨1, ![N]⟩ ⟨2, ![n, 1]⟩ ⟨1, ![n]⟩) k 0 = 0 := rfl
  rw [e0, e2]
  omega

/-- Setting entries to one value: it at the entries named, the others as they were. -/
theorem entry_set {α : Type} (x : (⟨1, ![N]⟩ : Shape).Idx → α) (v : α) (i : (⟨1, ![N]⟩ : Shape).Idx) :
    ((∃ j, g j = (i 0).val) → Host.scatter d (fun _ b => b) x idx (fun _ => v) i = v)
      ∧ ((∀ j, g j ≠ (i 0).val) → Host.scatter d (fun _ b => b) x idx (fun _ => v) i = x i) := by
  refine ⟨fun ⟨j, hj⟩ => ?_, fun hj => ?_⟩
  · exact scatter_set_hit d x idx _ i v (fun _ _ => rfl) (fun a => match a with | ⟨0, _⟩ => j)
      ((entry_lands d h1 h2 h3 h4 idx g hg _ i).mpr hj)
  · exact scatter_set_miss d x idx _ i fun k hk => hj _ ((entry_lands d h1 h2 h3 h4 idx g hg k i).mp hk)

end entries

/-- Rows fetched by number. -/
theorem row_get {N n B : ℕ} (d : GatherDims ⟨2, ![N, B]⟩ ⟨2, ![n, 1]⟩ ⟨2, ![n, B]⟩) (hoff : d.offsetDims = [1])
    (hcoll : d.collapsedSliceDims = [0]) (hob : d.operandBatchingDims = []) (hsim : d.startIndexMap = [0])
    (hivd : d.indexVectorDim = 1) {α : Type} (x : (⟨2, ![N, B]⟩ : Shape).Idx → α) (idx : IVec ⟨2, ![n, 1]⟩ 32)
    (g : Fin n → ℕ) (hg : ∀ j : (⟨2, ![n, 1]⟩ : Shape).Idx, idx j = BitVec.ofNat 32 (g (j 0))) (hN : N < 2 ^ 31)
    (i : (⟨2, ![N, B]⟩ : Shape).Idx) (k : (⟨2, ![n, B]⟩ : Shape).Idx) (hk : g (k 0) = (i 0).val) (hk' : (k 1).val = (i 1).val) :
    Host.gather d x idx k = x i := by
  have e := gather_row d hoff hcoll hob hsim hivd x idx (k 0) (k 1) (i 0) ((hg _).trans (congrArg _ hk)) hN
  refine (congrArg (Host.gather d x idx) (eq_ix2 k)).trans (e.trans ?_)
  refine congrArg x (funext fun a => ?_)
  match a with
  | ⟨0, _⟩ => rfl
  | ⟨1, _⟩ => exact Fin.ext hk'

/-- A stable sort leaves in front, in order, elements that nothing sorts before. -/
theorem stableSort_front {ι : Type} (before : ι → ι → Bool) (p r : List ι) (hp : ∀ a ∈ p, ∀ b, before b a = false) :
    stableSort before (p ++ r) = p ++ stableSort before r := by
  induction p with
  | nil => rfl
  | cons a p ih =>
    rw [List.cons_append, stableSort, ih fun b hb => hp b (List.mem_cons_of_mem _ hb), List.cons_append]
    cases e : p ++ stableSort before r with
    | nil => rfl
    | cons b l => rw [insertBefore, if_neg (by rw [hp a List.mem_cons_self]; exact Bool.false_ne_true)]

/-- Where nothing sorts before any of the first `K` positions, those are the first `K` of the sort, in order. -/
theorem sortedFrom_front {n K : ℕ} (before : Fin n → Fin n → Bool) (hp : ∀ a : Fin n, a.val < K → ∀ b, before b a = false)
    (k : Fin n) (hk : k.val < K) : sortedFrom before k = k := by
  have e : sortPositions n before = (List.finRange n).take K ++ stableSort before ((List.finRange n).drop K) := by
    conv_lhs => rw [sortPositions, ← List.take_append_drop K (List.finRange n)]
    refine stableSort_front before _ _ fun a ha b => hp a ?_ b
    obtain ⟨i, hi, rfl⟩ := List.mem_iff_getElem.mp ha
    rw [List.length_take] at hi
    rw [List.getElem_take, List.getElem_finRange]
    simp only [Fin.val_cast]
    omega
  unfold sortedFrom
  rw [List.get_of_eq e, List.get_eq_getElem]
  have hl : k.val < ((List.finRange n).take K).length := by
    rw [List.length_take, List.length_finRange]
    omega
  simp only [Fin.val_cast]
  rw [List.getElem_append_left hl, List.getElem_take, List.getElem_finRange]
  rfl

/-- The positions of the `K` greatest of a vector that is greatest at its first `K` entries: these, in order. -/
theorem topK_front {N K : ℕ} (hK : K ≤ N) (x : FVec Ideal ⟨1, ![N]⟩ .f32) (h : (⟨1, ![N]⟩ : Shape).Slices (fun _ => 0) ⟨1, ![K]⟩)
    (hx : ∀ i : (⟨1, ![N]⟩ : Shape).Idx, (i 0).val < K → ∀ j, x j ≤ x i) (k : (⟨1, ![K]⟩ : Shape).Idx) :
    (Host.topK (s := ⟨1, ![N]⟩) ⟨1, ![K]⟩ 0 (FloatOps.cmpfTotal (F := Ideal) (φ := .f32) .gt) x h).2 k = BitVec.ofNat 32 (k 0).val := by
  have hk : (k 0).val < K := (k 0).isLt
  unfold Host.topK
  dsimp only
  unfold Host.sort2
  rw [dif_pos (show 0 < (⟨1, ![N]⟩ : Shape).rank from Nat.one_pos)]
  unfold extractStridedSlice
  dsimp only
  rw [dif_pos (show 0 < (⟨1, ![N]⟩ : Shape).rank from Nat.one_pos)]
  rw [sortedFrom_front (K := K)]
  · show BitVec.ofNat 32 (0 + (k 0).val) = _
    rw [Nat.zero_add]
  · intro a ha b
    have hle := hx (fun i => match i with | ⟨0, _⟩ => a) ha (fun i => match i with | ⟨0, _⟩ => b)
    show (BitVec.ofBool (decide (_ < _)) == 1#1) = false
    rw [decide_eq_false]
    · rfl
    · refine not_lt.mpr (le_trans (le_of_eq (congrArg x ?_)) (hle.trans (le_of_eq (congrArg x ?_))))
      · funext a'
        match a' with
        | ⟨0, _⟩ => rfl
      · funext a'
        match a' with
        | ⟨0, _⟩ => rfl
  · show 0 + (k 0).val < K
    omega

end Cert.UpdateIdeal.Hand
-- ==== Proof.SelectRef.lean ====
/-
  The selecting call's reference, place by place: a one where the item is among the first hundred of the stable sort of
  the codes, a zero elsewhere and in the padding.
-/
module

public import proofs.«01_k».proof.Defs
public import proofs.«01_k».proof.Proof.Gen.SelectRefIdeal.Run
public import Idealize.ShloMosaic.Lib.Pointwise
public import Idealize.ShloMosaic.Lib.StableHlo.Predicate
public import proofs.«01_k».proof.Proof.Rows
public import proofs.«01_k».proof.Proof.SelectWords

@[expose] public section

set_option maxRecDepth 16384

noncomputable section

namespace Cert.SelectRefIdeal.Hand

open Cert.SelectRefIdeal Cert.SelectRefIdeal.Gen
open Idealize.ShloMosaic Idealize.ShloMosaic.StableHlo
open Cert.SelectIdeal.Hand (tix tx byCode tix_lt)

section layout

variable {α : Type}

/-- A row padded and folded to rows of 128, at a place. -/
theorem padded_at (x : S1000000.Idx → α) (v : S_.Idx → α) (y : S8192x128.Idx) :
    (∀ h : (y 0).val * 128 + (y 1).val < 1000000, shapeCast S8192x128 (pad S1048576 ![0] ![48576] ![0] x v pads_S1000000_S1048576_0485760 h_S_) shapeCasts_S1048576_S8192x128 y
        = x (ix1 ⟨(y 0).val * 128 + (y 1).val, h⟩))
      ∧ (¬ (y 0).val * 128 + (y 1).val < 1000000 → shapeCast S8192x128 (pad S1048576 ![0] ![48576] ![0] x v pads_S1000000_S1048576_0485760 h_S_) shapeCasts_S1048576_S8192x128 y
        = v (Shape.Idx.first h_S_)) := by
  have hl : (y 0).val * 128 + (y 1).val < 1048576 := by
    have h0 : (y 0).val < 8192 := (y 0).isLt
    have h1 : (y 1).val < 128 := (y 1).isLt
    omega
  rw [shapeCast_apply _ _ y (ix1 ⟨(y 0).val * 128 + (y 1).val, hl⟩) (by
    rw [Shape.rowMajor_val_one, Shape.rowMajor_val_two]; rfl)]
  unfold pad
  constructor
  · intro h
    rw [dif_pos (fun a => match a with
      | ⟨0, _⟩ => ⟨Nat.zero_le _, Nat.mod_one _, by
          show ((y 0).val * 128 + (y 1).val - 0) / (0 + 1) < 1000000
          omega⟩)]
    refine congrArg x (funext fun a => match a with | ⟨0, _⟩ => Fin.ext ?_)
    show ((y 0).val * 128 + (y 1).val - 0) / (0 + 1) = (y 0).val * 128 + (y 1).val
    omega
  · intro h
    rw [dif_neg fun hin => h ?_]
    have h2 : ((y 0).val * 128 + (y 1).val - 0) / (0 + 1) < 1000000 := (hin 0).2.2
    omega

/-- A row by items, folded, turned and unfolded, at a place of the row-major codes. -/
theorem turned_at (x : S1000000.Idx → α) (n : Fin 1000000) (h : tix n.val < 1000000) :
    shapeCast S1000000 (transpose S125x1000x8 [0, 2, 1] (shapeCast S125x8x1000 x shapeCasts_S1000000_S125x8x1000) transposes_S125x8x1000_S125x1000x8_0_2_1) shapeCasts_S125x1000x8_S1000000 (ix1 n)
      = x (ix1 ⟨tix n.val, h⟩) := by
  have hn := n.isLt
  rw [shapeCast_apply _ _ (ix1 n) (ix3 ⟨n.val / 8 / 1000, by omega⟩ ⟨n.val / 8 % 1000, by omega⟩ ⟨n.val % 8, by omega⟩) (by
    rw [Shape.rowMajor_val_one, Shape.rowMajor_val_three]
    show (n.val / 8 / 1000 * 1000 + n.val / 8 % 1000) * 8 + n.val % 8 = n.val
    omega)]
  have e : transpose S125x1000x8 [0, 2, 1] (shapeCast S125x8x1000 x shapeCasts_S1000000_S125x8x1000) transposes_S125x8x1000_S125x1000x8_0_2_1
      (ix3 ⟨n.val / 8 / 1000, by omega⟩ ⟨n.val / 8 % 1000, by omega⟩ ⟨n.val % 8, by omega⟩)
      = shapeCast S125x8x1000 x shapeCasts_S1000000_S125x8x1000 (ix3 ⟨n.val / 8 / 1000, by omega⟩ ⟨n.val % 8, by omega⟩ ⟨n.val / 8 % 1000, by omega⟩) := by
    unfold transpose
    refine congrArg _ (funext fun a => match a with | ⟨0, _⟩ => rfl | ⟨1, _⟩ => rfl | ⟨2, _⟩ => rfl)
  rw [e]
  exact shapeCast_apply _ _ _ (ix1 ⟨tix n.val, h⟩) (by
    rw [Shape.rowMajor_val_one, Shape.rowMajor_val_three]
    show tix n.val = (n.val / 8 / 1000 * 8 + n.val % 8) * 1000 + n.val / 8 % 1000
    unfold tix
    omega)

/-- The codes by items, at an item. -/
def codes (x : S125000x8.Idx → α) : S1000000.Idx → α :=
  shapeCast S1000000 (transpose S125x8x1000 [0, 2, 1] (shapeCast S125x1000x8 x shapeCasts_S125000x8_S125x1000x8) transposes_S125x1000x8_S125x8x1000_0_2_1) shapeCasts_S125x8x1000_S1000000

/-- The codes by items are the row-major codes, each at its item's index. -/
theorem codes_at (x : S125000x8.Idx → α) (n : Fin 1000000) (h : tix n.val < 1000000) :
    codes x (ix1 ⟨tix n.val, h⟩) = x (ix2 ⟨n.val / 8, by omega⟩ ⟨n.val % 8, by omega⟩) := by
  have hn := n.isLt
  unfold codes
  rw [shapeCast_apply _ _ (ix1 ⟨tix n.val, h⟩) (ix3 ⟨n.val / 8 / 1000, by omega⟩ ⟨n.val % 8, by omega⟩ ⟨n.val / 8 % 1000, by omega⟩) (by
    rw [Shape.rowMajor_val_one, Shape.rowMajor_val_three]
    show (n.val / 8 / 1000 * 8 + n.val % 8) * 1000 + n.val / 8 % 1000 = tix n.val
    unfold tix
    omega)]
  have e : transpose S125x8x1000 [0, 2, 1] (shapeCast S125x1000x8 x shapeCasts_S125000x8_S125x1000x8) transposes_S125x1000x8_S125x8x1000_0_2_1
      (ix3 ⟨n.val / 8 / 1000, by omega⟩ ⟨n.val % 8, by omega⟩ ⟨n.val / 8 % 1000, by omega⟩)
      = shapeCast S125x1000x8 x shapeCasts_S125000x8_S125x1000x8 (ix3 ⟨n.val / 8 / 1000, by omega⟩ ⟨n.val / 8 % 1000, by omega⟩ ⟨n.val % 8, by omega⟩) := by
    unfold transpose
    refine congrArg _ (funext fun a => match a with | ⟨0, _⟩ => rfl | ⟨1, _⟩ => rfl | ⟨2, _⟩ => rfl)
  rw [e]
  exact shapeCast_apply _ _ _ (ix2 ⟨n.val / 8, by omega⟩ ⟨n.val % 8, by omega⟩) (by
    rw [Shape.rowMajor_val_two, Shape.rowMajor_val_three]
    show n.val / 8 * 8 + n.val % 8 = (n.val / 8 / 1000 * 1000 + n.val / 8 % 1000) * 8 + n.val % 8
    omega)

end layout

/-- The code of an item, read as an integer. -/
def codeOf (k : IVec S125000x8 32) (i : Fin 1000000) : ℤ := (codes k (ix1 i)).toInt

/-- The numbers of the items in the order of the codes. -/
abbrev order (k : IVec S125000x8 32) : IVec S1000000 32 := (Host.sort2 S1000000 0 comparator_i32_i32_d0 (codes k) (iotaInDim S1000000 32 0)).2

/-- A stable sort of words along one axis, with their places: the place at a rank. -/
theorem sort_at {N : ℕ} (cmp : BitVec 32 × BitVec 32 → BitVec 32 × BitVec 32 → BitVec 1) (hcmp : ∀ l r, cmp l r = IntOp.cmpi .slt l.1 r.1)
    (x : IVec ⟨1, ![N]⟩ 32) (j : Fin N) :
    (Host.sort2 ⟨1, ![N]⟩ 0 cmp x (iotaInDim ⟨1, ![N]⟩ 32 0)).2 (ix1 j) = BitVec.ofNat 32 (sortedFrom (byCode fun i => (x (ix1 i)).toInt) j).val := by
  have hR : (fun a b : Fin N => cmp (x ((ix1 j : (⟨1, ![N]⟩ : Shape).Idx).along 0 a), iotaInDim ⟨1, ![N]⟩ 32 0 ((ix1 j : (⟨1, ![N]⟩ : Shape).Idx).along 0 a)) (x ((ix1 j : (⟨1, ![N]⟩ : Shape).Idx).along 0 b), iotaInDim ⟨1, ![N]⟩ 32 0 ((ix1 j : (⟨1, ![N]⟩ : Shape).Idx).along 0 b)) == 1#1)
      = byCode fun i => (x (ix1 i)).toInt := by
    have hal : ∀ a : Fin N, (ix1 j : (⟨1, ![N]⟩ : Shape).Idx).along 0 a = ix1 a := fun a => funext fun b => match b with | ⟨0, _⟩ => rfl
    funext a b
    rw [hal, hal, hcmp]
    show (BitVec.ofBool (decide ((x (ix1 a)).toInt < (x (ix1 b)).toInt)) == 1#1) = decide ((x (ix1 a)).toInt < (x (ix1 b)).toInt)
    generalize decide ((x (ix1 a)).toInt < (x (ix1 b)).toInt) = d
    cases d <;> rfl
  unfold Host.sort2
  rw [dif_pos (show 0 < (⟨1, ![N]⟩ : Shape).rank from Nat.one_pos)]
  dsimp only
  rw [← hR]
  rfl

/-- The item at a rank is the one the stable sort puts there. -/
theorem order_at (k : IVec S125000x8 32) (j : Fin 1000000) : order k (ix1 j) = BitVec.ofNat 32 (sortedFrom (byCode (codeOf k)) j).val :=
  sort_at comparator_i32_i32_d0 (fun _ _ => rfl) (codes k) j

/-- The first hundred of them. -/
abbrev first (k : IVec S125000x8 32) : IVec S100 32 := extractStridedSlice S100 ![0] (order k) slices_S1000000_S100_0

/-- The items at the ranks among the first hundred. -/
def Firsts (k : IVec S125000x8 32) (f : Fin 100 → Fin 1000000) : Prop :=
  ∀ j : Fin 100, f j = sortedFrom (byCode (codeOf k)) (j.castLE (by decide : 100 ≤ 1000000))

theorem exists_firsts (k : IVec S125000x8 32) : ∃ f, Firsts k f := ⟨_, fun _ => rfl⟩

/-- A slice of the front, at a place. -/
theorem front_at {N K : ℕ} (x : IVec ⟨1, ![N]⟩ 32) (h : (⟨1, ![N]⟩ : Shape).Slices ![0] ⟨1, ![K]⟩) (hK : K ≤ N) (j : Fin K) :
    extractStridedSlice ⟨1, ![K]⟩ ![0] x h (ix1 j) = x (ix1 (j.castLE hK)) := by
  unfold extractStridedSlice
  refine congrArg x (funext fun a => match a with | ⟨0, _⟩ => Fin.ext ?_)
  exact Nat.zero_add _

theorem first_at (k : IVec S125000x8 32) (f : Fin 100 → Fin 1000000) (hf : Firsts k f) (j : Fin 100) : first k (ix1 j) = BitVec.ofNat 32 (f j).val := by
  rw [hf j]
  exact (front_at (N := 1000000) (K := 100) (order k) slices_S1000000_S100_0 (by decide) j).trans (order_at k _)

/-- Their column, none of them negative. -/
abbrev column (k : IVec S125000x8 32) : IVec S100x1 32 :=
  broadcastInDim S100x1 ![0] bcast_S100_S100x1_0 (select (cmpi .slt (first k) (broadcastInDim S100 ![] bcast_S_S100 (constantI S_ 32 0#32))) (addi (first k) (broadcastInDim S100 ![] bcast_S_S100 (constantI S_ 32 1000000#32))) (first k))

theorem column_int (k : IVec S125000x8 32) (f : Fin 100 → Fin 1000000) (hf : Firsts k f) (j : S100x1.Idx) : (column k j).toInt = ((f (j 0)).val : ℤ) := by
  idx_vars j
  have hlt : (f j0).val < 1000000 := (f j0).isLt
  have e : column k (ix2 j0 j1) = Scalar.select (IntOp.cmpi .slt (first k (ix1 j0)) 0#32) (IntOp.addi (first k (ix1 j0)) 1000000#32) (first k (ix1 j0)) := by
    unfold column
    generalize first k = x
    pointwise
  rw [e, first_at k f hf]
  rw [Routing.wrap_of_lt _ _ (by rw [BitVec.toNat_ofNat]; omega)]
  exact StableHlo.Predicate.toInt_ofNat_small _ (by omega)

/-- The marks: a one at each of the first hundred. -/
abbrev marks (k : IVec S125000x8 32) : FVec Ideal S1000000 .f32 :=
  Host.scatter scatter_S1000000_S100x1_S100_n_0_0_1 (fun _ b => b) (broadcastInDim S1000000 ![] bcast_S_S1000000 (constant S_ .f32 0x00000000#32)) (column k) (broadcastInDim S100 ![] bcast_S_S100 (constant S_ .f32 0x3F800000#32))

theorem bits_one : Ideal.ofBits .f32 0x3F800000#32 = (1 : EReal) := by
  simp [Ideal.ofBits, Ideal.ieee, -EReal.coe_mul]; try norm_num

theorem bits_zero : Ideal.ofBits .f32 0x00000000#32 = (0 : EReal) := by
  simp [Ideal.ofBits, Ideal.ieee, -EReal.coe_mul]

theorem marks_at (k : IVec S125000x8 32) (f : Fin 100 → Fin 1000000) (hf : Firsts k f) (i : Fin 1000000) :
    ((∃ j : Fin 100, f j = i) → marks k (ix1 i) = (1 : EReal))
      ∧ ((¬ ∃ j : Fin 100, f j = i) → marks k (ix1 i) = (0 : EReal)) := by
  obtain ⟨h1, h0⟩ := Cert.UpdateIdeal.Hand.entry_set (N := 1000000) (n := 100) scatter_S1000000_S100x1_S100_n_0_0_1 rfl rfl rfl rfl (column k) (fun j => (f j).val) (column_int k f hf)
    (broadcastInDim S1000000 ![] bcast_S_S1000000 (constant (F := Ideal) S_ .f32 0x00000000#32)) (Ideal.ofBits .f32 0x3F800000#32) (ix1 i)
  refine ⟨fun ⟨j, hj⟩ => (h1 ⟨j, congrArg Fin.val hj⟩).trans bits_one, fun h => (h0 fun j hj => h ⟨j, Fin.ext hj⟩).trans bits_zero⟩

/-- What the reference returns. -/
abbrev refMask (k : IVec S125000x8 32) : FVec Ideal S8192x128 .f32 :=
  shapeCast S8192x128 (pad S1048576 ![0] ![48576] ![0] (shapeCast S1000000 (transpose S125x1000x8 [0, 2, 1] (shapeCast S125x8x1000 (marks k) shapeCasts_S1000000_S125x8x1000) transposes_S125x8x1000_S125x1000x8_0_2_1) shapeCasts_S125x1000x8_S1000000) (sitofp .f32 (constantI S_ 32 0#32)) pads_S1000000_S1048576_0485760 h_S_) shapeCasts_S1048576_S8192x128

theorem refMask_at (k : IVec S125000x8 32) (f : Fin 100 → Fin 1000000) (hf : Firsts k f) (y : S8192x128.Idx) :
    ((∃ h : tx y < 1000000, ∃ j : Fin 100, f j = ⟨tx y, h⟩) → refMask k y = (1 : EReal))
      ∧ ((¬ ∃ h : tx y < 1000000, ∃ j : Fin 100, f j = ⟨tx y, h⟩) → refMask k y = (0 : EReal)) := by
  unfold refMask
  generalize hm : marks k = x
  obtain ⟨p1, p0⟩ := padded_at (shapeCast S1000000 (transpose S125x1000x8 [0, 2, 1] (shapeCast S125x8x1000 x shapeCasts_S1000000_S125x8x1000) transposes_S125x8x1000_S125x1000x8_0_2_1) shapeCasts_S125x1000x8_S1000000)
    (sitofp (F := Ideal) .f32 (constantI S_ 32 0#32)) y
  by_cases h : (y 0).val * 128 + (y 1).val < 1000000
  · have ht : tx y < 1000000 := (tix_lt _).mpr h
    have e := (p1 h).trans (turned_at x ⟨(y 0).val * 128 + (y 1).val, h⟩ ht)
    obtain ⟨m1, m0⟩ := marks_at k f hf ⟨tx y, ht⟩
    rw [hm] at m1 m0
    exact ⟨fun ⟨_, hj⟩ => e.trans (m1 hj), fun hn => e.trans (m0 fun hj => hn ⟨ht, hj⟩)⟩
  · have ht : ¬ tx y < 1000000 := fun h' => h ((tix_lt _).mp h')
    refine ⟨fun ⟨h', _⟩ => absurd h' ht, fun _ => (p0 h).trans ?_⟩
    show (((0#32 : BitVec 32).toInt : ℝ) : EReal) = 0
    rw [show (0#32 : BitVec 32).toInt = 0 from rfl]
    simp

end Cert.SelectRefIdeal.Hand

end
-- ==== Proof.SelectValue.lean ====
/-
  The selecting call: what it stores is a one at each of the first hundred of the stable sort of the codes and a zero
  elsewhere, which is what the reference returns.
-/
module

public import proofs.«01_k».proof.Proof.SelectFrame
public import proofs.«01_k».proof.Proof.SelectBisect
public import proofs.«01_k».proof.Proof.SelectRef
public import proofs.«01_k».proof.Proof.Gen.Pre_codes_above_least
public import Idealize.ShloMosaic.Lib.ReduceAll
public import Idealize.ShloMosaic.Lib.Pipeline.ReadBack
public import Idealize.ShloMosaic.Lib.Pipeline.ValueKit

@[expose] public section

set_option maxRecDepth 16384

noncomputable section

namespace Cert.SelectIdeal.Hand

open Cert.SelectIdeal Cert.SelectIdeal.Gen
open Idealize.ShloMosaic Idealize.ShloMosaic.StableHlo Idealize.ShloMosaic.TcCoe Idealize.SL.Sem
open Idealize.ShloMosaic.Pipeline (Dat)
open Cert.SelectRefIdeal.Hand (codes codeOf Firsts refMask)

variable (m : (ℓ : Loc nD τ sig) → Buf (Elt Ideal) ℓ)

/-- The codes the call is given. -/
def keys (c : Dev nD) : IVec S125000x8 32 := m ((c : Thread nD τ).loc main_arg0)

/-- The codes in one row. -/
def row (c : Dev nD) : IVec S1000000 32 := shapeCast S1000000 (keys m c) shapeCasts_S125000x8_S1000000

/-- The codes as the body reads them: one row, padded and folded. -/
theorem input (c : Dev nD) : (V m c main_v2 : IVec S8192x128 32)
    = shapeCast S8192x128 (pad S1048576 ![0] ![48576] ![0] (row m c) (constantI S_ 32 2147483647#32) pads_S1000000_S1048576_0485760 h_S_) shapeCasts_S1048576_S8192x128 := by
  unfold V
  simp only [hostOps0, hostOps0_1, hostOps0_2, List.flatten_cons, List.flatten_nil, List.append_nil, List.cons_append, List.nil_append,
    TRef.binary, TRef.nullary, TRef.unary, TRef.toBuf, TRef.ofBuf, cast_eq]
  after_results
  all_goals rfl

/-- The row of codes at a place. -/
theorem row_at (c : Dev nD) (n : Fin 1000000) : row m c (ix1 n) = keys m c (ix2 ⟨n.val / 8, by omega⟩ ⟨n.val % 8, by omega⟩) := by
  have hn := n.isLt
  exact shapeCast_apply _ _ _ (ix2 ⟨n.val / 8, by omega⟩ ⟨n.val % 8, by omega⟩) (by
    rw [Shape.rowMajor_val_one, Shape.rowMajor_val_two]
    show n.val / 8 * 8 + n.val % 8 = n.val
    omega)

/-- What the body reads at an item's place is the item's code. -/
theorem input_in (c : Dev nD) (y : S8192x128.Idx) (h : tx y < 1000000) : ((V m c main_v2 : IVec S8192x128 32) y) = codes (keys m c) (ix1 ⟨tx y, h⟩) := by
  have hn : (y 0).val * 128 + (y 1).val < 1000000 := (tix_lt _).mp h
  rw [input]
  exact ((Cert.SelectRefIdeal.Hand.padded_at (row m c) _ y).1 hn).trans
    ((row_at m c ⟨_, hn⟩).trans (Cert.SelectRefIdeal.Hand.codes_at (keys m c) ⟨_, hn⟩ h).symm)

/-- In the padding it is the greatest word. -/
theorem input_out (c : Dev nD) (y : S8192x128.Idx) (h : ¬ tx y < 1000000) : ((V m c main_v2 : IVec S8192x128 32) y) = 2147483647#32 := by
  have hn : ¬ (y 0).val * 128 + (y 1).val < 1000000 := fun h' => h ((tix_lt _).mpr h')
  rw [input]
  exact ((Cert.SelectRefIdeal.Hand.padded_at (row m c) _ y).2 hn).trans rfl

/-- The block read at the one point is the whole. -/
theorem block (c : Dev nD) (t : Fin (cfg0 (F := Ideal)).N) (y : S8192x128.Idx) : iblk m c 0 t y = (V m c main_v2 : IVec S8192x128 32) y := by
  have e : ∀ t : Fin (cfg0 (F := Ideal)).N, (win0_0).index t = ![0, 0] := (by decide +kernel : ∀ t : Fin grid0.N, _)
  have hV : V m c (Pipeline.arrRef spec0 0) = V m c main_v2 := rfl
  unfold iblk
  rw [hV]
  generalize V m c main_v2 = v
  idx_vars y
  blk_ext [e t]

/-- What the precondition says. -/
theorem above (hpre : Cert.Pre_SelectIdeal_codes_above_least m) (c : Dev nD) (i : S125000x8.Idx) :
    -2147483648 < (keys m c i).toInt := by
  have h := congrFun (hpre c) (fun k => k.elim0)
  unfold Cert.Pre_codes_above_least.fn at h
  have : Subsingleton Cert.Pre_codes_above_least.S_.Idx := ⟨fun a b => funext fun k => k.elim0⟩
  have h' := Host.reduce_andi_all _ _ _ _ _ h i
  have h2 : IntOp.cmpi .sgt (keys m c i) 2147483648#32 = 1#1 := h'
  have h3 := IntOp.cmpi_sgt.mp h2
  rw [show (2147483648#32 : BitVec 32).toInt = -2147483648 from by decide] at h3
  exact h3

/-- What the call stores, whatever it reads, so long as that is the codes with the greatest word in the padding. -/
theorem mask_eq (k : IVec S125000x8 32) (v : Vec Ideal S8192x128 .i32)
    (hin : ∀ (y : S8192x128.Idx) (h : tx y < 1000000), v y = codes k (ix1 ⟨tx y, h⟩))
    (hout : ∀ y : S8192x128.Idx, ¬ tx y < 1000000 → v y = 2147483647#32)
    (hlow : ∀ i, -2147483648 < (k i).toInt) (y : S8192x128.Idx) : maskW v y = refMask k y := by
  obtain ⟨f, hf⟩ := Cert.SelectRefIdeal.Hand.exists_firsts k
  have hg : (2147483647#32 : BitVec 32).toInt = 2147483647 := by decide
  obtain ⟨a1, a0⟩ := maskW_first v
    (fun y => by
      unfold keyOf
      by_cases h : tx y < 1000000
      · rw [hin y h]
        unfold codes shapeCast transpose
        exact hlow _
      · rw [hout y h, hg]
        decide)
    (fun y h => by
      unfold keyOf
      rw [hout y (by omega), hg])
    (codeOf k)
    (fun y h => by
      unfold keyOf codeOf
      rw [hin y h])
    y
  obtain ⟨b1, b0⟩ := Cert.SelectRefIdeal.Hand.refMask_at k f hf y
  have hiff : (∃ h : tx y < 1000000, ∃ j : Fin 100, f j = ⟨tx y, h⟩)
      ↔ ∃ h : tx y < 1000000, ∃ j : Fin 100, sortedFrom (byCode (codeOf k)) (j.castLE (by decide : 100 ≤ 1000000)) = ⟨tx y, h⟩ :=
    ⟨fun ⟨h, j, e⟩ => ⟨h, j, (hf j).symm.trans e⟩, fun ⟨h, j, e⟩ => ⟨h, j, (hf j).trans e⟩⟩
  by_cases h : ∃ h : tx y < 1000000, ∃ j : Fin 100, f j = ⟨tx y, h⟩
  · exact (a1 (hiff.mp h)).trans (b1 h).symm
  · exact (a0 fun h' => h (hiff.mpr h')).trans (b0 h).symm

/-- The one grid point. -/
def pt0 : Fin (cfg0 (F := Ideal)).N := ⟨0, by decide⟩

/-- The output array after the run. -/
theorem final (f : Vec Ideal S8192x128 .i32 → Vec Ideal S8192x128 .f32) (c : Dev nD) :
    (dats m f 0 c).arrAt 1 (cfg0 (F := Ideal)).N = (f (iblk m c 0 pt0) : Vec Ideal S8192x128 .f32) := by
  have e : ∀ t : Fin (cfg0 (F := Ideal)).N, (win0_1).index t = ![0, 0] := (by decide +kernel : ∀ t : Fin grid0.N, _)
  refine (dats m f 0 c).arrAt_eq_of_after_last 1 pt0 (by decide +kernel) _ fun y => ?_
  rw [after0_1]
  idx_vars y
  have hy : (View.whole main_v3).emb (ix2 y0 y1) = ix2 y0 y1 := rfl
  exact rfl

/-- The array the run leaves is the reference's mask. -/
theorem stored (hpre : Cert.Pre_SelectIdeal_codes_above_least m) (c : Dev nD) :
    (dats m maskW 0 c).arrAt 1 (cfg0 (F := Ideal)).N = (refMask (keys m c) : Vec Ideal S8192x128 .f32) :=
  (final m maskW c).trans (funext fun y => mask_eq (keys m c) (iblk m c 0 pt0)
    (fun y h => (block m c pt0 y).trans (input_in m c y h)) (fun y h => (block m c pt0 y).trans (input_out m c y h)) (above m hpre c) y)

/-- The claim: the call and the reference agree on the mask. -/
theorem algebraic : Cert.algebraic_SelectIdeal_SelectRefIdeal_pre_codes_above_least := by
  intro m g m' g' hpre hagree
  refine ⟨fun c => (refMask (keys m c) : Vec Ideal S8192x128 .f32), ?_, ?_⟩
  · refine (θ_run defs _ _).mono (fun r h c => ?_) (run_main m g maskW computes_mask)
    exact ⟨((h c).1 1).trans (stored m hpre c),
      ((h c).2 main_arg0 (show main_arg0 ∈ Pipeline.restRefs sig spec0 by decide)).trans (V_main_arg0 m c)⟩
  refine (θ_run Cert.SelectRefIdeal.defs _ _).mono (fun _ h c => ?_) (Cert.SelectRefIdeal.Value.run (F := Ideal) m' g')
  exact ⟨((h c).1).trans (congrArg refMask (hagree c)), (h c).2⟩

/-- The reference's frame: it runs, its argument ends unchanged, and it has no counters. -/
theorem ref_frame : Cert.quiescent_SelectRefIdeal := by
  intro m ρ _
  exact (θ_run Cert.SelectRefIdeal.defs _ _).mono
    (fun r h => ⟨fun c => (h c).2, Idealize.ShloMosaic.sem_eq_zero_of_no_sems (by decide) r.2⟩)
    (Cert.SelectRefIdeal.Value.run (F := Ideal) m ρ)

end Cert.SelectIdeal.Hand

end
-- ==== Proof.UpdateRun.lean ====
module

public import proofs.«01_k».proof.Proof.Gen.UpdateIdeal.Frame
public import proofs.«01_k».proof.Proof.Gen.UpdateIdeal.Skeleton
public import Idealize.ShloMosaic.Lib.Ring
public import Idealize.ShloMosaic.Lib.Tactic
public import Idealize.ShloMosaic.Lib.WordCmp
public import Idealize.ShloMosaic.Lib.Pipeline.FrameBody
public import Idealize.ShloMosaic.Lib.VecWindow
public import Idealize.ShloMosaic.Lib.Pipeline.Value
public import Idealize.ShloMosaic.Lib.Pointwise

@[expose] public section

set_option maxRecDepth 16384

noncomputable section

namespace Cert.UpdateIdeal.Hand

open Cert.UpdateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's test that the grid stands at point `k`. -/
abbrev at_ (k : BitVec 32) (i : grid0.Coords) : Prop :=
  (Scalar.cmpi .ne (Scalar.extui (Scalar.cmpi .eq (BitVec.ofNat 32 (i 0).val) k)) 0#32) = 1#1

/-- Sixteen entries of row `o` of a block of dense rows, from column `p` on. -/
def rowAt (x0 : Vec F S5000x128 .f32) (o p : ℕ) (ho : o < 5000) (hp : p + 16 ≤ 128) : Vec F S1x16 .f32 :=
  fun y => x0 (ix2 (⟨o, ho⟩ : Fin 5000) (⟨p + (y 1).val, lt_of_lt_of_le (Nat.add_lt_add_left (show (y 1).val < 16 from (y 1).isLt) p) hp⟩ : Fin 128))

/-- The rows of the targets after a point: the point that holds a target overwrites that target's row. -/
def stepRows (i : grid0.Coords) (x0 : Vec F S5000x128 .f32) (s6 : Vec F S8x16 .f32) : Vec F S8x16 .f32 := fun y =>
  if at_ 2#32 i ∧ (y 0).val = 0 then rowAt x0 2000 64 (by decide) (by decide) (ix2 (0 : Fin 1) (y 1))
  else if at_ 5#32 i ∧ (y 0).val = 1 then rowAt x0 0 0 (by decide) (by decide) (ix2 (0 : Fin 1) (y 1))
  else if at_ 7#32 i ∧ (y 0).val = 2 then rowAt x0 2000 64 (by decide) (by decide) (ix2 (0 : Fin 1) (y 1))
  else if at_ 10#32 i ∧ (y 0).val = 3 then rowAt x0 0 0 (by decide) (by decide) (ix2 (0 : Fin 1) (y 1))
  else if at_ 12#32 i ∧ (y 0).val = 4 then rowAt x0 2000 64 (by decide) (by decide) (ix2 (0 : Fin 1) (y 1))
  else s6 y

/-- The running weighted sum after a point: the point's block added to zero at the first point, to what was there otherwise. -/
def stepAcc (i : grid0.Coords) (x0 : Vec F S5000x128 .f32) (x1 : Vec F S5000x8 .f32) (s5 : Vec F S1x128 .f32) : Vec F S1x128 .f32 :=
  k0_pay1 (k0_pay11 x1 (if at_ 0#32 i then k0_pay10 else s5) x0)

/-- The first five rows of the buffer that holds the targets' rows. -/
def five (s6 : Vec F S8x16 .f32) : Vec F S5x16 .f32 :=
  fun y => s6 (ix2 (⟨(y 0).val, lt_of_lt_of_le (show (y 0).val < 5 from (y 0).isLt) (by decide)⟩ : Fin 8) (y 1))

/-- The output's buffer after a point: the last point stores the result, the others leave the buffer alone. -/
def stepOut (i : grid0.Coords) (x2 s4 : Vec F S60x16 .f32) (a5 : Vec F S1x128 .f32) (s6 : Vec F S8x16 .f32) : Vec F S60x16 .f32 :=
  if k0_cond7 i = 1#1 then k0_pay7 (k0_pay8 a5) (k0_pay9 x2) (five s6) else s4

/-- Reading a buffer of eight rows after one row was stored. -/
theorem read_store_row (v : View sig .tc .vmem S8x16 .f32) (f : v.ty.Contents (Elt F)) (o : ℕ)
    (inb : ∀ a, (![o, 0] : Fin 2 → ℕ) a + (![1, 16] : Fin 2 → ℕ) a ≤ S8x16.size a) (w : Vec F S1x16 .f32) :
    v.read (Elt F) (v.writes (Elt F) f [⟨Rect.unit (s := S8x16) ![o, 0] ![1, 16] inb, w⟩])
      = fun y => if (y 0).val = o then w (ix2 (0 : Fin 1) (y 1)) else v.read (Elt F) f y := by
  funext y
  by_cases h : (y 0).val = o
  · rw [if_pos h]
    exact View.read_writes_cons_rows_of_mem v f inb w [] y (ix2 (0 : Fin 1) (y 1)) rfl h rfl
  · rw [if_neg h]
    exact View.read_writes_cons_rows_of_not_mem (o := o) (W := 1) v f inb w [] y rfl rfl (by omega)

/-- A load of sixteen entries of one row. -/
theorem load_row (v : View sig .tc .vmem S5000x128 .f32) (f : v.ty.Contents (Elt F)) (o p : ℕ) (ho : o < 5000) (hp : p + 16 ≤ 128)
    (inb : ∀ a, (![o, p] : Fin 2 → ℕ) a + (![1, 16] : Fin 2 → ℕ) a ≤ S5000x128.size a) :
    v.readAt (Elt F) (Rect.unit (s := S5000x128) ![o, p] ![1, 16] inb).toLoadRect f = rowAt (v.read (Elt F) f) o p ho hp := by
  funext y
  refine congrArg (v.read (Elt F) f) (funext fun a => Fin.ext ?_)
  have h0 : (y 0).val = 0 := Nat.lt_one_iff.mp (y 0).isLt
  fin_cases a
  · show o + 1 * (y 0).val = o
    rw [h0]; rfl
  · show p + 1 * (y 1).val = p + (y 1).val
    rw [Nat.one_mul]

/-- A load of a whole buffer. -/
theorem load_all {a b : ℕ} (v : View sig .tc .vmem ⟨2, ![a, b]⟩ .f32) (f : v.ty.Contents (Elt F))
    (inb : ∀ k, (![0, 0] : Fin 2 → ℕ) k + (![a, b] : Fin 2 → ℕ) k ≤ (⟨2, ![a, b]⟩ : Shape).size k) :
    v.readAt (Elt F) (Rect.unit (s := ⟨2, ![a, b]⟩) ![0, 0] ![a, b] inb).toLoadRect f = v.read (Elt F) f :=
  View.readAt_full v f inb

/-- Reading a buffer after a store of the whole of it. -/
theorem read_store_all {a b : ℕ} (v : View sig .tc .vmem ⟨2, ![a, b]⟩ .f32) (f : v.ty.Contents (Elt F))
    (inb : ∀ k, (![0, 0] : Fin 2 → ℕ) k + (![a, b] : Fin 2 → ℕ) k ≤ (⟨2, ![a, b]⟩ : Shape).size k)
    (w : Vec F ⟨2, ![a, b]⟩ .f32) (L : List (View.Piece (Elt F) ⟨2, ![a, b]⟩ .f32)) :
    v.read (Elt F) (v.writes (Elt F) f (⟨Rect.unit (s := ⟨2, ![a, b]⟩) ![0, 0] ![a, b] inb, w⟩ :: L)) = w :=
  View.read_writes_full v f inb w L

/-- A load of the first five rows. -/
theorem load_five (v : View sig .tc .vmem S8x16 .f32) (f : v.ty.Contents (Elt F))
    (inb : ∀ a, (![0, 0] : Fin 2 → ℕ) a + (![5, 16] : Fin 2 → ℕ) a ≤ S8x16.size a) :
    v.readAt (Elt F) (Rect.unit (s := S8x16) ![0, 0] ![5, 16] inb).toLoadRect f = five (v.read (Elt F) f) := by
  funext y
  refine congrArg (v.read (Elt F) f) (funext fun a => Fin.ext ?_)
  fin_cases a
  · show 0 + 1 * (y 0).val = (y 0).val
    omega
  · show 0 + 1 * (y 1).val = (y 1).val
    omega

/-- The body at the first point: what it leaves in every buffer. -/
theorem run0 (c : Dev nD) (i : grid0.Coords)
    (arg1 : Memref sig .tc .vmem S5000x128 .f32) (harg1 : arg1.IsWhole) (arg2 : Memref sig .tc .vmem S5000x8 .f32) (harg2 : arg2.IsWhole)
    (arg3 : Memref sig .tc .vmem S60x16 .f32) (harg3 : arg3.IsWhole) (arg4 : Memref sig .tc .vmem S60x16 .f32) (harg4 : arg4.IsWhole)
    (arg5 : Memref sig .tc .vmem S1x128 .f32) (harg5 : arg5.IsWhole) (arg6 : Memref sig .tc .vmem S8x16 .f32) (harg6 : arg6.IsWhole)
    (hc0 :  at_ 0#32 i) (hc2 : ¬ at_ 2#32 i) (hc5 : ¬ at_ 5#32 i) (hc7 : ¬ at_ 7#32 i) (hc10 : ¬ at_ 10#32 i)
    (hc12 : ¬ at_ 12#32 i) (hc24 : ¬ k0_cond7 i = 1#1)
    (x0 : Vec F S5000x128 .f32) (x1 : Vec F S5000x8 .f32) (x2 : Vec F S60x16 .f32) (s4 : Vec F S60x16 .f32)
    (s5 : Vec F S1x128 .f32) (s6 : Vec F S8x16 .f32) (E : Set ℕ) (K : PUnit → sProp 𝕄) :
    iprop(owns (c : Thread nD τ) arg1 fullShare x0 ∗ owns (c : Thread nD τ) arg2 fullShare x1 ∗ owns (c : Thread nD τ) arg3 fullShare x2
      ∗ owns (c : Thread nD τ) arg4 fullShare s4 ∗ owns (c : Thread nD τ) arg5 fullShare s5 ∗ owns (c : Thread nD τ) arg6 fullShare s6
      ∗ (iprop(owns (c : Thread nD τ) arg1 fullShare x0 ∗ owns (c : Thread nD τ) arg2 fullShare x1 ∗ owns (c : Thread nD τ) arg3 fullShare x2
      ∗ owns (c : Thread nD τ) arg4 fullShare (stepOut i x2 s4 (stepAcc i x0 x1 s5) s6) ∗ owns (c : Thread nD τ) arg5 fullShare (stepAcc i x0 x1 s5)
      ∗ owns (c : Thread nD τ) arg6 fullShare (stepRows i x0 s6)) -∗ K ⟨⟩))
      ⊢ wp frame (wpE (defs₀ (F := F)) Variants.none c none) E (cc0__msum_body i arg1 harg1 arg2 harg2 arg3 harg3 arg4 harg4 arg5 harg5 arg6 harg6) K := by
  simp only [cc0__msum_body_eq_skeleton]; unfold cc0__msum_body_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf4; obtain rfl := harg5.eq_unread hf5; obtain rfl := harg6.eq_unread hf6
  sl_exec (disch := first | sl_exact hc0 | sl_exact hc2 | sl_exact hc5 | sl_exact hc7 | sl_exact hc10 | sl_exact hc12 | sl_exact hc24)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H4]
  · iexists _; isplitr
    swap; · iexact H4
    ipureintro
    simp only [read_store_all, load_all, View.readCov_cons_toLoadRect, load_five, hf0, hf1, hf2, hf4, hf5, hf6, stepOut, stepAcc, eq_true hc0, hc24, if_true, if_false]
  isplitl [H5]
  · iexists _; isplitr
    swap; · iexact H5
    ipureintro
    delta run0.sl.v34 run0.sl.H5_1
    simp only [read_store_all, load_all, View.readCov_cons_toLoadRect, hf0, hf1, hf2, hf4, hf5, hf6, stepAcc, eq_true hc0, if_true, if_false]
  iexists _; isplitr
  swap; · iexact H6
  ipureintro
  simp only [hf6]
  funext y
  simp only [stepRows, hc2, hc5, hc7, hc10, hc12, _root_.true_and, _root_.false_and, if_false]

/-- The body at point 2, which holds a target: what it leaves in every buffer. -/
theorem run2 (c : Dev nD) (i : grid0.Coords)
    (arg1 : Memref sig .tc .vmem S5000x128 .f32) (harg1 : arg1.IsWhole) (arg2 : Memref sig .tc .vmem S5000x8 .f32) (harg2 : arg2.IsWhole)
    (arg3 : Memref sig .tc .vmem S60x16 .f32) (harg3 : arg3.IsWhole) (arg4 : Memref sig .tc .vmem S60x16 .f32) (harg4 : arg4.IsWhole)
    (arg5 : Memref sig .tc .vmem S1x128 .f32) (harg5 : arg5.IsWhole) (arg6 : Memref sig .tc .vmem S8x16 .f32) (harg6 : arg6.IsWhole)
    (hc0 : ¬ at_ 0#32 i) (hc2 :  at_ 2#32 i) (hc5 : ¬ at_ 5#32 i) (hc7 : ¬ at_ 7#32 i) (hc10 : ¬ at_ 10#32 i)
    (hc12 : ¬ at_ 12#32 i) (hc24 : ¬ k0_cond7 i = 1#1)
    (x0 : Vec F S5000x128 .f32) (x1 : Vec F S5000x8 .f32) (x2 : Vec F S60x16 .f32) (s4 : Vec F S60x16 .f32)
    (s5 : Vec F S1x128 .f32) (s6 : Vec F S8x16 .f32) (E : Set ℕ) (K : PUnit → sProp 𝕄) :
    iprop(owns (c : Thread nD τ) arg1 fullShare x0 ∗ owns (c : Thread nD τ) arg2 fullShare x1 ∗ owns (c : Thread nD τ) arg3 fullShare x2
      ∗ owns (c : Thread nD τ) arg4 fullShare s4 ∗ owns (c : Thread nD τ) arg5 fullShare s5 ∗ owns (c : Thread nD τ) arg6 fullShare s6
      ∗ (iprop(owns (c : Thread nD τ) arg1 fullShare x0 ∗ owns (c : Thread nD τ) arg2 fullShare x1 ∗ owns (c : Thread nD τ) arg3 fullShare x2
      ∗ owns (c : Thread nD τ) arg4 fullShare (stepOut i x2 s4 (stepAcc i x0 x1 s5) s6) ∗ owns (c : Thread nD τ) arg5 fullShare (stepAcc i x0 x1 s5)
      ∗ owns (c : Thread nD τ) arg6 fullShare (stepRows i x0 s6)) -∗ K ⟨⟩))
      ⊢ wp frame (wpE (defs₀ (F := F)) Variants.none c none) E (cc0__msum_body i arg1 harg1 arg2 harg2 arg3 harg3 arg4 harg4 arg5 harg5 arg6 harg6) K := by
  simp only [cc0__msum_body_eq_skeleton]; unfold cc0__msum_body_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf4; obtain rfl := harg5.eq_unread hf5; obtain rfl := harg6.eq_unread hf6
  sl_exec (disch := first | sl_exact hc0 | sl_exact hc2 | sl_exact hc5 | sl_exact hc7 | sl_exact hc10 | sl_exact hc12 | sl_exact hc24)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H4]
  · iexists _; isplitr
    swap; · iexact H4
    ipureintro
    simp only [read_store_all, load_all, View.readCov_cons_toLoadRect, load_five, hf0, hf1, hf2, hf4, hf5, hf6, stepOut, stepAcc, hc0, hc24, if_true, if_false]
  isplitl [H5]
  · iexists _; isplitr
    swap; · iexact H5
    ipureintro
    simp only [read_store_all, load_all, View.readCov_cons_toLoadRect, hf0, hf1, hf2, hf4, hf5, hf6, stepAcc, hc0, if_true, if_false]
  iexists _; isplitr
  swap; · iexact H6
  ipureintro
  simp only [read_store_row, load_row _ _ 2000 64 (by decide) (by decide), k0_pay2, shapeCast_self, hf0, hf6]
  funext y
  simp only [stepRows, eq_true hc2, hc5, hc7, hc10, hc12, _root_.true_and, _root_.false_and, if_false]

/-- The body at point 5, which holds a target: what it leaves in every buffer. -/
theorem run5 (c : Dev nD) (i : grid0.Coords)
    (arg1 : Memref sig .tc .vmem S5000x128 .f32) (harg1 : arg1.IsWhole) (arg2 : Memref sig .tc .vmem S5000x8 .f32) (harg2 : arg2.IsWhole)
    (arg3 : Memref sig .tc .vmem S60x16 .f32) (harg3 : arg3.IsWhole) (arg4 : Memref sig .tc .vmem S60x16 .f32) (harg4 : arg4.IsWhole)
    (arg5 : Memref sig .tc .vmem S1x128 .f32) (harg5 : arg5.IsWhole) (arg6 : Memref sig .tc .vmem S8x16 .f32) (harg6 : arg6.IsWhole)
    (hc0 : ¬ at_ 0#32 i) (hc2 : ¬ at_ 2#32 i) (hc5 :  at_ 5#32 i) (hc7 : ¬ at_ 7#32 i) (hc10 : ¬ at_ 10#32 i)
    (hc12 : ¬ at_ 12#32 i) (hc24 : ¬ k0_cond7 i = 1#1)
    (x0 : Vec F S5000x128 .f32) (x1 : Vec F S5000x8 .f32) (x2 : Vec F S60x16 .f32) (s4 : Vec F S60x16 .f32)
    (s5 : Vec F S1x128 .f32) (s6 : Vec F S8x16 .f32) (E : Set ℕ) (K : PUnit → sProp 𝕄) :
    iprop(owns (c : Thread nD τ) arg1 fullShare x0 ∗ owns (c : Thread nD τ) arg2 fullShare x1 ∗ owns (c : Thread nD τ) arg3 fullShare x2
      ∗ owns (c : Thread nD τ) arg4 fullShare s4 ∗ owns (c : Thread nD τ) arg5 fullShare s5 ∗ owns (c : Thread nD τ) arg6 fullShare s6
      ∗ (iprop(owns (c : Thread nD τ) arg1 fullShare x0 ∗ owns (c : Thread nD τ) arg2 fullShare x1 ∗ owns (c : Thread nD τ) arg3 fullShare x2
      ∗ owns (c : Thread nD τ) arg4 fullShare (stepOut i x2 s4 (stepAcc i x0 x1 s5) s6) ∗ owns (c : Thread nD τ) arg5 fullShare (stepAcc i x0 x1 s5)
      ∗ owns (c : Thread nD τ) arg6 fullShare (stepRows i x0 s6)) -∗ K ⟨⟩))
      ⊢ wp frame (wpE (defs₀ (F := F)) Variants.none c none) E (cc0__msum_body i arg1 harg1 arg2 harg2 arg3 harg3 arg4 harg4 arg5 harg5 arg6 harg6) K := by
  simp only [cc0__msum_body_eq_skeleton]; unfold cc0__msum_body_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf4; obtain rfl := harg5.eq_unread hf5; obtain rfl := harg6.eq_unread hf6
  sl_exec (disch := first | sl_exact hc0 | sl_exact hc2 | sl_exact hc5 | sl_exact hc7 | sl_exact hc10 | sl_exact hc12 | sl_exact hc24)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H4]
  · iexists _; isplitr
    swap; · iexact H4
    ipureintro
    simp only [read_store_all, load_all, View.readCov_cons_toLoadRect, load_five, hf0, hf1, hf2, hf4, hf5, hf6, stepOut, stepAcc, hc0, hc24, if_true, if_false]
  isplitl [H5]
  · iexists _; isplitr
    swap; · iexact H5
    ipureintro
    simp only [read_store_all, load_all, View.readCov_cons_toLoadRect, hf0, hf1, hf2, hf4, hf5, hf6, stepAcc, hc0, if_true, if_false]
  iexists _; isplitr
  swap; · iexact H6
  ipureintro
  simp only [read_store_row, load_row _ _ 0 0 (by decide) (by decide), k0_pay3, shapeCast_self, hf0, hf6]
  funext y
  simp only [stepRows, hc2, eq_true hc5, hc7, hc10, hc12, _root_.true_and, _root_.false_and, if_false]

/-- The body at point 7, which holds a target: what it leaves in every buffer. -/
theorem run7 (c : Dev nD) (i : grid0.Coords)
    (arg1 : Memref sig .tc .vmem S5000x128 .f32) (harg1 : arg1.IsWhole) (arg2 : Memref sig .tc .vmem S5000x8 .f32) (harg2 : arg2.IsWhole)
    (arg3 : Memref sig .tc .vmem S60x16 .f32) (harg3 : arg3.IsWhole) (arg4 : Memref sig .tc .vmem S60x16 .f32) (harg4 : arg4.IsWhole)
    (arg5 : Memref sig .tc .vmem S1x128 .f32) (harg5 : arg5.IsWhole) (arg6 : Memref sig .tc .vmem S8x16 .f32) (harg6 : arg6.IsWhole)
    (hc0 : ¬ at_ 0#32 i) (hc2 : ¬ at_ 2#32 i) (hc5 : ¬ at_ 5#32 i) (hc7 :  at_ 7#32 i) (hc10 : ¬ at_ 10#32 i)
    (hc12 : ¬ at_ 12#32 i) (hc24 : ¬ k0_cond7 i = 1#1)
    (x0 : Vec F S5000x128 .f32) (x1 : Vec F S5000x8 .f32) (x2 : Vec F S60x16 .f32) (s4 : Vec F S60x16 .f32)
    (s5 : Vec F S1x128 .f32) (s6 : Vec F S8x16 .f32) (E : Set ℕ) (K : PUnit → sProp 𝕄) :
    iprop(owns (c : Thread nD τ) arg1 fullShare x0 ∗ owns (c : Thread nD τ) arg2 fullShare x1 ∗ owns (c : Thread nD τ) arg3 fullShare x2
      ∗ owns (c : Thread nD τ) arg4 fullShare s4 ∗ owns (c : Thread nD τ) arg5 fullShare s5 ∗ owns (c : Thread nD τ) arg6 fullShare s6
      ∗ (iprop(owns (c : Thread nD τ) arg1 fullShare x0 ∗ owns (c : Thread nD τ) arg2 fullShare x1 ∗ owns (c : Thread nD τ) arg3 fullShare x2
      ∗ owns (c : Thread nD τ) arg4 fullShare (stepOut i x2 s4 (stepAcc i x0 x1 s5) s6) ∗ owns (c : Thread nD τ) arg5 fullShare (stepAcc i x0 x1 s5)
      ∗ owns (c : Thread nD τ) arg6 fullShare (stepRows i x0 s6)) -∗ K ⟨⟩))
      ⊢ wp frame (wpE (defs₀ (F := F)) Variants.none c none) E (cc0__msum_body i arg1 harg1 arg2 harg2 arg3 harg3 arg4 harg4 arg5 harg5 arg6 harg6) K := by
  simp only [cc0__msum_body_eq_skeleton]; unfold cc0__msum_body_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf4; obtain rfl := harg5.eq_unread hf5; obtain rfl := harg6.eq_unread hf6
  sl_exec (disch := first | sl_exact hc0 | sl_exact hc2 | sl_exact hc5 | sl_exact hc7 | sl_exact hc10 | sl_exact hc12 | sl_exact hc24)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H4]
  · iexists _; isplitr
    swap; · iexact H4
    ipureintro
    simp only [read_store_all, load_all, View.readCov_cons_toLoadRect, load_five, hf0, hf1, hf2, hf4, hf5, hf6, stepOut, stepAcc, hc0, hc24, if_true, if_false]
  isplitl [H5]
  · iexists _; isplitr
    swap; · iexact H5
    ipureintro
    simp only [read_store_all, load_all, View.readCov_cons_toLoadRect, hf0, hf1, hf2, hf4, hf5, hf6, stepAcc, hc0, if_true, if_false]
  iexists _; isplitr
  swap; · iexact H6
  ipureintro
  simp only [read_store_row, load_row _ _ 2000 64 (by decide) (by decide), k0_pay4, shapeCast_self, hf0, hf6]
  funext y
  simp only [stepRows, hc2, hc5, eq_true hc7, hc10, hc12, _root_.true_and, _root_.false_and, if_false]

/-- The body at point 10, which holds a target: what it leaves in every buffer. -/
theorem run10 (c : Dev nD) (i : grid0.Coords)
    (arg1 : Memref sig .tc .vmem S5000x128 .f32) (harg1 : arg1.IsWhole) (arg2 : Memref sig .tc .vmem S5000x8 .f32) (harg2 : arg2.IsWhole)
    (arg3 : Memref sig .tc .vmem S60x16 .f32) (harg3 : arg3.IsWhole) (arg4 : Memref sig .tc .vmem S60x16 .f32) (harg4 : arg4.IsWhole)
    (arg5 : Memref sig .tc .vmem S1x128 .f32) (harg5 : arg5.IsWhole) (arg6 : Memref sig .tc .vmem S8x16 .f32) (harg6 : arg6.IsWhole)
    (hc0 : ¬ at_ 0#32 i) (hc2 : ¬ at_ 2#32 i) (hc5 : ¬ at_ 5#32 i) (hc7 : ¬ at_ 7#32 i) (hc10 :  at_ 10#32 i)
    (hc12 : ¬ at_ 12#32 i) (hc24 : ¬ k0_cond7 i = 1#1)
    (x0 : Vec F S5000x128 .f32) (x1 : Vec F S5000x8 .f32) (x2 : Vec F S60x16 .f32) (s4 : Vec F S60x16 .f32)
    (s5 : Vec F S1x128 .f32) (s6 : Vec F S8x16 .f32) (E : Set ℕ) (K : PUnit → sProp 𝕄) :
    iprop(owns (c : Thread nD τ) arg1 fullShare x0 ∗ owns (c : Thread nD τ) arg2 fullShare x1 ∗ owns (c : Thread nD τ) arg3 fullShare x2
      ∗ owns (c : Thread nD τ) arg4 fullShare s4 ∗ owns (c : Thread nD τ) arg5 fullShare s5 ∗ owns (c : Thread nD τ) arg6 fullShare s6
      ∗ (iprop(owns (c : Thread nD τ) arg1 fullShare x0 ∗ owns (c : Thread nD τ) arg2 fullShare x1 ∗ owns (c : Thread nD τ) arg3 fullShare x2
      ∗ owns (c : Thread nD τ) arg4 fullShare (stepOut i x2 s4 (stepAcc i x0 x1 s5) s6) ∗ owns (c : Thread nD τ) arg5 fullShare (stepAcc i x0 x1 s5)
      ∗ owns (c : Thread nD τ) arg6 fullShare (stepRows i x0 s6)) -∗ K ⟨⟩))
      ⊢ wp frame (wpE (defs₀ (F := F)) Variants.none c none) E (cc0__msum_body i arg1 harg1 arg2 harg2 arg3 harg3 arg4 harg4 arg5 harg5 arg6 harg6) K := by
  simp only [cc0__msum_body_eq_skeleton]; unfold cc0__msum_body_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf4; obtain rfl := harg5.eq_unread hf5; obtain rfl := harg6.eq_unread hf6
  sl_exec (disch := first | sl_exact hc0 | sl_exact hc2 | sl_exact hc5 | sl_exact hc7 | sl_exact hc10 | sl_exact hc12 | sl_exact hc24)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H4]
  · iexists _; isplitr
    swap; · iexact H4
    ipureintro
    simp only [read_store_all, load_all, View.readCov_cons_toLoadRect, load_five, hf0, hf1, hf2, hf4, hf5, hf6, stepOut, stepAcc, hc0, hc24, if_true, if_false]
  isplitl [H5]
  · iexists _; isplitr
    swap; · iexact H5
    ipureintro
    simp only [read_store_all, load_all, View.readCov_cons_toLoadRect, hf0, hf1, hf2, hf4, hf5, hf6, stepAcc, hc0, if_true, if_false]
  iexists _; isplitr
  swap; · iexact H6
  ipureintro
  simp only [read_store_row, load_row _ _ 0 0 (by decide) (by decide), k0_pay5, shapeCast_self, hf0, hf6]
  funext y
  simp only [stepRows, hc2, hc5, hc7, eq_true hc10, hc12, _root_.true_and, _root_.false_and, if_false]

/-- The body at point 12, which holds a target: what it leaves in every buffer. -/
theorem run12 (c : Dev nD) (i : grid0.Coords)
    (arg1 : Memref sig .tc .vmem S5000x128 .f32) (harg1 : arg1.IsWhole) (arg2 : Memref sig .tc .vmem S5000x8 .f32) (harg2 : arg2.IsWhole)
    (arg3 : Memref sig .tc .vmem S60x16 .f32) (harg3 : arg3.IsWhole) (arg4 : Memref sig .tc .vmem S60x16 .f32) (harg4 : arg4.IsWhole)
    (arg5 : Memref sig .tc .vmem S1x128 .f32) (harg5 : arg5.IsWhole) (arg6 : Memref sig .tc .vmem S8x16 .f32) (harg6 : arg6.IsWhole)
    (hc0 : ¬ at_ 0#32 i) (hc2 : ¬ at_ 2#32 i) (hc5 : ¬ at_ 5#32 i) (hc7 : ¬ at_ 7#32 i) (hc10 : ¬ at_ 10#32 i)
    (hc12 :  at_ 12#32 i) (hc24 : ¬ k0_cond7 i = 1#1)
    (x0 : Vec F S5000x128 .f32) (x1 : Vec F S5000x8 .f32) (x2 : Vec F S60x16 .f32) (s4 : Vec F S60x16 .f32)
    (s5 : Vec F S1x128 .f32) (s6 : Vec F S8x16 .f32) (E : Set ℕ) (K : PUnit → sProp 𝕄) :
    iprop(owns (c : Thread nD τ) arg1 fullShare x0 ∗ owns (c : Thread nD τ) arg2 fullShare x1 ∗ owns (c : Thread nD τ) arg3 fullShare x2
      ∗ owns (c : Thread nD τ) arg4 fullShare s4 ∗ owns (c : Thread nD τ) arg5 fullShare s5 ∗ owns (c : Thread nD τ) arg6 fullShare s6
      ∗ (iprop(owns (c : Thread nD τ) arg1 fullShare x0 ∗ owns (c : Thread nD τ) arg2 fullShare x1 ∗ owns (c : Thread nD τ) arg3 fullShare x2
      ∗ owns (c : Thread nD τ) arg4 fullShare (stepOut i x2 s4 (stepAcc i x0 x1 s5) s6) ∗ owns (c : Thread nD τ) arg5 fullShare (stepAcc i x0 x1 s5)
      ∗ owns (c : Thread nD τ) arg6 fullShare (stepRows i x0 s6)) -∗ K ⟨⟩))
      ⊢ wp frame (wpE (defs₀ (F := F)) Variants.none c none) E (cc0__msum_body i arg1 harg1 arg2 harg2 arg3 harg3 arg4 harg4 arg5 harg5 arg6 harg6) K := by
  simp only [cc0__msum_body_eq_skeleton]; unfold cc0__msum_body_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf4; obtain rfl := harg5.eq_unread hf5; obtain rfl := harg6.eq_unread hf6
  sl_exec (disch := first | sl_exact hc0 | sl_exact hc2 | sl_exact hc5 | sl_exact hc7 | sl_exact hc10 | sl_exact hc12 | sl_exact hc24)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H4]
  · iexists _; isplitr
    swap; · iexact H4
    ipureintro
    simp only [read_store_all, load_all, View.readCov_cons_toLoadRect, load_five, hf0, hf1, hf2, hf4, hf5, hf6, stepOut, stepAcc, hc0, hc24, if_true, if_false]
  isplitl [H5]
  · iexists _; isplitr
    swap; · iexact H5
    ipureintro
    simp only [read_store_all, load_all, View.readCov_cons_toLoadRect, hf0, hf1, hf2, hf4, hf5, hf6, stepAcc, hc0, if_true, if_false]
  iexists _; isplitr
  swap; · iexact H6
  ipureintro
  simp only [read_store_row, load_row _ _ 2000 64 (by decide) (by decide), k0_pay6, shapeCast_self, hf0, hf6]
  funext y
  simp only [stepRows, hc2, hc5, hc7, hc10, eq_true hc12, _root_.true_and, _root_.false_and, if_false]

/-- The body at the last point: what it leaves in every buffer. -/
theorem run24 (c : Dev nD) (i : grid0.Coords)
    (arg1 : Memref sig .tc .vmem S5000x128 .f32) (harg1 : arg1.IsWhole) (arg2 : Memref sig .tc .vmem S5000x8 .f32) (harg2 : arg2.IsWhole)
    (arg3 : Memref sig .tc .vmem S60x16 .f32) (harg3 : arg3.IsWhole) (arg4 : Memref sig .tc .vmem S60x16 .f32) (harg4 : arg4.IsWhole)
    (arg5 : Memref sig .tc .vmem S1x128 .f32) (harg5 : arg5.IsWhole) (arg6 : Memref sig .tc .vmem S8x16 .f32) (harg6 : arg6.IsWhole)
    (hc0 : ¬ at_ 0#32 i) (hc2 : ¬ at_ 2#32 i) (hc5 : ¬ at_ 5#32 i) (hc7 : ¬ at_ 7#32 i) (hc10 : ¬ at_ 10#32 i)
    (hc12 : ¬ at_ 12#32 i) (hc24 :  k0_cond7 i = 1#1)
    (x0 : Vec F S5000x128 .f32) (x1 : Vec F S5000x8 .f32) (x2 : Vec F S60x16 .f32) (s4 : Vec F S60x16 .f32)
    (s5 : Vec F S1x128 .f32) (s6 : Vec F S8x16 .f32) (E : Set ℕ) (K : PUnit → sProp 𝕄) :
    iprop(owns (c : Thread nD τ) arg1 fullShare x0 ∗ owns (c : Thread nD τ) arg2 fullShare x1 ∗ owns (c : Thread nD τ) arg3 fullShare x2
      ∗ owns (c : Thread nD τ) arg4 fullShare s4 ∗ owns (c : Thread nD τ) arg5 fullShare s5 ∗ owns (c : Thread nD τ) arg6 fullShare s6
      ∗ (iprop(owns (c : Thread nD τ) arg1 fullShare x0 ∗ owns (c : Thread nD τ) arg2 fullShare x1 ∗ owns (c : Thread nD τ) arg3 fullShare x2
      ∗ owns (c : Thread nD τ) arg4 fullShare (stepOut i x2 s4 (stepAcc i x0 x1 s5) s6) ∗ owns (c : Thread nD τ) arg5 fullShare (stepAcc i x0 x1 s5)
      ∗ owns (c : Thread nD τ) arg6 fullShare (stepRows i x0 s6)) -∗ K ⟨⟩))
      ⊢ wp frame (wpE (defs₀ (F := F)) Variants.none c none) E (cc0__msum_body i arg1 harg1 arg2 harg2 arg3 harg3 arg4 harg4 arg5 harg5 arg6 harg6) K := by
  simp only [cc0__msum_body_eq_skeleton]; unfold cc0__msum_body_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf4; obtain rfl := harg5.eq_unread hf5; obtain rfl := harg6.eq_unread hf6
  sl_exec (disch := first | sl_exact hc0 | sl_exact hc2 | sl_exact hc5 | sl_exact hc7 | sl_exact hc10 | sl_exact hc12 | sl_exact hc24)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H4]
  · iexists _; isplitr
    swap; · iexact H4
    ipureintro
    delta run24.sl.v82 run24.sl.H5_1
    simp only [read_store_all, load_all, View.readCov_cons_toLoadRect, load_five, hf0, hf1, hf2, hf4, hf5, hf6, stepOut, stepAcc, hc0, hc24, if_true, if_false]
  isplitl [H5]
  · iexists _; isplitr
    swap; · iexact H5
    ipureintro
    delta run24.sl.H5_1
    simp only [read_store_all, load_all, View.readCov_cons_toLoadRect, hf0, hf1, hf2, hf4, hf5, hf6, stepAcc, hc0, if_true, if_false]
  iexists _; isplitr
  swap; · iexact H6
  ipureintro
  simp only [hf6]
  funext y
  simp only [stepRows, hc2, hc5, hc7, hc10, hc12, _root_.true_and, _root_.false_and, if_false]

/-- The body at a point that neither is first or last nor holds a target: what it leaves in every buffer. -/
theorem runN (c : Dev nD) (i : grid0.Coords)
    (arg1 : Memref sig .tc .vmem S5000x128 .f32) (harg1 : arg1.IsWhole) (arg2 : Memref sig .tc .vmem S5000x8 .f32) (harg2 : arg2.IsWhole)
    (arg3 : Memref sig .tc .vmem S60x16 .f32) (harg3 : arg3.IsWhole) (arg4 : Memref sig .tc .vmem S60x16 .f32) (harg4 : arg4.IsWhole)
    (arg5 : Memref sig .tc .vmem S1x128 .f32) (harg5 : arg5.IsWhole) (arg6 : Memref sig .tc .vmem S8x16 .f32) (harg6 : arg6.IsWhole)
    (hc0 : ¬ at_ 0#32 i) (hc2 : ¬ at_ 2#32 i) (hc5 : ¬ at_ 5#32 i) (hc7 : ¬ at_ 7#32 i) (hc10 : ¬ at_ 10#32 i)
    (hc12 : ¬ at_ 12#32 i) (hc24 : ¬ k0_cond7 i = 1#1)
    (x0 : Vec F S5000x128 .f32) (x1 : Vec F S5000x8 .f32) (x2 : Vec F S60x16 .f32) (s4 : Vec F S60x16 .f32)
    (s5 : Vec F S1x128 .f32) (s6 : Vec F S8x16 .f32) (E : Set ℕ) (K : PUnit → sProp 𝕄) :
    iprop(owns (c : Thread nD τ) arg1 fullShare x0 ∗ owns (c : Thread nD τ) arg2 fullShare x1 ∗ owns (c : Thread nD τ) arg3 fullShare x2
      ∗ owns (c : Thread nD τ) arg4 fullShare s4 ∗ owns (c : Thread nD τ) arg5 fullShare s5 ∗ owns (c : Thread nD τ) arg6 fullShare s6
      ∗ (iprop(owns (c : Thread nD τ) arg1 fullShare x0 ∗ owns (c : Thread nD τ) arg2 fullShare x1 ∗ owns (c : Thread nD τ) arg3 fullShare x2
      ∗ owns (c : Thread nD τ) arg4 fullShare (stepOut i x2 s4 (stepAcc i x0 x1 s5) s6) ∗ owns (c : Thread nD τ) arg5 fullShare (stepAcc i x0 x1 s5)
      ∗ owns (c : Thread nD τ) arg6 fullShare (stepRows i x0 s6)) -∗ K ⟨⟩))
      ⊢ wp frame (wpE (defs₀ (F := F)) Variants.none c none) E (cc0__msum_body i arg1 harg1 arg2 harg2 arg3 harg3 arg4 harg4 arg5 harg5 arg6 harg6) K := by
  simp only [cc0__msum_body_eq_skeleton]; unfold cc0__msum_body_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf4; obtain rfl := harg5.eq_unread hf5; obtain rfl := harg6.eq_unread hf6
  sl_exec (disch := first | sl_exact hc0 | sl_exact hc2 | sl_exact hc5 | sl_exact hc7 | sl_exact hc10 | sl_exact hc12 | sl_exact hc24)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H4]
  · iexists _; isplitr
    swap; · iexact H4
    ipureintro
    simp only [read_store_all, load_all, View.readCov_cons_toLoadRect, load_five, hf0, hf1, hf2, hf4, hf5, hf6, stepOut, stepAcc, hc0, hc24, if_true, if_false]
  isplitl [H5]
  · iexists _; isplitr
    swap; · iexact H5
    ipureintro
    simp only [read_store_all, load_all, View.readCov_cons_toLoadRect, hf0, hf1, hf2, hf4, hf5, hf6, stepAcc, hc0, if_true, if_false]
  iexists _; isplitr
  swap; · iexact H6
  ipureintro
  simp only [hf6]
  funext y
  simp only [stepRows, hc2, hc5, hc7, hc10, hc12, _root_.true_and, _root_.false_and, if_false]

end Cert.UpdateIdeal.Hand

end
-- ==== Proof.UpdateFrame.lean ====
module

public import proofs.«01_k».proof.Proof.UpdateRun
public import Idealize.ShloMosaic.Lib.Claim

@[expose] public section

set_option maxRecDepth 16384

noncomputable section

namespace Cert.UpdateIdeal.Hand

open Cert.UpdateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the body's conditions hold -/

/-- The test for point 0 holds at point 0 only. -/
theorem at_0 (t : Fin cfg0.N) : at_ 0#32 (grid0.coords t) ↔ t.val = 0 := by
  have ht : t.val < 25 := Nat.lt_of_lt_of_eq t.isLt N_0
  have e0 : (grid0.coords t 0).val = t.val / 1 % 25 := Pipeline.Grid.coords_val t 0 (by decide) rfl
  simp only [at_, e0]
  word_cmp

/-- The test for point 2 holds at point 2 only. -/
theorem at_2 (t : Fin cfg0.N) : at_ 2#32 (grid0.coords t) ↔ t.val = 2 := by
  have ht : t.val < 25 := Nat.lt_of_lt_of_eq t.isLt N_0
  have e0 : (grid0.coords t 0).val = t.val / 1 % 25 := Pipeline.Grid.coords_val t 0 (by decide) rfl
  simp only [at_, e0]
  word_cmp

/-- The test for point 5 holds at point 5 only. -/
theorem at_5 (t : Fin cfg0.N) : at_ 5#32 (grid0.coords t) ↔ t.val = 5 := by
  have ht : t.val < 25 := Nat.lt_of_lt_of_eq t.isLt N_0
  have e0 : (grid0.coords t 0).val = t.val / 1 % 25 := Pipeline.Grid.coords_val t 0 (by decide) rfl
  simp only [at_, e0]
  word_cmp

/-- The test for point 7 holds at point 7 only. -/
theorem at_7 (t : Fin cfg0.N) : at_ 7#32 (grid0.coords t) ↔ t.val = 7 := by
  have ht : t.val < 25 := Nat.lt_of_lt_of_eq t.isLt N_0
  have e0 : (grid0.coords t 0).val = t.val / 1 % 25 := Pipeline.Grid.coords_val t 0 (by decide) rfl
  simp only [at_, e0]
  word_cmp

/-- The test for point 10 holds at point 10 only. -/
theorem at_10 (t : Fin cfg0.N) : at_ 10#32 (grid0.coords t) ↔ t.val = 10 := by
  have ht : t.val < 25 := Nat.lt_of_lt_of_eq t.isLt N_0
  have e0 : (grid0.coords t 0).val = t.val / 1 % 25 := Pipeline.Grid.coords_val t 0 (by decide) rfl
  simp only [at_, e0]
  word_cmp

/-- The test for point 12 holds at point 12 only. -/
theorem at_12 (t : Fin cfg0.N) : at_ 12#32 (grid0.coords t) ↔ t.val = 12 := by
  have ht : t.val < 25 := Nat.lt_of_lt_of_eq t.isLt N_0
  have e0 : (grid0.coords t 0).val = t.val / 1 % 25 := Pipeline.Grid.coords_val t 0 (by decide) rfl
  simp only [at_, e0]
  word_cmp

/-- The test for point 24 holds at point 24 only. -/
theorem at_24 (t : Fin cfg0.N) : k0_cond7 (grid0.coords t) = 1#1 ↔ t.val = 24 := by
  have ht : t.val < 25 := Nat.lt_of_lt_of_eq t.isLt N_0
  have e0 : (grid0.coords t 0).val = t.val / 1 % 25 := Pipeline.Grid.coords_val t 0 (by decide) rfl
  simp only [k0_cond7, e0]
  word_cmp

/-- Point `k` of the grid. -/
abbrev pt (k : ℕ) (h : k < 25) : Fin cfg0.N := ⟨k, lt_of_lt_of_eq h N_0.symm⟩

/-- The output window is idle at every point but the last. -/
theorem idle3 (t : Fin cfg0.N) (h : t.val ≠ 24) : cfg0.idle 3 (cfg0.grid.coords t) = true := by
  show (!(k0_cond7 (grid0.coords t) == 1#1)) = true
  have : ¬ k0_cond7 (grid0.coords t) = 1#1 := fun e => h ((at_24 t).mp e)
  rw [Bool.not_eq_true', beq_eq_false_iff_ne]
  exact this

/-- The output window is used at the last point. -/
theorem live3 (t : Fin cfg0.N) (h : t.val = 24) : cfg0.idle 3 (cfg0.grid.coords t) = false := by
  show (!(k0_cond7 (grid0.coords t) == 1#1)) = false
  rw [(at_24 t).mpr h]; rfl

/-- The output is written back at the last point only. -/
theorem noflush3 (t : Fin cfg0.N) (h : t.val ≠ 24) : (cfg0.win 3).flush t = false := by
  have hf : (cfg0.win 3).flush t ↔ t.val % 25 = 24 := flush0_3 t
  have ht : t.val < 25 := Nat.lt_of_lt_of_eq t.isLt N_0
  exact Bool.eq_false_iff.mpr fun e => h (by have := hf.mp e; omega)

/-! ## The buffers as the pipeline passes them -/

/-- Each window's current staging memref at point `t`, and its wholeness. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S60x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S60x16 .f32 := win0_3.stage (cfg0.slots t 3)
abbrev hs0_3 (t : Fin cfg0.N) : (ms0_3 t).IsWhole := hstage0_3 ((cfg0.slots t 3).cast nbuf0_3)
/-- The running sum's buffer and the buffer of the targets' rows. -/
abbrev scM0_0 : Memref sig .tc .vmem S1x128 .f32 := Memref.whole cc0_scratch0
abbrev scM0_1 : Memref sig .tc .vmem S8x16 .f32 := Memref.whole cc0_scratch1

/-- The frame kit's invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The body at any point: what it leaves in every buffer. -/
theorem run_at (c : Dev nD) (t : Fin cfg0.N)
    (arg1 : Memref sig .tc .vmem S5000x128 .f32) (harg1 : arg1.IsWhole) (arg2 : Memref sig .tc .vmem S5000x8 .f32) (harg2 : arg2.IsWhole)
    (arg3 : Memref sig .tc .vmem S60x16 .f32) (harg3 : arg3.IsWhole) (arg4 : Memref sig .tc .vmem S60x16 .f32) (harg4 : arg4.IsWhole)
    (arg5 : Memref sig .tc .vmem S1x128 .f32) (harg5 : arg5.IsWhole) (arg6 : Memref sig .tc .vmem S8x16 .f32) (harg6 : arg6.IsWhole)
    (x0 : Vec F S5000x128 .f32) (x1 : Vec F S5000x8 .f32) (x2 : Vec F S60x16 .f32) (s4 : Vec F S60x16 .f32)
    (s5 : Vec F S1x128 .f32) (s6 : Vec F S8x16 .f32) (E : Set ℕ) (K : PUnit → sProp 𝕄) :
    iprop(owns (c : Thread nD τ) arg1 fullShare x0 ∗ owns (c : Thread nD τ) arg2 fullShare x1 ∗ owns (c : Thread nD τ) arg3 fullShare x2
      ∗ owns (c : Thread nD τ) arg4 fullShare s4 ∗ owns (c : Thread nD τ) arg5 fullShare s5 ∗ owns (c : Thread nD τ) arg6 fullShare s6
      ∗ (iprop(owns (c : Thread nD τ) arg1 fullShare x0 ∗ owns (c : Thread nD τ) arg2 fullShare x1 ∗ owns (c : Thread nD τ) arg3 fullShare x2
      ∗ owns (c : Thread nD τ) arg4 fullShare (stepOut (grid0.coords t) x2 s4 (stepAcc (grid0.coords t) x0 x1 s5) s6)
      ∗ owns (c : Thread nD τ) arg5 fullShare (stepAcc (grid0.coords t) x0 x1 s5)
      ∗ owns (c : Thread nD τ) arg6 fullShare (stepRows (grid0.coords t) x0 s6)) -∗ K ⟨⟩))
      ⊢ wp frame (wpE (defs₀ (F := F)) Variants.none c none) E (cc0__msum_body (grid0.coords t) arg1 harg1 arg2 harg2 arg3 harg3 arg4 harg4 arg5 harg5 arg6 harg6) K := by
  have h0 := at_0 t; have h2 := at_2 t; have h5 := at_5 t; have h7 := at_7 t; have h10 := at_10 t; have h12 := at_12 t; have h24 := at_24 t
  by_cases e0 : t.val = 0
  · exact run0 c _ _ _ _ _ _ _ _ _ _ _ _ _ (h0.mpr e0) (fun e => by have := h2.mp e; omega) (fun e => by have := h5.mp e; omega) (fun e => by have := h7.mp e; omega) (fun e => by have := h10.mp e; omega) (fun e => by have := h12.mp e; omega) (fun e => by have := h24.mp e; omega) _ _ _ _ _ _ E K
  by_cases e2 : t.val = 2
  · exact run2 c _ _ _ _ _ _ _ _ _ _ _ _ _ (fun e => by have := h0.mp e; omega) (h2.mpr e2) (fun e => by have := h5.mp e; omega) (fun e => by have := h7.mp e; omega) (fun e => by have := h10.mp e; omega) (fun e => by have := h12.mp e; omega) (fun e => by have := h24.mp e; omega) _ _ _ _ _ _ E K
  by_cases e5 : t.val = 5
  · exact run5 c _ _ _ _ _ _ _ _ _ _ _ _ _ (fun e => by have := h0.mp e; omega) (fun e => by have := h2.mp e; omega) (h5.mpr e5) (fun e => by have := h7.mp e; omega) (fun e => by have := h10.mp e; omega) (fun e => by have := h12.mp e; omega) (fun e => by have := h24.mp e; omega) _ _ _ _ _ _ E K
  by_cases e7 : t.val = 7
  · exact run7 c _ _ _ _ _ _ _ _ _ _ _ _ _ (fun e => by have := h0.mp e; omega) (fun e => by have := h2.mp e; omega) (fun e => by have := h5.mp e; omega) (h7.mpr e7) (fun e => by have := h10.mp e; omega) (fun e => by have := h12.mp e; omega) (fun e => by have := h24.mp e; omega) _ _ _ _ _ _ E K
  by_cases e10 : t.val = 10
  · exact run10 c _ _ _ _ _ _ _ _ _ _ _ _ _ (fun e => by have := h0.mp e; omega) (fun e => by have := h2.mp e; omega) (fun e => by have := h5.mp e; omega) (fun e => by have := h7.mp e; omega) (h10.mpr e10) (fun e => by have := h12.mp e; omega) (fun e => by have := h24.mp e; omega) _ _ _ _ _ _ E K
  by_cases e12 : t.val = 12
  · exact run12 c _ _ _ _ _ _ _ _ _ _ _ _ _ (fun e => by have := h0.mp e; omega) (fun e => by have := h2.mp e; omega) (fun e => by have := h5.mp e; omega) (fun e => by have := h7.mp e; omega) (fun e => by have := h10.mp e; omega) (h12.mpr e12) (fun e => by have := h24.mp e; omega) _ _ _ _ _ _ E K
  by_cases e24 : t.val = 24
  · exact run24 c _ _ _ _ _ _ _ _ _ _ _ _ _ (fun e => by have := h0.mp e; omega) (fun e => by have := h2.mp e; omega) (fun e => by have := h5.mp e; omega) (fun e => by have := h7.mp e; omega) (fun e => by have := h10.mp e; omega) (fun e => by have := h12.mp e; omega) (h24.mpr e24) _ _ _ _ _ _ E K
  exact runN c _ _ _ _ _ _ _ _ _ _ _ _ _ (fun e => by have := h0.mp e; omega) (fun e => by have := h2.mp e; omega) (fun e => by have := h5.mp e; omega) (fun e => by have := h7.mp e; omega) (fun e => by have := h10.mp e; omega) (fun e => by have := h12.mp e; omega) (fun e => by have := h24.mp e; omega) _ _ _ _ _ _ E K

/-! ## What is carried between points -/

/-- The running sum after point `n`. -/
def acc (c : Dev nD) : (n : ℕ) → n < cfg0.N → Vec F S1x128 .f32
  | 0, h => stepAcc (grid0.coords ⟨0, h⟩) (iblk m c 0 ⟨0, h⟩) (iblk m c 1 ⟨0, h⟩) k0_pay10
  | n + 1, h => stepAcc (grid0.coords ⟨n + 1, h⟩) (iblk m c 0 ⟨n + 1, h⟩) (iblk m c 1 ⟨n + 1, h⟩) (acc c n (Nat.lt_of_succ_lt h))

/-- At the first point the running sum does not depend on what the buffer held. -/
theorem acc_first (c : Dev nD) (t : Fin cfg0.N) (h : t.val = 0) (s5 : Vec F S1x128 .f32) :
    stepAcc (grid0.coords t) (iblk m c 0 t) (iblk m c 1 t) s5 = acc m c t.val t.isLt := by
  obtain ⟨n, hn⟩ := t
  dsimp only at h
  subst h
  have e := (at_0 ⟨0, hn⟩).mpr rfl
  show stepAcc _ _ _ _ = stepAcc _ _ _ _
  unfold stepAcc
  rw [if_pos e, if_pos e]

/-- At a later point it extends the sum of the point before. -/
theorem acc_next (c : Dev nD) (t : Fin cfg0.N) (h : t.val ≠ 0) :
    stepAcc (grid0.coords t) (iblk m c 0 t) (iblk m c 1 t) (acc m c (t.val - 1) (Nat.lt_of_le_of_lt (Nat.sub_le _ _) t.isLt))
      = acc m c t.val t.isLt := by
  obtain ⟨n, hn⟩ := t
  cases n with
  | zero => exact absurd rfl h
  | succ n => rfl

/-- The targets' rows, from the blocks that hold them. -/
def rows5 (c : Dev nD) : Vec F S5x16 .f32 := fun y =>
  if (y 0).val = 0 then rowAt (iblk m c 0 (pt 2 (by decide))) 2000 64 (by decide) (by decide) (ix2 (0 : Fin 1) (y 1))
  else if (y 0).val = 1 then rowAt (iblk m c 0 (pt 5 (by decide))) 0 0 (by decide) (by decide) (ix2 (0 : Fin 1) (y 1))
  else if (y 0).val = 2 then rowAt (iblk m c 0 (pt 7 (by decide))) 2000 64 (by decide) (by decide) (ix2 (0 : Fin 1) (y 1))
  else if (y 0).val = 3 then rowAt (iblk m c 0 (pt 10 (by decide))) 0 0 (by decide) (by decide) (ix2 (0 : Fin 1) (y 1))
  else rowAt (iblk m c 0 (pt 12 (by decide))) 2000 64 (by decide) (by decide) (ix2 (0 : Fin 1) (y 1))

/-- After point `n`, the rows of the targets met so far are in place. -/
def RowsOK (c : Dev nD) (n : ℕ) (d : Vec F S8x16 .f32) : Prop :=
  ∀ y : S5x16.Idx, (![2, 5, 7, 10, 12] : Fin 5 → ℕ) (y 0) ≤ n → five d y = rows5 m c y

theorem rowsOK_zero (c : Dev nD) (t : Fin cfg0.N) (h : t.val = 0) (d : Vec F S8x16 .f32) : RowsOK m c t.val d := fun y hy => by
  exfalso
  have : ∀ k : Fin 5, 0 < (![2, 5, 7, 10, 12] : Fin 5 → ℕ) k := by decide
  have := this (y 0)
  omega

/-- A point keeps the rows that are in place and adds its own. -/
theorem rowsOK_step (c : Dev nD) (t : Fin cfg0.N) (d : Vec F S8x16 .f32) (hd : ∀ n, t.val = n + 1 → RowsOK m c n d) :
    RowsOK m c t.val (stepRows (grid0.coords t) (iblk m c 0 t) d) := by
  intro y hy
  obtain ⟨n, hn⟩ := t
  have h2 := at_2 ⟨n, hn⟩; have h5 := at_5 ⟨n, hn⟩; have h7 := at_7 ⟨n, hn⟩; have h10 := at_10 ⟨n, hn⟩; have h12 := at_12 ⟨n, hn⟩
  dsimp only at h2 h5 h7 h10 h12 hy hd ⊢
  have key : n ≠ (![2, 5, 7, 10, 12] : Fin 5 → ℕ) (y 0) → five d y = rows5 m c y := fun hne => by
    cases n with
    | zero => exact rowsOK_zero m c ⟨0, hn⟩ rfl d y hy
    | succ n => exact hd n rfl y (by omega)
  obtain ⟨a, ha, e⟩ : ∃ a : Fin 5, y 0 = a ∧ True := ⟨_, rfl, trivial⟩
  have hv : (y 0).val = a.val := congrArg Fin.val ha
  rw [ha] at key hy
  unfold five at key ⊢
  unfold stepRows
  simp only [h2, h5, h7, h10, h12]
  by_cases hne : n = (![2, 5, 7, 10, 12] : Fin 5 → ℕ) a
  · subst hne
    unfold rows5
    simp only [hv]
    fin_cases a <;> rfl
  · rw [← key hne]
    have hx : ∀ k : Fin 5, ¬ (n = (![2, 5, 7, 10, 12] : Fin 5 → ℕ) k ∧ a.val = k.val) := fun k hk => hne (by
      rw [hk.1]; exact congrArg _ (Fin.ext hk.2.symm))
    have x0 := hx 0; have x1 := hx 1; have x2 := hx 2; have x3 := hx 3; have x4 := hx 4
    rw [if_neg (by rw [← hv] at x0; exact x0), if_neg (by rw [← hv] at x1; exact x1), if_neg (by rw [← hv] at x2; exact x2),
      if_neg (by rw [← hv] at x3; exact x3), if_neg (by rw [← hv] at x4; exact x4)]

/-- Once every target was met the rows are all in place. -/
theorem rowsOK_all (c : Dev nD) (n : ℕ) (d : Vec F S8x16 .f32) (h : RowsOK m c n d) (hn : 12 ≤ n) : five d = rows5 m c :=
  funext fun y => h y (by
    have : ∀ k : Fin 5, (![2, 5, 7, 10, 12] : Fin 5 → ℕ) k ≤ 12 := by decide
    have := this (y 0)
    omega)

/-- What the last point stores. -/
def result (c : Dev nD) : Vec F S60x16 .f32 :=
  k0_pay7 (k0_pay8 (acc m c 24 (pt 24 (by decide)).isLt)) (k0_pay9 (iblk m c 2 (pt 24 (by decide)))) (rows5 m c)

/-- The invariant before position `n`: before the first point the scratch buffers at anything; afterwards the running sum at
    its value and the targets' rows met so far in place. -/
def PhiS (c : Dev nD) : (n : ℕ) → n ≤ cfg0.N → sProp 𝕄
  | 0, _ => Pipeline.ΦA spec0 c
  | n + 1, hn => iprop(iprop(owns (c : Thread nD τ) scM0_0 fullShare (acc m c n hn)
      ∗ (∃ d, ⌜RowsOK m c n d⌝ ∗ owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (acc m c n hn)
      ∗ (∃ d, ⌜RowsOK m c n d⌝ ∗ owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (acc m c (n - 1) (by omega))
      ∗ (∃ d, ⌜RowsOK m c (n - 1) d⌝ ∗ owns (c : Thread nD τ) scM0_1 fullShare d)) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => result m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = result m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (dats m 0 c).leavesExact 3 t)

/-- What a point leaves in the output's buffer is what the pipeline expects of it. -/
theorem out_ok (c : Dev nD) (t : Fin cfg0.N) (d : _) (d6 : Vec F S8x16 .f32) (h6 : t.val = 24 → five d6 = rows5 m c) :
    (owns (c : Thread nD τ) (ms0_3 t) fullShare
        (stepOut (grid0.coords t) (iblk m c 2 t) ((dats m 0 c).before 3 t d) (acc m c t.val t.isLt) d6) : sProp 𝕄)
      ⊢ (dats m 0 c).leavesExact 3 t := by
  by_cases h : t.val = 24
  · obtain rfl : t = pt 24 (by decide) := Fin.ext h
    unfold Dat.leavesExact
    rw [live3 _ h, after0_3]
    unfold stepOut
    rw [if_pos ((at_24 _).mpr h), h6 h]
    exact Idealize.SL.BI.Entails.refl _
  · rw [(dats m 0 c).leavesExact_idle 3 t (idle3 t h) (noflush3 t h)]
    unfold stepOut
    rw [if_neg (fun e => h ((at_24 t).mp e))]
    iintro H
    iexists d
    iexact H

set_option maxHeartbeats 3200000 in
/-- The body at any point meets the pipeline's obligation. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2]
  rw [show (dats m 0 c).Φ t.succ = PhiS m c (t.val + 1) t.isLt from rfl, PhiS_succ]
  by_cases hz : t.val = 0
  · rw [PhiS_castSucc m c t, PhiS_zero m c _ _ hz, PhiA0_eq]
    iintro ⟨⟨⟨⟨%s5, HS0⟩, ⟨%s6, HS1⟩⟩, Hg⟩, Ho, ⟨%d0, H0⟩, ⟨%d1, H1⟩, ⟨%d2, H2⟩, ⟨%d3, H3⟩⟩
    iapply (run_at c t _ _ _ _ _ _ _ _ _ _ _ _ (iblk m c 0 t) (iblk m c 1 t) (iblk m c 2 t) _ s5 s6 Set.univ _)
    isplitl [H0]; · iexact H0
    isplitl [H1]; · iexact H1
    isplitl [H2]; · iexact H2
    isplitl [H3]; · iexact H3
    isplitl [HS0]; · iexact HS0
    isplitl [HS1]; · iexact HS1
    rw [acc_first m c t hz s5]
    iintro ⟨H0, H1, H2, H3, HS0, HS1⟩
    isplitl [HS0 HS1 Hg]
    · isplitl [HS0 HS1]
      · isplitl [HS0]; · iexact HS0
        iexists _; isplitr
        swap; · iexact HS1
        ipureintro; exact rowsOK_step m c t s6 fun n hn => absurd (hz.symm.trans hn) (Nat.succ_ne_zero n).symm
      iexact Hg
    isplitl [Ho]; · iexact Ho
    isplitl [H0]; · iexact H0
    isplitl [H1]; · iexact H1
    isplitl [H2]; · iexact H2
    iapply (out_ok m c t d3 s6 (fun h => absurd (hz.symm.trans h) (by decide)))
    iexact H3
  · rw [PhiS_castSucc m c t, PhiS_pos m c _ _ hz]
    iintro ⟨⟨⟨HS0, ⟨%s6, %h6, HS1⟩⟩, Hg⟩, Ho, ⟨%d0, H0⟩, ⟨%d1, H1⟩, ⟨%d2, H2⟩, ⟨%d3, H3⟩⟩
    iapply (run_at c t _ _ _ _ _ _ _ _ _ _ _ _ (iblk m c 0 t) (iblk m c 1 t) (iblk m c 2 t) _ _ s6 Set.univ _)
    isplitl [H0]; · iexact H0
    isplitl [H1]; · iexact H1
    isplitl [H2]; · iexact H2
    isplitl [H3]; · iexact H3
    isplitl [HS0]; · iexact HS0
    isplitl [HS1]; · iexact HS1
    rw [acc_next m c t hz]
    iintro ⟨H0, H1, H2, H3, HS0, HS1⟩
    isplitl [HS0 HS1 Hg]
    · isplitl [HS0 HS1]
      · isplitl [HS0]; · iexact HS0
        iexists _; isplitr
        swap; · iexact HS1
        ipureintro
        exact rowsOK_step m c t s6 fun n hn => by
          rw [hn, Nat.add_sub_cancel] at h6
          exact h6
      iexact Hg
    isplitl [Ho]; · iexact Ho
    isplitl [H0]; · iexact H0
    isplitl [H1]; · iexact H1
    isplitl [H2]; · iexact H2
    iapply (out_ok m c t d3 s6 (fun h => rowsOK_all m c _ s6 h6 (by omega)))
    iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the carried contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, ⟨%d, -, HS1⟩⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 25 := N_0; omega)

/-! ## The run and the frame -/

set_option backward.isDefEq.respectTransparency.types false in
/-- The launch: every run ends with the arrays at what the proof data says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends with the arrays at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The frame claim at any float type. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.UpdateIdeal.Hand

end
-- ==== Proof.UpdateBits.lean ====
module

public import proofs.«01_k».proof.Proof.UpdateFrame
public import proofs.«01_k».proof.Proof.Gen.Update
public import proofs.«01_k».proof.Defs

@[expose] public section

set_option maxRecDepth 16384

noncomputable section

namespace Cert.Update.Hand

open Idealize.ShloMosaic Idealize.ShloMosaic.TcCoe Idealize.SL.Sem

/-- The two programs have the same bodies. -/
theorem defs₀_same : Cert.Update.defs₀ (F := Bits) = Cert.UpdateIdeal.defs₀ (F := Bits) := by
  unfold Cert.Update.defs₀ Cert.UpdateIdeal.defs₀
  refine congrArg Defs.onTc ?_
  funext l a
  match l, a with
  | 0, (t, s) => rfl

/-- The two programs have the same tables. -/
theorem defs_same : Cert.Update.defs (F := Bits) = Cert.UpdateIdeal.defs (F := Bits) := by
  unfold Cert.Update.defs Cert.UpdateIdeal.defs
  rw [defs₀_same]
  rfl

/-- The frame claim of the machine's program. -/
theorem frame : Cert.quiescent_Update := fun m ρ _ => by
  have h := Cert.UpdateIdeal.Hand.frame (F := Bits) m ρ
  rw [← defs_same] at h
  exact h

end Cert.Update.Hand

end
-- ==== Proof.UpdateRef.lean ====
/-
  The updating call's reference, index by index: the items less themselves are zero but at the five rows written, so the
  norms tie at zero everywhere else and the first rows are chosen, in order.
-/
module

public import proofs.«01_k».proof.Defs
public import proofs.«01_k».proof.Proof.Gen.UpdateRefIdeal.Run
public import Idealize.ShloMosaic.Lib.Pointwise
public import Idealize.ShloMosaic.Lib.ReduceAll
public import Idealize.ShloMosaic.Lib.StableHlo.Predicate
public import proofs.«01_k».proof.Proof.Rows

@[expose] public section

set_option maxRecDepth 16384

noncomputable section

namespace Cert.UpdateRefIdeal.Hand

open Cert.UpdateRefIdeal Cert.UpdateRefIdeal.Gen Cert.UpdateRefIdeal.Value
open Idealize.ShloMosaic Idealize.ShloMosaic.StableHlo Idealize.ShloMosaic.TcCoe Idealize.SL.Sem
open Cert.UpdateIdeal.Hand

/-- The rows written. -/
def tgt (k : Fin 5) : ℕ := 100000 * (k.val + 1)

/-- No two of them are one. -/
theorem tgt_inj : Function.Injective tgt := fun a b h => Fin.ext (by unfold tgt at h; omega)

/-- The rows chosen: the first 55 and the five written. -/
def chosen (k : Fin 60) : ℕ := if h : k.val < 55 then k.val else tgt ⟨k.val - 55, by omega⟩

/-- No two of them are one. -/
theorem chosen_inj : Function.Injective chosen := fun a b h => by
  unfold chosen tgt at h
  apply Fin.ext
  have ha := a.isLt
  have hb := b.isLt
  split at h <;> split at h <;> first | omega | (dsimp only at h; omega)

/-- They are rows of the array. -/
theorem chosen_lt (k : Fin 60) : chosen k < 1000000 := by
  unfold chosen tgt
  have hk := k.isLt
  split
  · omega
  · show 100000 * (k.val - 55 + 1) < _
    omega

/-- The numbers of the rows written, as a column of words. -/
abbrev idx5 (V0 : Valuation τ sig (Elt Ideal)) : IVec S5x1 32 :=
  broadcastInDim S5x1 ![0] bcast_S5_S5x1_0 (select (cmpi .slt (res_main_c V0) (broadcastInDim S5 ![] bcast_S_S5 (constantI S_ 32 0#32))) (addi (res_main_c V0) (broadcastInDim S5 ![] bcast_S_S5 (constantI S_ 32 1000000#32))) (res_main_c V0))

/-- The table of the rows written, at a place. -/
theorem c_apply (V0 : Valuation τ sig (Elt Ideal)) (j : S5.Idx) : res_main_c V0 j = BitVec.ofNat 32 (tgt (j 0)) := by
  unfold res_main_c
  have e : ∀ k : Fin 5, lit0 k = BitVec.ofNat 32 (tgt k) := by decide
  have h : S5.rowMajor j = j 0 := Fin.ext (Shape.rowMajor_val_one j)
  rw [h]
  exact e _

/-- A word of a row's number, not negative, is taken as it is. -/
theorem wrap (w : ℕ) (hw : w < 1000000) (a : BitVec 32) :
    Scalar.select (IntOp.cmpi .slt (BitVec.ofNat 32 w) 0#32) a (BitVec.ofNat 32 w) = BitVec.ofNat 32 w :=
  Routing.wrap_of_lt _ _ (by rw [BitVec.toNat_ofNat]; omega)

/-- The number of a row written, at a place. -/
theorem idx5_apply (V0 : Valuation τ sig (Elt Ideal)) (j : S5x1.Idx) : idx5 V0 j = BitVec.ofNat 32 (tgt (j 0)) := by
  idx_vars j
  unfold idx5
  pointwise [c_apply]
  exact wrap _ (by unfold tgt; omega) _

/-- A word of a row's number, read signed. -/
theorem toInt_row (w : ℕ) (hw : w < 1000000) : (BitVec.ofNat 32 w).toInt = (w : ℤ) :=
  StableHlo.Predicate.toInt_ofNat_small _ (by omega)

theorem idx5_int (V0 : Valuation τ sig (Elt Ideal)) (j : S5x1.Idx) : (idx5 V0 j).toInt = (tgt (j 0) : ℤ) :=
  (congrArg BitVec.toInt (idx5_apply V0 j)).trans (toInt_row _ (by unfold tgt; omega))

/-- The masks, one to an item. -/
def mask (V0 : Valuation τ sig (Elt Ideal)) : FVec Ideal S1000000x1 .f32 :=
  shapeCast _ (transpose S125x8x1000 [0, 2, 1] (shapeCast _ (V0 (Proc.devRef .tc main_arg1)) shapeCasts_S125000x8_S125x1000x8) transposes_S125x1000x8_S125x8x1000_0_2_1) shapeCasts_S125x8x1000_S1000000x1

/-- A feature of an item. -/
def item (V0 : Valuation τ sig (Elt Ideal)) (r : Fin 1000000) (y : Fin 16) : EReal := res_main_v2 V0 (ix2 r y)

/-- The mask of an item. -/
def msk (V0 : Valuation τ sig (Elt Ideal)) (r : Fin 1000000) : EReal := mask V0 (ix2 r 0)

/-- The items by their masks, added up and divided by a hundred. -/
def avg (V0 : Valuation τ sig (Elt Ideal)) (y : Fin 16) : EReal :=
  Ideal.div (∑ r : Fin 1000000, item V0 r y * msk V0 r) (Ideal.ofBits .f32 0x42C80000#32)

/-- What the reference writes to the five rows. -/
theorem avg_apply (V0 : Valuation τ sig (Elt Ideal)) (k : Fin 5) (y : Fin 16) :
    broadcastInDim S5x16 ![1] bcast_S16_S5x16_1 (mulf (F := Ideal) (φ := .f32) (Host.divf (Host.reduceAdd (mulf (res_main_v2 V0) (broadcastInDim S1000000x16 ![0, 1] bcast_S1000000x1_S1000000x16_0_1 (mask V0))) (constant S_ .f32 0x00000000#32) reducesTo_S1000000x16_S16_d0 h_S_) (broadcastInDim S16 ![] bcast_S_S16 (constant S_ .f32 0x42C80000#32))) (broadcastInDim S16 ![] bcast_S_S16 (constant S_ .f32 0x3F800000#32))) (ix2 k y)
      = avg V0 y := by
  pointwise
  rfl

/-- Rows set by the five numbers, read in one of them. -/
theorem set5_hit (V0 : Valuation τ sig (Elt Ideal)) (x : FVec Ideal S1000000x16 .f32) (upd : FVec Ideal S5x16 .f32) (r : Fin 1000000)
    (y : Fin 16) (k : Fin 5) (hk : tgt k = r.val) :
    Host.scatter scatter_S1000000x16_S5x1_S5x16_1_0_0_1 (fun _ b => b) x (idx5 V0) upd (ix2 r y) = upd (ix2 k y) :=
  row_hit (N := 1000000) (n := 5) (B := 16) scatter_S1000000x16_S5x1_S5x16_1_0_0_1 rfl rfl rfl rfl (idx5 V0) tgt (idx5_int V0) tgt_inj
    x upd (ix2 r y) (ix2 k y) hk rfl

/-- Rows set by the five numbers, read in another row. -/
theorem set5_miss (V0 : Valuation τ sig (Elt Ideal)) (x : FVec Ideal S1000000x16 .f32) (upd : FVec Ideal S5x16 .f32) (r : Fin 1000000)
    (y : Fin 16) (hr : ∀ k, tgt k ≠ r.val) :
    Host.scatter scatter_S1000000x16_S5x1_S5x16_1_0_0_1 (fun _ b => b) x (idx5 V0) upd (ix2 r y) = x (ix2 r y) :=
  row_miss (N := 1000000) (n := 5) (B := 16) scatter_S1000000x16_S5x1_S5x16_1_0_0_1 rfl rfl rfl rfl (idx5 V0) tgt (idx5_int V0)
    x upd (ix2 r y) hr

/-- Rows fetched by the five numbers. -/
theorem get5 (V0 : Valuation τ sig (Elt Ideal)) (x : FVec Ideal S1000000x16 .f32) (r : Fin 1000000) (y : Fin 16) (k : Fin 5)
    (hk : tgt k = r.val) :
    Host.gather gather_S1000000x16_S5x1_S5x16_1_0_n_n_0_1_116 x (idx5 V0) (ix2 k y) = x (ix2 r y) :=
  row_get (N := 1000000) (n := 5) (B := 16) gather_S1000000x16_S5x1_S5x16_1_0_n_n_0_1_116 rfl rfl rfl rfl rfl x (idx5 V0) tgt
    (idx5_apply V0) (by norm_num) (ix2 r y) (ix2 k y) hk rfl

/-- Entries set by the five numbers. -/
theorem set5_entry (V0 : Valuation τ sig (Elt Ideal)) (x : FVec Ideal S1000000 .f32) (v : Ideal .f32) (i : S1000000.Idx) :
    ((∃ j, tgt j = (i 0).val) → Host.scatter scatter_S1000000_S5x1_S5_n_0_0_1 (fun _ b => b) x (idx5 V0) (fun _ => v) i = v)
      ∧ ((∀ j, tgt j ≠ (i 0).val) → Host.scatter scatter_S1000000_S5x1_S5_n_0_0_1 (fun _ b => b) x (idx5 V0) (fun _ => v) i = x i) :=
  entry_set (N := 1000000) (n := 5) scatter_S1000000_S5x1_S5_n_0_0_1 rfl rfl rfl rfl (idx5 V0) tgt (idx5_int V0) x v i

/-- The pattern of minus infinity. -/
theorem bits_bot : Ideal.ofBits .f32 0xFF800000#32 = ⊥ := by
  simp [Ideal.ofBits, Ideal.ieee]
  try rfl

/-- The pattern of sixteen. -/
theorem bits_16 : Ideal.ofBits .f32 0x41800000#32 = ((16 : ℝ) : EReal) := by
  simp [Ideal.ofBits, Ideal.ieee, -EReal.coe_mul]; norm_num

/-- The pattern of fifteen. -/
theorem bits_15 : Ideal.ofBits .f32 0x41700000#32 = ((15 : ℝ) : EReal) := by
  simp [Ideal.ofBits, Ideal.ieee, -EReal.coe_mul]; norm_num

/-- The norms of rows of zeros are the square root of zero. -/
theorem norm_zero {N B : ℕ} (x : FVec Ideal ⟨2, ![N, B]⟩ .f32) (h : (⟨2, ![N, B]⟩ : Shape).ReducesTo [1] ⟨1, ![N]⟩) (hu : 0 < S_.numel)
    (r : Fin N) (hx : ∀ y, x (ix2 r y) = (0 : EReal)) :
    Host.sqrt (F := Ideal) (φ := .f32) (Host.reduceAdd (mulf x x) (constant S_ .f32 0x00000000#32) h hu) (ix1 r) = Ideal.sqrt 0 := by
  pointwise
  refine congrArg Ideal.sqrt (Finset.sum_eq_zero fun y _ => ?_)
  rw [hx]
  exact mul_zero _

variable (V0 : Valuation τ sig (Elt Ideal)) (hfin : ∀ r y, item V0 r y ≠ ⊤ ∧ item V0 r y ≠ ⊥)

/-- The items less what they were, in a row written. -/
theorem v21_hit (r : Fin 1000000) (y : Fin 16) (k : Fin 5) (hk : tgt k = r.val) :
    res_main_v21 V0 (ix2 r y) = avg V0 y - item V0 r y := by
  unfold res_main_v21
  rw [subf_apply]
  exact congrArg (· - item V0 r y) ((set5_hit V0 _ _ r y k hk).trans (avg_apply V0 k y))

include hfin in
/-- The items less what they were, in any other row. -/
theorem v21_miss (r : Fin 1000000) (y : Fin 16) (hr : ∀ k, tgt k ≠ r.val) : res_main_v21 V0 (ix2 r y) = (0 : EReal) := by
  unfold res_main_v21
  rw [subf_apply]
  refine (congrArg (· - item V0 r y) (set5_miss V0 _ _ r y hr)).trans ?_
  exact EReal.sub_self (hfin r y).1 (hfin r y).2

/-- The rows written, ten times over. -/
theorem v37_hit (r : Fin 1000000) (y : Fin 16) (k : Fin 5) (hk : tgt k = r.val) :
    res_main_v37 V0 (ix2 r y) = (avg V0 y - item V0 r y) * Ideal.ofBits .f32 0x41200000#32 := by
  unfold res_main_v37
  refine (set5_hit V0 _ _ r y k hk).trans ?_
  rw [mulf_apply]
  exact congrArg (· * Ideal.ofBits .f32 0x41200000#32) ((get5 V0 _ r y k hk).trans (v21_hit V0 r y k hk))

include hfin in
/-- The other rows stay zero. -/
theorem v37_miss (r : Fin 1000000) (y : Fin 16) (hr : ∀ k, tgt k ≠ r.val) : res_main_v37 V0 (ix2 r y) = (0 : EReal) := by
  unfold res_main_v37
  exact (set5_miss V0 _ _ r y hr).trans (v21_miss V0 hfin r y hr)

/-- The norms, with minus infinity at the rows written. -/
def score (i : S1000000.Idx) : EReal := res_main_v46 V0 i

/-- Minus infinity at the rows written. -/
theorem score_hit (i : S1000000.Idx) (hr : ∃ k, tgt k = (i 0).val) : score V0 i = ⊥ := by
  unfold score res_main_v46
  refine ((set5_entry V0 _ _ i).1 hr).trans ?_
  exact bits_bot

include hfin in
/-- The norm of nothing at the others. -/
theorem score_miss (i : S1000000.Idx) (hr : ∀ k, tgt k ≠ (i 0).val) : score V0 i = Ideal.sqrt 0 := by
  unfold score res_main_v46
  refine ((set5_entry V0 _ _ i).2 hr).trans ?_
  idx_vars i
  exact norm_zero (res_main_v37 V0) _ _ i0 fun y => v37_miss V0 hfin i0 y hr

include hfin in
/-- The first rows have the greatest of these. -/
theorem score_front (i : S1000000.Idx) (hi : (i 0).val < 55) (j : S1000000.Idx) : score V0 j ≤ score V0 i := by
  by_cases hj : ∃ k, tgt k = (j 0).val
  · rw [score_hit V0 j hj]
    exact bot_le
  · have hi' : ∀ k, tgt k ≠ (i 0).val := fun k e => by unfold tgt at e; omega
    have hj' : ∀ k, tgt k ≠ (j 0).val := fun k e => hj ⟨k, e⟩
    rw [score_miss V0 hfin i hi', score_miss V0 hfin j hj']

include hfin in
/-- The rows chosen, at a place. -/
theorem v47_apply (k : Fin 60) : res_main_v47 V0 (ix1 k) = BitVec.ofNat 32 (chosen k) := by
  unfold res_main_v47
  have h1 : (Host.topK (s := S1000000) S55 0 (FloatOps.cmpfTotal (F := Ideal) (φ := .f32) .gt) (res_main_v46 V0) sliceFits_S1000000_S55).2
      = fun k => BitVec.ofNat 32 (k 0).val :=
    funext fun k => topK_front (N := 1000000) (K := 55) (by norm_num) _ _ (score_front V0 hfin) k
  rw [h1]
  pointwise [c_apply]
  unfold chosen
  split <;> rfl

/-- The column of the rows chosen. -/
abbrev idx60 : IVec S60x1 32 :=
  broadcastInDim S60x1 ![0] bcast_S60_S60x1_0 (select (cmpi .slt (res_main_v47 V0) (broadcastInDim S60 ![] bcast_S_S60 (constantI S_ 32 0#32))) (addi (res_main_v47 V0) (broadcastInDim S60 ![] bcast_S_S60 (constantI S_ 32 1000000#32))) (res_main_v47 V0))

include hfin in
/-- The number of a row chosen, at a place. -/
theorem idx60_apply (j : S60x1.Idx) : idx60 V0 j = BitVec.ofNat 32 (chosen (j 0)) := by
  idx_vars j
  unfold idx60
  pointwise [v47_apply V0 hfin]
  exact wrap _ (chosen_lt j0) _

include hfin in
theorem idx60_int (j : S60x1.Idx) : (idx60 V0 j).toInt = (chosen (j 0) : ℤ) :=
  (congrArg BitVec.toInt (idx60_apply V0 hfin j)).trans (toInt_row _ (chosen_lt (j 0)))

/-- The mean of a row of noise. -/
def mean (x : FVec Ideal S60x16 .f32) (k : Fin 60) : EReal := Ideal.div (∑ y : Fin 16, x (ix2 k y)) (Ideal.ofBits .f32 0x41800000#32)

/-- A row of noise less its mean. -/
def centred (x : FVec Ideal S60x16 .f32) (k : Fin 60) (y : Fin 16) : EReal := x (ix2 k y) - mean x k

/-- A row of noise, normalised: less its mean, by the deviation whose squares are divided by one less than their number. -/
def normal (x : FVec Ideal S60x16 .f32) (k : Fin 60) (y : Fin 16) : EReal :=
  Ideal.div (centred x k y)
    (Ideal.sqrt (Ideal.div (∑ z : Fin 16, centred x k z * centred x k z) (Ideal.ofBits .f32 0x41700000#32)))

/-- The noise. -/
abbrev noise : FVec Ideal S60x16 .f32 := V0 (Proc.devRef .tc main_arg2)

/-- The reference's noise, normalised, as an array. -/
abbrev normals : FVec Ideal S60x16 .f32 :=
  Host.divf (subf (V0 (Proc.devRef .tc main_arg2)) (broadcastInDim S60x16 ![0, 1] bcast_S60x1_S60x16_0_1 (Host.divf (broadcastInDim S60x1 ![0] bcast_S60_S60x1_0 (Host.reduceAdd (V0 (Proc.devRef .tc main_arg2)) (constant S_ .f32 0x00000000#32) reducesTo_S60x16_S60_d1 h_S_)) (broadcastInDim S60x1 ![] bcast_S_S60x1 (constant S_ .f32 0x41800000#32))))) (broadcastInDim S60x16 ![0, 1] bcast_S60x1_S60x16_0_1 (Host.sqrt (select (broadcastInDim S60x1 ![] bcast_S_S60x1 (cmpf .ogt (res_main_call1_call0_v8 V0) (constant S_ .f32 0x00000000#32))) (Host.divf (broadcastInDim S60x1 ![0] bcast_S60_S60x1_0 (Host.reduceAdd (mulf (res_main_call1_call0_v5 V0) (res_main_call1_call0_v5 V0)) (constant S_ .f32 0x00000000#32) reducesTo_S60x16_S60_d1 h_S_)) (broadcastInDim S60x1 ![] bcast_S_S60x1 (res_main_call1_call0_v8 V0))) (broadcastInDim S60x1 ![] bcast_S_S60x1 (id (constant S_ .f32 0x7FC00000#32))))))

/-- Sixteen less one is fifteen. -/
theorem fifteen : res_main_call1_call0_v8 V0 = fun _ => Ideal.ofBits .f32 0x41700000#32 := by
  unfold res_main_call1_call0_v8
  funext i
  pointwise
  rw [bits_16, bits_15]
  show ((16 : ℝ) : EReal) - (((1#32 : BitVec 32).toInt : ℝ) : EReal) = _
  rw [show ((1#32 : BitVec 32).toInt : ℝ) = 1 by norm_num, ← EReal.coe_sub]
  norm_num

theorem normals_apply (k : Fin 60) (y : Fin 16) : normals V0 (ix2 k y) = normal (noise V0) k y := by
  unfold normals
  pointwise [fifteen, res_main_call1_call0_v5]
  rw [if_pos (by rw [bits_15]; exact EReal.coe_pos.mpr (by norm_num))]
  rfl

/-- Every number of a row chosen lies in the array. -/
theorem inside (w : ℕ) (hw : w < 1000000) :
    IntOp.andi (IntOp.cmpi .sge (BitVec.ofNat 32 w) 0#32) (IntOp.cmpi .sle (BitVec.ofNat 32 w) 999999#32) = 1#1 := by
  have e : (BitVec.ofNat 32 w).toInt = (w : ℤ) := toInt_row w hw
  have h1 : IntOp.cmpi .sge (BitVec.ofNat 32 w) 0#32 = 1#1 := by
    show BitVec.ofBool (BitVec.sle 0#32 (BitVec.ofNat 32 w)) = 1#1
    rw [BitVec.sle, e, decide_eq_true]
    · rfl
    · exact Int.natCast_nonneg w
  have h2 : IntOp.cmpi .sle (BitVec.ofNat 32 w) 999999#32 = 1#1 := by
    show BitVec.ofBool (BitVec.sle (BitVec.ofNat 32 w) 999999#32) = 1#1
    rw [BitVec.sle, e, decide_eq_true]
    · rfl
    · show (w : ℤ) ≤ 999999
      omega
  rw [h1, h2]
  rfl

/-- The rows of zeros and of changes. -/
def change (r : Fin 1000000) (y : Fin 16) : EReal := res_main_v37 V0 (ix2 r y)

include hfin in
/-- Rows fetched by the numbers chosen. -/
theorem get60 (x : FVec Ideal S1000000x16 .f32) (r : Fin 1000000) (y : Fin 16) (k : Fin 60) (hk : chosen k = r.val) :
    Host.gather gather_S1000000x16_S60x1_S60x16_1_0_n_n_0_1_116 x (res_main_call2_v5 V0) (ix2 k y) = x (ix2 r y) :=
  row_get (N := 1000000) (n := 60) (B := 16) gather_S1000000x16_S60x1_S60x16_1_0_n_n_0_1_116 rfl rfl rfl rfl rfl x
    (res_main_call2_v5 V0) chosen (idx60_apply V0 hfin) (by norm_num) (ix2 r y) (ix2 k y) hk rfl

include hfin in
/-- Rows added to by the numbers chosen. -/
theorem add60 (x : FVec Ideal S1000000x16 .f32) (upd : FVec Ideal S60x16 .f32) (r : Fin 1000000) (y : Fin 16) (k : Fin 60)
    (hk : chosen k = r.val) :
    Host.scatterAdd scatter_S1000000x16_S60x1_S60x16_1_0_0_1 x (idx60 V0) upd (ix2 r y) = x (ix2 r y) + upd (ix2 k y) :=
  row_add (N := 1000000) (n := 60) (B := 16) scatter_S1000000x16_S60x1_S60x16_1_0_0_1 rfl rfl rfl rfl
    (idx60 V0) chosen (idx60_int V0 hfin) chosen_inj x upd (ix2 r y) (ix2 k y) hk rfl

include hfin in
/-- What the reference leaves at a row chosen. -/
theorem out_apply (k : Fin 60) (y : Fin 16) :
    select (broadcastInDim S60x16 ![0] bcast_S60_S60x16_0 (Host.reduce IntOp.andi (andi (cmpi .sge (res_main_call2_v5 V0) (broadcastInDim S60x1 ![] bcast_S_S60x1 (constantI S_ 32 0#32))) (cmpi .sle (res_main_call2_v5 V0) (broadcastInDim S60x1 ![0, 1] bcast_S1x1_S60x1_0_1 (broadcastInDim S1x1 ![1] bcast_S1_S1x1_1 (constantI S1 32 999999#32))))) (constantI S_ 1 1#1) reducesTo_S60x1_S60_d1 h_S_)) (Host.gather gather_S1000000x16_S60x1_S60x16_1_0_n_n_0_1_116 (Host.scatterAdd scatter_S1000000x16_S60x1_S60x16_1_0_0_1 (res_main_v37 V0) (idx60 V0) (normals V0)) (res_main_call2_v5 V0)) (broadcastInDim S60x16 ![] bcast_S_S60x16 (constant (F := Ideal) S_ .f32 0x7FC00000#32)) (ix2 k y)
      = change V0 ⟨chosen k, chosen_lt k⟩ y + normal (noise V0) k y := by
  have h1 : ∀ j : S60x1.Idx, andi (cmpi .sge (res_main_call2_v5 V0) (broadcastInDim S60x1 ![] bcast_S_S60x1 (constantI S_ 32 0#32))) (cmpi .sle (res_main_call2_v5 V0) (broadcastInDim S60x1 ![0, 1] bcast_S1x1_S60x1_0_1 (broadcastInDim S1x1 ![1] bcast_S1_S1x1_1 (constantI S1 32 999999#32)))) j = 1#1 := fun j => by
    have e : res_main_call2_v5 V0 j = BitVec.ofNat 32 (chosen (j 0)) := idx60_apply V0 hfin j
    show IntOp.andi (IntOp.cmpi .sge (res_main_call2_v5 V0 j) 0#32) (IntOp.cmpi .sle (res_main_call2_v5 V0 j) 999999#32) = 1#1
    rw [e]
    exact inside _ (chosen_lt _)
  have h2 : broadcastInDim S60x16 ![0] bcast_S60_S60x16_0 (Host.reduce IntOp.andi (andi (cmpi .sge (res_main_call2_v5 V0) (broadcastInDim S60x1 ![] bcast_S_S60x1 (constantI S_ 32 0#32))) (cmpi .sle (res_main_call2_v5 V0) (broadcastInDim S60x1 ![0, 1] bcast_S1x1_S60x1_0_1 (broadcastInDim S1x1 ![1] bcast_S1_S1x1_1 (constantI S1 32 999999#32))))) (constantI S_ 1 1#1) reducesTo_S60x1_S60_d1 h_S_) (ix2 k y) = 1#1 :=
    Host.reduce_andi_one _ _ _ _ _ rfl h1
  have hs : ∀ a b : Ideal .f32, Scalar.select 1#1 a b = a := fun _ _ => rfl
  refine (congrArg (fun b => Scalar.select b _ _) h2).trans ((hs _ _).trans ?_)
  refine (get60 V0 hfin _ ⟨chosen k, chosen_lt k⟩ y k rfl).trans ?_
  refine (add60 V0 hfin _ _ ⟨chosen k, chosen_lt k⟩ y k rfl).trans ?_
  rw [normals_apply]
  rfl

end Cert.UpdateRefIdeal.Hand
-- ==== Proof.UpdateValue.lean ====
/-
  The updating call: what the last grid point stores is the normalised noise and, in the last five rows, ten times the
  average of the items chosen less the five items themselves; the reference leaves the same at the rows it chooses.
-/
module

public import proofs.«01_k».proof.Proof.UpdateFrame
public import proofs.«01_k».proof.Proof.UpdateRef
public import proofs.«01_k».proof.Proof.InnerValue
public import Idealize.ShloMosaic.Lib.Pipeline.ReadBack
public import proofs.«01_k».proof.Proof.Gen.Pre_finite_items
public import Idealize.ShloMosaic.Lib.ReduceAll

@[expose] public section

set_option maxRecDepth 16384

noncomputable section

namespace Cert.UpdateIdeal.Hand

open Cert.UpdateIdeal Cert.UpdateIdeal.Gen
open Idealize.ShloMosaic Idealize.ShloMosaic.StableHlo Idealize.ShloMosaic.TcCoe Idealize.SL.Sem
open Idealize.ShloMosaic.Pipeline (Dat)

variable (m : (ℓ : Loc nD τ sig) → Buf (Elt Ideal) ℓ)

/-- Words are equal whichever comes first. -/
theorem eq_swap (a b : BitVec 32) : IntOp.cmpi .eq a b = IntOp.cmpi .eq b a := by
  show BitVec.ofBool (a == b) = BitVec.ofBool (b == a)
  rw [Bool.beq_comm]

/-- The running sum's gain from a block: the block's columns, each row by its group's mask, added up. -/
theorem pay11_apply (x1 : Vec Ideal S5000x8 .f32) (s : Vec Ideal S1x128 .f32) (x0 : Vec Ideal S5000x128 .f32) (x : Fin 128) :
    k0_pay11 (F := Ideal) x1 s x0 (ix2 0 x)
      = s (ix2 0 x) + ∑ r : Fin 5000, x0 (ix2 r x) * x1 (ix2 r ⟨x.val / 16, by omega⟩) := by
  pointwise [k0_pay11]
  refine congrArg (s (ix2 0 x) + ·) (Finset.sum_congr rfl fun r _ => congrArg (x0 (ix2 r x) * ·) ?_)
  refine (Finset.sum_congr rfl fun g _ => ?_).trans (Cert.Groups.sum_pick (fun g => x1 (ix2 r g)) (x.val / 16) (by omega))
  rw [eq_swap, Cert.InnerIdeal.Hand.group_word, Cert.Groups.ofWord]
  simp only [eq_comm]

/-- The average: the running sum's groups added up, divided by a hundred. -/
theorem pay8_apply (s : Vec Ideal S1x128 .f32) (y : Fin 16) :
    k0_pay8 (F := Ideal) s (ix2 0 y)
      = Ideal.div (∑ g : Fin 8, s (ix2 0 (Cert.Groups.col g y))) (Ideal.ofBits .f32 0x42C80000#32) := by
  pointwise [k0_pay8]
  simp only [Cert.InnerIdeal.Hand.place_word]
  rw [← Cert.Groups.sum_place (fun x => s (ix2 0 x)) y]
  congr 1
  refine Finset.sum_congr rfl fun x _ => ?_
  rw [← Cert.Groups.ofWord, ← Cert.InnerIdeal.Hand.place_eq ⟨x.val % 16, by omega⟩ y]

/-- The noise normalised. -/
theorem pay9_apply (x : Vec Ideal S60x16 .f32) (k : Fin 60) (y : Fin 16) :
    k0_pay9 (F := Ideal) x (ix2 k y) = Cert.UpdateRefIdeal.Hand.normal x k y := by
  pointwise [k0_pay9]
  rfl

/-- The stored rows. -/
theorem pay7_apply (v : Vec Ideal S1x16 .f32) (n : Vec Ideal S60x16 .f32) (t : Vec Ideal S5x16 .f32) (k : Fin 60) (y : Fin 16) :
    k0_pay7 (F := Ideal) v n t (ix2 k y)
      = n (ix2 k y) + if h : k.val < 55 then 0
          else Ideal.ofBits .f32 0x41200000#32 * (v (ix2 0 y) - t (ix2 ⟨k.val - 55, by omega⟩ y)) := by
  pointwise [k0_pay7]

/-- The packed items. -/
def A0 (c : Dev nD) : Vec Ideal S125000x128 .f32 := m ((c : Thread nD τ).loc main_arg0)
/-- The packed mask. -/
def A1 (c : Dev nD) : Vec Ideal S125000x8 .f32 := m ((c : Thread nD τ).loc main_arg1)
/-- The noise. -/
def A2 (c : Dev nD) : Vec Ideal S60x16 .f32 := m ((c : Thread nD τ).loc main_arg2)

/-- The block of packed items at a point: rows `5000 t` on. -/
theorem iblk0 (c : Dev nD) (t : Fin cfg0.N) (r : Fin 5000) (j : Fin 128) (R : Fin 125000) (hR : R.val = 5000 * t.val + r.val) :
    iblk m c 0 t (ix2 r j) = A0 m c (ix2 R j) := by
  have e : ∀ t : Fin cfg0.N, win0_0.index t = ![t.val, 0] := (by decide +kernel : ∀ t : Fin grid0.N, _)
  have hV : V m c (Pipeline.arrRef spec0 0) = A0 m c := V_main_arg0 m c
  unfold iblk
  rw [hV]
  blk_ext [e t]

/-- The block of the mask at a point: the same rows. -/
theorem iblk1 (c : Dev nD) (t : Fin cfg0.N) (r : Fin 5000) (g : Fin 8) (R : Fin 125000) (hR : R.val = 5000 * t.val + r.val) :
    iblk m c 1 t (ix2 r g) = A1 m c (ix2 R g) := by
  have e : ∀ t : Fin cfg0.N, win0_1.index t = ![t.val, 0] := (by decide +kernel : ∀ t : Fin grid0.N, _)
  have hV : V m c (Pipeline.arrRef spec0 1) = A1 m c := V_main_arg1 m c
  unfold iblk
  rw [hV]
  blk_ext [e t]

/-- The noise every point reads is the whole of it. -/
theorem iblk2 (c : Dev nD) (t : Fin cfg0.N) (k : Fin 60) (y : Fin 16) : iblk m c 2 t (ix2 k y) = A2 m c (ix2 k y) := by
  have e : ∀ t : Fin cfg0.N, win0_2.index t = ![0, 0] := (by decide +kernel : ∀ t : Fin grid0.N, _)
  have hV : V m c (Pipeline.arrRef spec0 2) = A2 m c := V_main_arg2 m c
  unfold iblk
  rw [hV]
  blk_ext [e t]

/-- A packed row's term of the sum at a column. -/
def term (c : Dev nD) (x : Fin 128) (R : ℕ) : EReal :=
  if h : R < 125000 then A0 m c (ix2 ⟨R, h⟩ x) * A1 m c (ix2 ⟨R, h⟩ ⟨x.val / 16, by omega⟩) else 0

/-- A point's gain. -/
theorem gain (c : Dev nD) (t : Fin cfg0.N) (s : Vec Ideal S1x128 .f32) (x : Fin 128) :
    k0_pay1 (k0_pay11 (F := Ideal) (iblk m c 1 t) s (iblk m c 0 t)) (ix2 0 x)
      = s (ix2 0 x) + ∑ r : Fin 5000, term m c x (5000 * t.val + r.val) := by
  pointwise [k0_pay1]
  rw [pay11_apply]
  refine congrArg (s (ix2 0 x) + ·) (Finset.sum_congr rfl fun r _ => ?_)
  have ht : t.val < 25 := lt_of_lt_of_eq t.isLt N_0
  have hR : 5000 * t.val + r.val < 125000 := by omega
  unfold term
  rw [dif_pos hR, iblk0 m c t r x ⟨_, hR⟩ rfl, iblk1 m c t r _ ⟨_, hR⟩ rfl]

/-- The running sum after a point: the terms of the rows seen so far. -/
theorem acc_apply (c : Dev nD) (x : Fin 128) : ∀ (n : ℕ) (hn : n < cfg0.N),
    acc m c n hn (ix2 0 x) = ∑ t ∈ Finset.range (n + 1), ∑ r : Fin 5000, term m c x (5000 * t + r.val)
  | 0, hn => by
    have e := (at_0 ⟨0, hn⟩).mpr rfl
    show stepAcc _ _ _ _ (ix2 0 x) = _
    unfold stepAcc
    rw [if_pos e, gain, Finset.sum_range_one]
    have hz : k0_pay10 (F := Ideal) (ix2 0 x) = (0 : EReal) := by pointwise [k0_pay10]
    rw [hz]
    exact zero_add _
  | n + 1, hn => by
    have e : ¬ at_ 0#32 (grid0.coords ⟨n + 1, hn⟩) := fun h => absurd ((at_0 ⟨n + 1, hn⟩).mp h) (Nat.succ_ne_zero n)
    show stepAcc _ _ _ _ (ix2 0 x) = _
    unfold stepAcc
    rw [if_neg e, gain, acc_apply c x n, Finset.sum_range_succ (n := n + 1)]

/-- The sum the last point holds: every row's term. -/
theorem acc_last (c : Dev nD) (x : Fin 128) :
    acc m c 24 (pt 24 (by decide)).isLt (ix2 0 x)
      = ∑ R : Fin 125000, (A0 m c (ix2 R x) * A1 m c (ix2 R ⟨x.val / 16, by omega⟩) : EReal) := by
  rw [acc_apply, Finset.sum_range]
  refine Eq.trans ?_ (Cert.Groups.sum_rows (A := 25) (B := 5000) (K := 125000) (by norm_num)
    (fun R => A0 m c (ix2 R x) * A1 m c (ix2 R ⟨x.val / 16, by omega⟩))).symm
  refine Finset.sum_congr rfl fun t _ => Finset.sum_congr rfl fun r _ => ?_
  exact dif_pos (by have := t.isLt; omega)

/-! ## The items as the reference numbers them -/

open Cert.UpdateRefIdeal.Hand (item msk tgt chosen avg change normal)

/-- The row an item is packed in. -/
def rowOf (r : Fin 1000000) : Fin 125000 := ⟨r.val / 8000 * 1000 + r.val % 1000, by omega⟩
/-- The group it is packed in. -/
def groupOf (r : Fin 1000000) : Fin 8 := ⟨r.val / 1000 % 8, by omega⟩

variable (V0 : Valuation Cert.UpdateRefIdeal.τ Cert.UpdateRefIdeal.sig (Elt Ideal))

/-- The items unpacked. -/
theorem unpack (a : Vec Ideal S125000x128 .f32) (r : Fin 1000000) (y : Fin 16) :
    shapeCast Cert.UpdateRefIdeal.S1000000x16 (transpose Cert.UpdateRefIdeal.S125x8x1000x16 [0, 2, 1, 3] (shapeCast Cert.UpdateRefIdeal.S125x1000x8x16 a Cert.UpdateRefIdeal.Gen.shapeCasts_S125000x128_S125x1000x8x16) Cert.UpdateRefIdeal.Gen.transposes_S125x1000x8x16_S125x8x1000x16_0_2_1_3) Cert.UpdateRefIdeal.Gen.shapeCasts_S125x8x1000x16_S1000000x16 (ix2 r y)
      = a (ix2 (rowOf r) (Cert.Groups.col (groupOf r) y)) := by
  have h : (⟨r.val / 1000 % 8 * 16 + y.val, by omega⟩ : Fin 128) = Cert.Groups.col (groupOf r) y :=
    Fin.ext (by simp only [groupOf, Cert.Groups.col]; omega)
  rw [← h]
  unfold rowOf
  pointwise

/-- The mask unpacked. -/
theorem unpack_mask (a : Vec Ideal S125000x8 .f32) (r : Fin 1000000) :
    shapeCast Cert.UpdateRefIdeal.S1000000x1 (transpose Cert.UpdateRefIdeal.S125x8x1000 [0, 2, 1] (shapeCast Cert.UpdateRefIdeal.S125x1000x8 a Cert.UpdateRefIdeal.Gen.shapeCasts_S125000x8_S125x1000x8) Cert.UpdateRefIdeal.Gen.transposes_S125x1000x8_S125x8x1000_0_2_1) Cert.UpdateRefIdeal.Gen.shapeCasts_S125x8x1000_S1000000x1 (ix2 r 0)
      = a (ix2 (rowOf r) (groupOf r)) := by
  unfold rowOf groupOf
  pointwise

/-- Added up over the items is added up over packed rows and groups. -/
theorem sum_items (f : Fin 125000 → Fin 8 → EReal) :
    ∑ r : Fin 1000000, f (rowOf r) (groupOf r) = ∑ g : Fin 8, ∑ R : Fin 125000, f R g := by
  refine (Cert.Groups.sum_rows (A := 125) (B := 8000) (K := 1000000) (by norm_num) _).trans ?_
  have h1 : ∀ a : Fin 125, ∑ q : Fin 8000, f (rowOf ⟨8000 * a.val + q.val, by omega⟩) (groupOf ⟨8000 * a.val + q.val, by omega⟩)
      = ∑ g : Fin 8, ∑ b : Fin 1000, f ⟨1000 * a.val + b.val, by omega⟩ g := fun a => by
    refine (Cert.Groups.sum_rows (A := 8) (B := 1000) (K := 8000) (by norm_num) _).trans ?_
    refine Finset.sum_congr rfl fun g _ => Finset.sum_congr rfl fun b _ => ?_
    congr 1
    · exact Fin.ext (by simp only [rowOf]; omega)
    · exact Fin.ext (by simp only [groupOf]; omega)
  rw [Finset.sum_congr rfl fun a _ => h1 a, Finset.sum_comm]
  exact Finset.sum_congr rfl fun g _ => (Cert.Groups.sum_rows (A := 125) (B := 1000) (K := 125000) (by norm_num) (fun R => f R g)).symm

section Same

variable (c : Dev nD)
  (h0 : (V0 (Proc.devRef .tc Cert.UpdateRefIdeal.main_arg0) : Vec Ideal S125000x128 .f32) = A0 m c)
  (h1 : (V0 (Proc.devRef .tc Cert.UpdateRefIdeal.main_arg1) : Vec Ideal S125000x8 .f32) = A1 m c)
  (h2 : (V0 (Proc.devRef .tc Cert.UpdateRefIdeal.main_arg2) : Vec Ideal S60x16 .f32) = A2 m c)

include h0 in
/-- An item, where it is packed. -/
theorem item_eq (r : Fin 1000000) (y : Fin 16) : item V0 r y = A0 m c (ix2 (rowOf r) (Cert.Groups.col (groupOf r) y)) :=
  (unpack (V0 (Proc.devRef .tc Cert.UpdateRefIdeal.main_arg0)) r y).trans (congrFun h0 _)

include h1 in
/-- An item's mask, where it is packed. -/
theorem msk_eq (r : Fin 1000000) : msk V0 r = A1 m c (ix2 (rowOf r) (groupOf r)) :=
  (unpack_mask (V0 (Proc.devRef .tc Cert.UpdateRefIdeal.main_arg1)) r).trans (congrFun h1 _)

/-- A feature of a packed item, by the item's mask. -/
def masked (y : Fin 16) (R : Fin 125000) (g : Fin 8) : EReal := A0 m c (ix2 R (Cert.Groups.col g y)) * A1 m c (ix2 R g)

include h0 h1 in
/-- The average the last point computes is the reference's. -/
theorem avg_eq (y : Fin 16) : k0_pay8 (F := Ideal) (acc m c 24 (pt 24 (by decide)).isLt) (ix2 0 y) = avg V0 y := by
  rw [pay8_apply]
  unfold avg
  refine congrArg (fun s => Ideal.div s _) ?_
  have e : ∀ r : Fin 1000000, item V0 r y * msk V0 r = masked m c y (rowOf r) (groupOf r) := fun r => by
    rw [item_eq m V0 c h0, msk_eq m V0 c h1]
    rfl
  have e2 : ∑ r : Fin 1000000, item V0 r y * msk V0 r = ∑ g : Fin 8, ∑ R : Fin 125000, masked m c y R g := by
    rw [← sum_items (masked m c y)]
    exact Finset.sum_congr rfl fun r _ => e r
  rw [e2]
  refine Finset.sum_congr rfl fun g _ => ?_
  rw [acc_last]
  refine Finset.sum_congr rfl fun R _ => ?_
  have hg : (⟨(Cert.Groups.col g y).val / 16, by omega⟩ : Fin 8) = g := Fin.ext (by simp only [Cert.Groups.col]; omega)
  rw [hg]
  rfl

include h0 in
/-- A row read from a block is the item packed there. -/
theorem rowAt_eq (t : Fin cfg0.N) (o p : ℕ) (ho : o < 5000) (hp : p + 16 ≤ 128) (r : Fin 1000000) (y : Fin 16)
    (hr : (rowOf r).val = 5000 * t.val + o) (hg : p = 16 * (groupOf r).val) :
    rowAt (iblk m c 0 t) o p ho hp (ix2 (0 : Fin 1) y) = item V0 r y := by
  rw [item_eq m V0 c h0]
  subst hg
  exact iblk0 m c t ⟨o, ho⟩ _ (rowOf r) hr

include h0 in
/-- The five rows kept are the five items. -/
theorem rows5_eq (k : Fin 5) (y : Fin 16) (r : Fin 1000000) (hk : tgt k = r.val) : rows5 m c (ix2 k y) = item V0 r y := by
  unfold tgt at hk
  have key : ∀ (n : ℕ) (hn : n < 25) (o p : ℕ) (ho : o < 5000) (hp : p + 16 ≤ 128),
      r.val / 8000 * 1000 + r.val % 1000 = 5000 * n + o → p = 16 * (r.val / 1000 % 8) →
      rowAt (iblk m c 0 (pt n hn)) o p ho hp (ix2 (0 : Fin 1) y) = item V0 r y :=
    fun n hn o p ho hp hr hg => rowAt_eq m V0 c h0 (pt n hn) o p ho hp r y hr hg
  unfold rows5
  split_ifs with e0 e1 e2 e3
  · have : k.val = 0 := e0
    exact key 2 (by decide) 2000 64 _ _ (by omega) (by omega)
  · have : k.val = 1 := e1
    exact key 5 (by decide) 0 0 _ _ (by omega) (by omega)
  · have : k.val = 2 := e2
    exact key 7 (by decide) 2000 64 _ _ (by omega) (by omega)
  · have : k.val = 3 := e3
    exact key 10 (by decide) 0 0 _ _ (by omega) (by omega)
  · have a0 : k.val ≠ 0 := e0
    have a1 : k.val ≠ 1 := e1
    have a2 : k.val ≠ 2 := e2
    have a3 : k.val ≠ 3 := e3
    exact key 12 (by decide) 2000 64 _ _ (by omega) (by omega)

include h0 h1 h2 in
/-- What the last point stores is the reference's sum of the noise and the change. -/
theorem result_eq (hfin : ∀ r y, item V0 r y ≠ ⊤ ∧ item V0 r y ≠ ⊥) (k : Fin 60) (y : Fin 16) :
    result m c (ix2 k y) = change V0 ⟨chosen k, Cert.UpdateRefIdeal.Hand.chosen_lt k⟩ y + normal (Cert.UpdateRefIdeal.Hand.noise V0) k y := by
  unfold result
  rw [pay7_apply, pay9_apply, add_comm]
  have hn : Cert.UpdateRefIdeal.Hand.noise V0 = iblk m c 2 (pt 24 (by decide)) := by
    refine h2.trans ?_
    funext i
    idx_vars i
    exact (iblk2 m c _ _ _).symm
  rw [hn]
  refine congrArg (· + _) ?_
  unfold change
  split
  · next h =>
    refine (Cert.UpdateRefIdeal.Hand.v37_miss V0 hfin _ y fun k' e => ?_).symm
    dsimp only at e
    unfold chosen tgt at e
    rw [dif_pos h] at e
    omega
  · next h =>
    have hk : tgt ⟨k.val - 55, by omega⟩ = chosen k := by
      unfold chosen
      rw [dif_neg h]
    rw [Cert.UpdateRefIdeal.Hand.v37_hit V0 _ y ⟨k.val - 55, by omega⟩ hk, avg_eq m V0 c h0 h1,
      rows5_eq m V0 c h0 _ y ⟨chosen k, Cert.UpdateRefIdeal.Hand.chosen_lt k⟩ hk]
    exact mul_comm _ _

end Same

/-- Below infinity in magnitude is neither infinity. -/
theorem finite_of_lt (x : EReal) (h : max x (-x) < ⊤) : x ≠ ⊤ ∧ x ≠ ⊥ := by
  constructor
  · rintro rfl
    simp at h
  · rintro rfl
    simp at h

/-- The pattern of infinity. -/
theorem bits_top : Ideal.ofBits .f32 0x7F800000#32 = ⊤ := by
  simp [Ideal.ofBits, Ideal.ieee]
  try rfl

/-- What the precondition says. -/
theorem finite (hpre : Cert.Pre_UpdateIdeal_finite_items m) (c : Dev nD) (i : S125000x128.Idx) :
    (A0 m c i : EReal) ≠ ⊤ ∧ (A0 m c i : EReal) ≠ ⊥ := by
  have h := congrFun (hpre c) (fun k => k.elim0)
  unfold Cert.Pre_finite_items.fn at h
  have : Subsingleton Cert.Pre_finite_items.S_.Idx := ⟨fun a b => funext fun k => k.elim0⟩
  have h' := Host.reduce_andi_all _ _ _ _ _ h i
  apply finite_of_lt
  rw [← bits_top]
  have h2 : (BitVec.ofBool (decide (max (A0 m c i : EReal) (-(A0 m c i : EReal)) < Ideal.ofBits .f32 0x7F800000#32))) = 1#1 := h'
  by_contra hc
  rw [decide_eq_false hc] at h2
  exact absurd h2 (by decide)

/-- The numbers chosen, as the call's host part writes them. -/
theorem numbers (c : Dev nD) (k : Fin 60) :
    (V m c main_v1 : IVec S60 32) (ix1 k) = BitVec.ofNat 32 (chosen k) := by
  have e : (V m c main_v1 : IVec S60 32)
      = concatenate S60 0 [⟨S55, iotaInDim S55 32 0⟩, ⟨S5, (fun i => lit0 (S5.rowMajor i) : IVec S5 32)⟩] concatenates_S55_S5_S60_d0 := by
    unfold V
    after_results_simp
    all_goals rfl
  rw [e]
  pointwise
  have hl : ∀ j : Fin 5, lit0 j = BitVec.ofNat 32 (tgt j) := by decide
  unfold chosen
  split
  · rfl
  · next h =>
    have hr : S5.rowMajor (ix1 (⟨k.val - 55, by omega⟩ : Fin 5)) = (⟨k.val - 55, by omega⟩ : Fin 5) := Fin.ext (Shape.rowMajor_val_one _)
    exact (congrArg lit0 hr).trans (hl _)

/-- The output array after the run. -/
theorem final (c : Dev nD) : (dats m 0 c).arrAt 3 cfg0.N = (result m c : Vec Ideal S60x16 .f32) := by
  have e : ∀ t : Fin cfg0.N, win0_3.index t = ![0, 0] := (by decide +kernel : ∀ t : Fin grid0.N, _)
  refine (dats m 0 c).arrAt_eq_of_after_last 3 (pt 24 (by decide)) (by decide +kernel) _ fun y => ?_
  rw [after0_3]
  idx_vars y
  have hy : (View.whole main_v2).emb (ix2 y0 y1) = ix2 y0 y1 := rfl
  exact rfl

/-- The claim: the call and the reference agree on the numbers chosen and on the rows stored. -/
theorem algebraic : Cert.algebraic_UpdateIdeal_UpdateRefIdeal_pre_finite_items := by
  intro m g m' g' hpre hagree
  refine ⟨fun c => V m c main_v1, fun c => (dats m 0 c).arrAt 3 cfg0.N, ?_, ?_⟩
  · refine (θ_run defs _ _).mono (fun r h c => ?_) (run_main m g)
    refine ⟨(h c).2 main_v1 (by decide), (h c).1 3,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩
  refine (θ_run Cert.UpdateRefIdeal.defs _ _).mono (fun _ h c => ?_) (Cert.UpdateRefIdeal.Value.run (F := Ideal) m' g')
  have h0 := (hagree c).1
  have h1 := (hagree c).2.1
  have h2 := (hagree c).2.2
  have hfin : ∀ r y, item (launchContents m' c) r y ≠ ⊤ ∧ item (launchContents m' c) r y ≠ ⊥ := fun r y => by
    rw [item_eq m (launchContents m' c) c h0]
    exact finite m hpre c _
  refine ⟨(h c).1.trans ?_, (h c).2.1.trans ?_, (h c).2.2⟩
  · funext i
    idx_vars i
    exact (Cert.UpdateRefIdeal.Hand.v47_apply (launchContents m' c) hfin i0).trans (numbers m c i0).symm
  · refine Eq.trans ?_ (final m c).symm
    funext i
    idx_vars i
    exact (Cert.UpdateRefIdeal.Hand.out_apply (launchContents m' c) hfin i0 i1).trans
      (result_eq m (launchContents m' c) c h0 h1 h2 hfin i0 i1).symm

/-- The reference's frame: it runs, its arguments end unchanged, and it has no counters. -/
theorem ref_frame : Cert.quiescent_UpdateRefIdeal := by
  intro m ρ _
  exact (θ_run Cert.UpdateRefIdeal.defs _ _).mono
    (fun r h => ⟨fun c => (h c).2.2, Idealize.ShloMosaic.sem_eq_zero_of_no_sems (by decide) r.2⟩)
    (Cert.UpdateRefIdeal.Value.run (F := Ideal) m ρ)

end Cert.UpdateIdeal.Hand
-- ==== Proof.lean ====
/-
  The claims of `Cert.Claim` put together: the frames of the programs are those of the generated modules or of the
  modules beside this one, and the value claims are those of the modules beside this one.
-/
module

public import proofs.«01_k».proof.Defs
public import proofs.«01_k».proof.Proof.Gen.Repack
public import proofs.«01_k».proof.Proof.Gen.Repack.Skeleton
public import proofs.«01_k».proof.Proof.Gen.Repack.Launch
public import proofs.«01_k».proof.Proof.Gen.Repack.Points
public import proofs.«01_k».proof.Proof.Gen.Repack.Frame
public import proofs.«01_k».proof.Proof.Gen.RepackIdeal
public import proofs.«01_k».proof.Proof.Gen.RepackIdeal.Skeleton
public import proofs.«01_k».proof.Proof.Gen.RepackIdeal.Launch
public import proofs.«01_k».proof.Proof.Gen.RepackIdeal.Points
public import proofs.«01_k».proof.Proof.Gen.RepackIdeal.Frame
public import proofs.«01_k».proof.Proof.Gen.RepackIdeal.Value
public import proofs.«01_k».proof.Proof.Gen.RepackRefIdeal
public import proofs.«01_k».proof.Proof.Gen.RepackRefIdeal.Run
public import proofs.«01_k».proof.Proof.Gen.Inner
public import proofs.«01_k».proof.Proof.Gen.Inner.Skeleton
public import proofs.«01_k».proof.Proof.Gen.Inner.Launch
public import proofs.«01_k».proof.Proof.Gen.Inner.Points
public import proofs.«01_k».proof.Proof.Gen.Inner.Frame
public import proofs.«01_k».proof.Proof.Gen.InnerIdeal
public import proofs.«01_k».proof.Proof.Gen.InnerIdeal.Skeleton
public import proofs.«01_k».proof.Proof.Gen.InnerIdeal.Launch
public import proofs.«01_k».proof.Proof.Gen.InnerIdeal.Points
public import proofs.«01_k».proof.Proof.Gen.InnerIdeal.Frame
public import proofs.«01_k».proof.Proof.Gen.InnerIdeal.Value
public import proofs.«01_k».proof.Proof.Gen.InnerRefIdeal
public import proofs.«01_k».proof.Proof.Gen.InnerRefIdeal.Run
public import proofs.«01_k».proof.Proof.Gen.Select
public import proofs.«01_k».proof.Proof.Gen.Select.Skeleton
public import proofs.«01_k».proof.Proof.Gen.Select.Launch
public import proofs.«01_k».proof.Proof.Gen.Select.Points
public import proofs.«01_k».proof.Proof.Gen.Select.Loops
public import proofs.«01_k».proof.Proof.Gen.SelectIdeal
public import proofs.«01_k».proof.Proof.Gen.SelectIdeal.Skeleton
public import proofs.«01_k».proof.Proof.Gen.SelectIdeal.Launch
public import proofs.«01_k».proof.Proof.Gen.SelectIdeal.Points
public import proofs.«01_k».proof.Proof.Gen.SelectIdeal.Loops
public import proofs.«01_k».proof.Proof.Gen.SelectRefIdeal
public import proofs.«01_k».proof.Proof.Gen.SelectRefIdeal.Run
public import proofs.«01_k».proof.Proof.Gen.Update
public import proofs.«01_k».proof.Proof.Gen.Update.Skeleton
public import proofs.«01_k».proof.Proof.Gen.Update.Launch
public import proofs.«01_k».proof.Proof.Gen.Update.Points
public import proofs.«01_k».proof.Proof.Gen.Update.Frame
public import proofs.«01_k».proof.Proof.Gen.UpdateIdeal
public import proofs.«01_k».proof.Proof.Gen.UpdateIdeal.Skeleton
public import proofs.«01_k».proof.Proof.Gen.UpdateIdeal.Launch
public import proofs.«01_k».proof.Proof.Gen.UpdateIdeal.Points
public import proofs.«01_k».proof.Proof.Gen.UpdateIdeal.Frame
public import proofs.«01_k».proof.Proof.Gen.UpdateRefIdeal
public import proofs.«01_k».proof.Proof.Gen.UpdateRefIdeal.Run
public import proofs.«01_k».proof.Proof.Gen.Pre_codes_above_least
public import proofs.«01_k».proof.Proof.Gen.Pre_finite_items
public import proofs.«01_k».proof.Proof.RepackValue
public import proofs.«01_k».proof.Proof.InnerValue
public import proofs.«01_k».proof.Proof.SelectBitsFrame
public import proofs.«01_k».proof.Proof.SelectFrame
public import proofs.«01_k».proof.Proof.SelectValue
public import proofs.«01_k».proof.Proof.UpdateFrame
public import proofs.«01_k».proof.Proof.UpdateBits
public import proofs.«01_k».proof.Proof.UpdateValue
public import Idealize.ShloMosaic.Adequacy
public import Idealize.ShloMosaic.Init

@[expose] public section

noncomputable section

namespace Cert.Proof

open Idealize.ShloMosaic Idealize.SL.Sem

/-- Everything claimed. -/
theorem claim : Cert.Claim := ⟨Cert.Repack.Gen.facts, Cert.RepackIdeal.Gen.facts, Cert.RepackRefIdeal.Gen.facts, Cert.Inner.Gen.facts, Cert.InnerIdeal.Gen.facts, Cert.InnerRefIdeal.Gen.facts, Cert.Select.Gen.facts, Cert.SelectIdeal.Gen.facts, Cert.SelectRefIdeal.Gen.facts, Cert.Update.Gen.facts, Cert.UpdateIdeal.Gen.facts, Cert.UpdateRefIdeal.Gen.facts, Cert.Pre_codes_above_least.Gen.facts, Cert.Pre_finite_items.Gen.facts,
  fun m ρ _ => Cert.Repack.Gen.frame m ρ, fun m ρ _ => Cert.RepackIdeal.Gen.frame m ρ, Cert.RepackIdeal.Hand.ref_frame,
  fun m ρ _ => Cert.Inner.Gen.frame m ρ, fun m ρ _ => Cert.InnerIdeal.Gen.frame m ρ, Cert.InnerIdeal.Hand.ref_frame,
  fun m ρ _ => Cert.Select.Hand.frame m ρ, fun m ρ _ => Cert.SelectIdeal.Hand.frame m ρ, fun m ρ _ => Cert.SelectIdeal.Hand.frame m ρ,
  Cert.SelectIdeal.Hand.ref_frame, fun m ρ _ => Cert.SelectIdeal.Hand.ref_frame m ρ trivial,
  Cert.Update.Hand.frame, fun m ρ _ => Cert.UpdateIdeal.Hand.frame m ρ, fun m ρ _ => Cert.UpdateIdeal.Hand.frame m ρ,
  Cert.UpdateIdeal.Hand.ref_frame, fun m ρ _ => Cert.UpdateIdeal.Hand.ref_frame m ρ trivial,
  trivial, Cert.RepackIdeal.Hand.algebraic, trivial, Cert.InnerIdeal.Hand.algebraic,
  trivial, Cert.SelectIdeal.Hand.algebraic, trivial, Cert.UpdateIdeal.Hand.algebraic⟩

end Cert.Proof

end
